-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Reference2 (m : (ℓ : Loc Cert.Reference2.nD Cert.Reference2.τ Cert.Reference2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Reference3 (m : (ℓ : Loc Cert.Reference3.nD Cert.Reference3.τ Cert.Reference3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_in_range : Cert.Pre_in_range.Facts] (m : (ℓ : Loc Cert.Kernel4.nD Cert.Kernel4.τ Cert.Kernel4.sig) → Buf (Elt Bits) ℓ) : Prop :=
  ∀ c : Dev Cert.Kernel4.nD,
    (Cert.Pre_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_in_range : Cert.Pre_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_in_range [hPre_in_range : Cert.Pre_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_in_range : Cert.Pre_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_in_range [hReference4Ideal : Cert.Reference4Ideal.Facts] [hPre_in_range : Cert.Pre_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v27)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v27) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def bitexact_Kernel2_Reference2 [hKernel2 : Cert.Kernel2.Facts] [hReference2 : Cert.Reference2.Facts] : Prop :=
  ∀ (m : (ℓ : Loc Cert.Kernel2.nD Cert.Kernel2.τ Cert.Kernel2.sig) → Buf (Elt Bits) ℓ) (g : Dev Cert.Kernel2.nD → PrngReg)
    (m' : (ℓ : Loc Cert.Reference2.nD Cert.Reference2.τ Cert.Reference2.sig) → Buf (Elt Bits) ℓ) (g' : Dev Cert.Reference2.nD → PrngReg), Pre_Kernel2 m →
    (∀ c : Dev Cert.Kernel2.nD,
      m' ((c.tc : Thread Cert.Reference2.nD Cert.Reference2.τ).loc Cert.Reference2.main_arg0) = m ((c.tc : Thread Cert.Kernel2.nD Cert.Kernel2.τ).loc Cert.Kernel2.main_arg0)
      ∧ m' ((c.tc : Thread Cert.Reference2.nD Cert.Reference2.τ).loc Cert.Reference2.main_arg1) = m ((c.tc : Thread Cert.Kernel2.nD Cert.Kernel2.τ).loc Cert.Kernel2.main_arg1)) →
    ∃ (v0 : (c : Dev Cert.Kernel2.nD) → Buf (Elt Bits) ((c.tc : Thread Cert.Kernel2.nD Cert.Kernel2.τ).loc Cert.Kernel2.main_v27)),
      θ_run (Cert.Kernel2.defs (F := Bits)) (onTc (τ := Cert.Kernel2.τ) (Cert.Kernel2.main (F := Bits))) ⟨m, fun _ => 0, g⟩ (fun r => ∀ c : Dev Cert.Kernel2.nD,
          r.2.mem ((c.tc : Thread Cert.Kernel2.nD Cert.Kernel2.τ).loc Cert.Kernel2.main_v27) = v0 c
          ∧ r.2.mem ((c.tc : Thread Cert.Kernel2.nD Cert.Kernel2.τ).loc Cert.Kernel2.main_arg0) = m ((c.tc : Thread Cert.Kernel2.nD Cert.Kernel2.τ).loc Cert.Kernel2.main_arg0)
          ∧ r.2.mem ((c.tc : Thread Cert.Kernel2.nD Cert.Kernel2.τ).loc Cert.Kernel2.main_arg1) = m ((c.tc : Thread Cert.Kernel2.nD Cert.Kernel2.τ).loc Cert.Kernel2.main_arg1))
      ∧ θ_run (Cert.Reference2.defs (F := Bits)) (onTc (τ := Cert.Reference2.τ) (Cert.Reference2.main (F := Bits))) ⟨m', fun _ => 0, g'⟩ (fun r => ∀ c : Dev Cert.Reference2.nD,
          r.2.mem ((c.tc : Thread Cert.Reference2.nD Cert.Reference2.τ).loc Cert.Reference2.main_v22) = v0 c
          ∧ r.2.mem ((c.tc : Thread Cert.Reference2.nD Cert.Reference2.τ).loc Cert.Reference2.main_arg0) = m' ((c.tc : Thread Cert.Reference2.nD Cert.Reference2.τ).loc Cert.Reference2.main_arg0)
          ∧ r.2.mem ((c.tc : Thread Cert.Reference2.nD Cert.Reference2.τ).loc Cert.Reference2.main_arg1) = m' ((c.tc : Thread Cert.Reference2.nD Cert.Reference2.τ).loc Cert.Reference2.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def bitexact_Kernel3_Reference3 [hKernel3 : Cert.Kernel3.Facts] [hReference3 : Cert.Reference3.Facts] : Prop :=
  ∀ (m : (ℓ : Loc Cert.Kernel3.nD Cert.Kernel3.τ Cert.Kernel3.sig) → Buf (Elt Bits) ℓ) (g : Dev Cert.Kernel3.nD → PrngReg)
    (m' : (ℓ : Loc Cert.Reference3.nD Cert.Reference3.τ Cert.Reference3.sig) → Buf (Elt Bits) ℓ) (g' : Dev Cert.Reference3.nD → PrngReg), Pre_Kernel3 m →
    (∀ c : Dev Cert.Kernel3.nD,
      m' ((c.tc : Thread Cert.Reference3.nD Cert.Reference3.τ).loc Cert.Reference3.main_arg0) = m ((c.tc : Thread Cert.Kernel3.nD Cert.Kernel3.τ).loc Cert.Kernel3.main_arg0)
      ∧ m' ((c.tc : Thread Cert.Reference3.nD Cert.Reference3.τ).loc Cert.Reference3.main_arg1) = m ((c.tc : Thread Cert.Kernel3.nD Cert.Kernel3.τ).loc Cert.Kernel3.main_arg1)) →
    ∃ (v0 : (c : Dev Cert.Kernel3.nD) → Buf (Elt Bits) ((c.tc : Thread Cert.Kernel3.nD Cert.Kernel3.τ).loc Cert.Kernel3.main_v27)),
      θ_run (Cert.Kernel3.defs (F := Bits)) (onTc (τ := Cert.Kernel3.τ) (Cert.Kernel3.main (F := Bits))) ⟨m, fun _ => 0, g⟩ (fun r => ∀ c : Dev Cert.Kernel3.nD,
          r.2.mem ((c.tc : Thread Cert.Kernel3.nD Cert.Kernel3.τ).loc Cert.Kernel3.main_v27) = v0 c
          ∧ r.2.mem ((c.tc : Thread Cert.Kernel3.nD Cert.Kernel3.τ).loc Cert.Kernel3.main_arg0) = m ((c.tc : Thread Cert.Kernel3.nD Cert.Kernel3.τ).loc Cert.Kernel3.main_arg0)
          ∧ r.2.mem ((c.tc : Thread Cert.Kernel3.nD Cert.Kernel3.τ).loc Cert.Kernel3.main_arg1) = m ((c.tc : Thread Cert.Kernel3.nD Cert.Kernel3.τ).loc Cert.Kernel3.main_arg1))
      ∧ θ_run (Cert.Reference3.defs (F := Bits)) (onTc (τ := Cert.Reference3.τ) (Cert.Reference3.main (F := Bits))) ⟨m', fun _ => 0, g'⟩ (fun r => ∀ c : Dev Cert.Reference3.nD,
          r.2.mem ((c.tc : Thread Cert.Reference3.nD Cert.Reference3.τ).loc Cert.Reference3.main_v22) = v0 c
          ∧ r.2.mem ((c.tc : Thread Cert.Reference3.nD Cert.Reference3.τ).loc Cert.Reference3.main_arg0) = m' ((c.tc : Thread Cert.Reference3.nD Cert.Reference3.τ).loc Cert.Reference3.main_arg0)
          ∧ r.2.mem ((c.tc : Thread Cert.Reference3.nD Cert.Reference3.τ).loc Cert.Reference3.main_arg1) = m' ((c.tc : Thread Cert.Reference3.nD Cert.Reference3.τ).loc Cert.Reference3.main_arg1))

def preserves_Kernel4_Kernel4Ideal : Prop :=
  True

def algebraic_Kernel4Ideal_Reference4Ideal [hKernel4Ideal : Cert.Kernel4Ideal.Facts] [hReference4Ideal : Cert.Reference4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v37)) (v1 : (c : Dev Cert.Kernel5Ideal.nD) → Buf (Elt Ideal) ((c.tc : Thread Cert.Kernel5Ideal.nD Cert.Kernel5Ideal.τ).loc Cert.Kernel5Ideal.main_v41)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_v41) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v37_0)) (v1 : (c : Dev Cert.Kernel7Ideal.nD) → Buf (Elt Ideal) ((c.tc : Thread Cert.Kernel7Ideal.nD Cert.Kernel7Ideal.τ).loc Cert.Kernel7Ideal.main_v37_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v37_0) = v0 c
          ∧ r.2.mem ((c.tc : Thread Cert.Kernel7Ideal.nD Cert.Kernel7Ideal.τ).loc Cert.Kernel7Ideal.main_v37_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v34_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v34_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hReference : Cert.Reference.Facts) (hKernelIdeal : Cert.KernelIdeal.Facts) (hReferenceIdeal : Cert.ReferenceIdeal.Facts) (hKernel2 : Cert.Kernel2.Facts) (hReference2 : Cert.Reference2.Facts) (hKernel2Ideal : Cert.Kernel2Ideal.Facts) (hReference2Ideal : Cert.Reference2Ideal.Facts) (hKernel3 : Cert.Kernel3.Facts) (hReference3 : Cert.Reference3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_in_range : Cert.Pre_in_range.Facts) (hPre_finite : Cert.Pre_finite.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ quiescent_Kernel2 (hKernel2 := hKernel2)
    ∧ quiescent_Reference2 (hReference2 := hReference2)
    ∧ quiescent_Kernel2Ideal (hKernel2Ideal := hKernel2Ideal)
    ∧ quiescent_Reference2Ideal (hReference2Ideal := hReference2Ideal)
    ∧ quiescent_Kernel3 (hKernel3 := hKernel3)
    ∧ quiescent_Reference3 (hReference3 := hReference3)
    ∧ quiescent_Kernel3Ideal (hKernel3Ideal := hKernel3Ideal)
    ∧ quiescent_Reference3Ideal (hReference3Ideal := hReference3Ideal)
    ∧ quiescent_Kernel4 (hKernel4 := hKernel4) (hPre_in_range := hPre_in_range)
    ∧ quiescent_Kernel4Ideal (hKernel4Ideal := hKernel4Ideal) (hPre_in_range := hPre_in_range)
    ∧ quiescent_Reference4Ideal (hReference4Ideal := hReference4Ideal)
    ∧ quiescent_Reference4Ideal_pre_in_range (hReference4Ideal := hReference4Ideal) (hPre_in_range := hPre_in_range)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ bitexact_Kernel2_Reference2 (hKernel2 := hKernel2) (hReference2 := hReference2)
    ∧ preserves_Kernel3_Kernel3Ideal
    ∧ algebraic_Kernel3Ideal_Reference3Ideal (hKernel3Ideal := hKernel3Ideal) (hReference3Ideal := hReference3Ideal)
    ∧ bitexact_Kernel3_Reference3 (hKernel3 := hKernel3) (hReference3 := hReference3)
    ∧ preserves_Kernel4_Kernel4Ideal
    ∧ algebraic_Kernel4Ideal_Reference4Ideal (hKernel4Ideal := hKernel4Ideal) (hReference4Ideal := hReference4Ideal) (hPre_in_range := hPre_in_range)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
-- ==== Pre_finite.lean ====
abbrev S32x9744 : Shape := ⟨2, ![32, 9744]⟩
abbrev S1x32x4x128x256 : Shape := ⟨5, ![1, 32, 4, 128, 256]⟩
abbrev S1x16x512 : Shape := ⟨3, ![1, 16, 512]⟩
abbrev S1x512 : Shape := ⟨2, ![1, 512]⟩
abbrev S1x256 : Shape := ⟨2, ![1, 256]⟩
abbrev S_ : Shape := ⟨0, ![]⟩

class Facts : Prop where
  bcast_S_S32x9744 : S_.BroadcastsInDim S32x9744 (![] : Fin 0 → Fin S32x9744.rank)
  reducesTo_S32x9744_S_d0_1 : S32x9744.ReducesTo [0, 1] S_
  h_S_ : 0 < S_.numel
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S32x9744 .f32) (main_arg1 : FVec F S1x32x4x128x256 .f32) (main_arg2 : FVec F S1x16x512 .f32) (main_arg3 : FVec F S1x512 .f32) (main_arg4 : FVec F S1x256 .f32) : IVec S_ 1 :=
  let main_v0 : FVec F S32x9744 .f32 := Host.absf main_arg0
  let main_cst : FVec F S_ .f32 := constant S_ .f32 0x7F800000#32
  let main_v1 : FVec F S32x9744 .f32 := broadcastInDim S32x9744 ![] bcast_S_S32x9744 main_cst
  let main_v2 : IVec S32x9744 1 := cmpf .olt main_v0 main_v1
  let main_c : IVec S_ 1 := constantI S_ 1 1#1
  let main_v3 : IVec S_ 1 := (fun x v => Host.reduce IntOp.andi x v reducesTo_S32x9744_S_d0_1 h_S_) main_v2 main_c
  let main_v4 : FVec F S1x16x512 .f32 := Host.absf main_arg2
  let main_cst_0 : FVec F S_ .f32 := constant S_ .f32 0x7F800000#32
  let main_v5 : FVec F S1x16x512 .f32 := broadcastInDim S1x16x512 ![] bcast_S_S1x16x512 main_cst_0
  let main_v6 : IVec S1x16x512 1 := cmpf .olt main_v4 main_v5
  let main_c_1 : IVec S_ 1 := constantI S_ 1 1#1
  let main_v7 : IVec S_ 1 := (fun x v => Host.reduce IntOp.andi x v reducesTo_S1x16x512_S_d0_1_2 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Pre_in_range.lean ====
abbrev S189 : Shape := ⟨1, ![189]⟩
abbrev S1 : Shape := ⟨1, ![1]⟩
abbrev S96768x1024 : Shape := ⟨2, ![96768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S189 : S_.BroadcastsInDim S189 (![] : Fin 0 → Fin S189.rank)
  reducesTo_S189_S_d0 : S189.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S189 32) (main_arg1 : IVec S1 32) (main_arg2 : FVec F S96768x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S189 32 := broadcastInDim S189 ![] bcast_S_S189 main_c
  let main_v1 : IVec S189 1 := cmpi .sge main_arg0 main_v0
  let main_c_0 : IVec S_ 32 := constantI S_ 32 32#32
  let main_v2 : IVec S189 32 := broadcastInDim S189 ![] bcast_S_S189 main_c_0
  let main_v3 : IVec S189 1 := cmpi .slt main_arg0 main_v2
  let main_v4 : IVec S189 1 := andi main_v1 main_v3
  let main_c_1 : IVec S_ 1 := constantI S_ 1 1#1
  let main_v5 : IVec S_ 1 := (fun x v => Host.reduce IntOp.andi x v reducesTo_S189_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S32x9744 : Shape := ⟨2, ![32, 9744]⟩
abbrev S1x32x128x2x4x128 : Shape := ⟨6, ![1, 32, 128, 2, 4, 128]⟩
abbrev S32x128x2x4x128 : Shape := ⟨5, ![32, 128, 2, 4, 128]⟩
abbrev S32x512 : Shape := ⟨2, ![32, 512]⟩
abbrev S32x1024 : Shape := ⟨2, ![32, 1024]⟩
abbrev S32x16 : Shape := ⟨2, ![32, 16]⟩
abbrev S32x1536 : Shape := ⟨2, ![32, 1536]⟩
abbrev S_ : Shape := ⟨0, ![]⟩
abbrev S32x496 : Shape := ⟨2, ![32, 496]⟩
abbrev S32x7168 : Shape := ⟨2, ![32, 7168]⟩
abbrev S32x10240 : Shape := ⟨2, ![32, 10240]⟩
abbrev S32x1x2x4x128 : Shape := ⟨5, ![32, 1, 2, 4, 128]⟩
abbrev S1x128x2x4x128 : Shape := ⟨5, ![1, 128, 2, 4, 128]⟩
abbrev S1x1x2x4x128 : Shape := ⟨5, ![1, 1, 2, 4, 128]⟩
abbrev S1x127x2x4x128 : Shape := ⟨5, ![1, 127, 2, 4, 128]⟩
abbrev S127x2x4x128 : Shape := ⟨4, ![127, 2, 4, 128]⟩
abbrev S1x2x4x128 : Shape := ⟨4, ![1, 2, 4, 128]⟩

abbrev nBuf : Space → Nat
  | .hbm => 31
  | .vmem => 6
  | .smem => 0
  | _ => 0

abbrev bufTy : (tb : Table) → Fin (tcTables nBuf tb) → BufTy
  | .hbm, ⟨0, _⟩ => ⟨S32x9744, .f32⟩
  | .hbm, ⟨1, _⟩ => ⟨S1x32x128x2x4x128, .f32⟩
  | .hbm, ⟨2, _⟩ => ⟨S32x128x2x4x128, .f32⟩
  | .hbm, ⟨3, _⟩ => ⟨S32x512, .f32⟩
  | .hbm, ⟨4, _⟩ => ⟨S32x512, .f32⟩
  | .hbm, ⟨5, _⟩ => ⟨S32x1024, .f32⟩
  | .hbm, ⟨6, _⟩ => ⟨S32x1024, .f32⟩
  | .hbm, ⟨7, _⟩ => ⟨S32x16, .f32⟩
  | .hbm, ⟨8, _⟩ => ⟨S32x1536, .f32⟩
  | .hbm, ⟨9, _⟩ => ⟨S32x1536, .f32⟩
  | .hbm, ⟨10, _⟩ => ⟨S32x1536, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x496, .f32⟩
  | .hbm, ⟨15, _⟩ => ⟨S32x512, .f32⟩
  | .hbm, ⟨16, _⟩ => ⟨S32x512, .f32⟩
  | .hbm, ⟨17, _⟩ => ⟨S32x512, .f32⟩
  | .hbm, ⟨18, _⟩ => ⟨S32x7168, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x1536, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x1536, .f32⟩
  | .hbm, ⟨27, _⟩ => ⟨S32x10240, .f32⟩
  | .hbm, ⟨28, _⟩ => ⟨S32x1024, .f32⟩
  | .hbm, ⟨29, _⟩ => ⟨S32x1x2x4x128, .f32⟩
  | .hbm, ⟨30, _⟩ => ⟨S32x128x2x4x128, .f32⟩
  | .local _ .vmem, ⟨0, _⟩ => ⟨S1x128x2x4x128, .f32⟩
  | .local _ .vmem, ⟨1, _⟩ => ⟨S1x128x2x4x128, .f32⟩
  | .local _ .vmem, ⟨2, _⟩ => ⟨S1x1x2x4x128, .f32⟩
  | .local _ .vmem, ⟨3, _⟩ => ⟨S1x1x2x4x128, .f32⟩
  | .local _ .vmem, ⟨4, _⟩ => ⟨S1x128x2x4x128, .f32⟩
  | .local _ .vmem, ⟨5, _⟩ => ⟨S1x128x2x4x128, .f32⟩
  | _, _ => ⟨S32x9744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .ne arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 5 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.addi v0 c1_i32
  let c0_i32 : BitVec 32 := 0#32
  let v2 : BitVec 32 := Scalar.minsi v1 c0_i32
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x2x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S32x9744 : Shape := ⟨2, ![32, 9744]⟩
abbrev S1x32x128x2x4x128 : Shape := ⟨6, ![1, 32, 128, 2, 4, 128]⟩
abbrev S32x1x9744 : Shape := ⟨3, ![32, 1, 9744]⟩
abbrev S32x128x2x4x128 : Shape := ⟨5, ![32, 128, 2, 4, 128]⟩
abbrev S32x1x512 : Shape := ⟨3, ![32, 1, 512]⟩
abbrev S32x1x1024 : Shape := ⟨3, ![32, 1, 1024]⟩
abbrev S32x1x16 : Shape := ⟨3, ![32, 1, 16]⟩
abbrev S32x1x1536 : Shape := ⟨3, ![32, 1, 1536]⟩
abbrev S32x1x3x4x128 : Shape := ⟨5, ![32, 1, 3, 4, 128]⟩
abbrev S32x1x1x4x128 : Shape := ⟨5, ![32, 1, 1, 4, 128]⟩
abbrev S32x1x4x128 : Shape := ⟨4, ![32, 1, 4, 128]⟩
abbrev S32x1x2x4x128 : Shape := ⟨5, ![32, 1, 2, 4, 128]⟩
abbrev S32x129x2x4x128 : Shape := ⟨5, ![32, 129, 2, 4, 128]⟩

abbrev nBuf : Space → Nat
  | .hbm => 25
  | .vmem => 0
  | .smem => 0
  | _ => 0

abbrev bufTy : (tb : Table) → Fin (tcTables nBuf tb) → BufTy
  | .hbm, ⟨0, _⟩ => ⟨S32x9744, .f32⟩
  | .hbm, ⟨1, _⟩ => ⟨S1x32x128x2x4x128, .f32⟩
  | .hbm, ⟨2, _⟩ => ⟨S32x1x9744, .f32⟩
  | .hbm, ⟨3, _⟩ => ⟨S32x128x2x4x128, .f32⟩
  | .hbm, ⟨4, _⟩ => ⟨S32x1x512, .f32⟩
  | .hbm, ⟨5, _⟩ => ⟨S32x1x512, .f32⟩
  | .hbm, ⟨6, _⟩ => ⟨S32x1x1024, .f32⟩
  | .hbm, ⟨7, _⟩ => ⟨S32x1x1024, .f32⟩
  | .hbm, ⟨8, _⟩ => ⟨S32x1x16, .f32⟩
  | .hbm, ⟨9, _⟩ => ⟨S32x1x1536, .f32⟩
  | .hbm, ⟨10, _⟩ => ⟨S32x1x1536, .f32⟩
  | .hbm, ⟨11, _⟩ => ⟨S32x1x1536, .f32⟩
  | .hbm, ⟨12, _⟩ => ⟨S32x1x1024, .f32⟩
  | .hbm, ⟨13, _⟩ => ⟨S32x1x1024, .f32⟩
  | .hbm, ⟨14, _⟩ => ⟨S32x1x3x4x128, .f32⟩
  | .hbm, ⟨15, _⟩ => ⟨S32x1x1x4x128, .f32⟩
  | .hbm, ⟨16, _⟩ => ⟨S32x1x4x128, .f32⟩
  | .hbm, ⟨17, _⟩ => ⟨S32x1x3x4x128, .f32⟩
  | .hbm, ⟨18, _⟩ => ⟨S32x1x1x4x128, .f32⟩
  | .hbm, ⟨19, _⟩ => ⟨S32x1x4x128, .f32⟩
  | .hbm, ⟨20, _⟩ => ⟨S32x1x1x4x128, .f32⟩
  | .hbm, ⟨21, _⟩ => ⟨S32x1x1x4x128, .f32⟩
  | .hbm, ⟨22, _⟩ => ⟨S32x1x2x4x128, .f32⟩
  | .hbm, ⟨23, _⟩ => ⟨S32x129x2x4x128, .f32⟩
  | .hbm, ⟨24, _⟩ => ⟨S32x128x2x4x128, .f32⟩
  | _, _ => ⟨S32x9744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Kernel2.lean ====
abbrev S32x9744 : Shape := ⟨2, ![32, 9744]⟩
abbrev S1x32x512x2x4x128 : Shape := ⟨6, ![1, 32, 512, 2, 4, 128]⟩
abbrev S32x512x2x4x128 : Shape := ⟨5, ![32, 512, 2, 4, 128]⟩
abbrev S32x512 : Shape := ⟨2, ![32, 512]⟩
abbrev S32x1024 : Shape := ⟨2, ![32, 1024]⟩
abbrev S32x16 : Shape := ⟨2, ![32, 16]⟩
abbrev S32x1536 : Shape := ⟨2, ![32, 1536]⟩
abbrev S_ : Shape := ⟨0, ![]⟩
abbrev S32x496 : Shape := ⟨2, ![32, 496]⟩
abbrev S32x7168 : Shape := ⟨2, ![32, 7168]⟩
abbrev S32x10240 : Shape := ⟨2, ![32, 10240]⟩
abbrev S32x1x2x4x128 : Shape := ⟨5, ![32, 1, 2, 4, 128]⟩
abbrev S1x512x2x4x128 : Shape := ⟨5, ![1, 512, 2, 4, 128]⟩
abbrev S1x1x2x4x128 : Shape := ⟨5, ![1, 1, 2, 4, 128]⟩
abbrev S1x511x2x4x128 : Shape := ⟨5, ![1, 511, 2, 4, 128]⟩
abbrev S511x2x4x128 : Shape := ⟨4, ![511, 2, 4, 128]⟩
abbrev S1x2x4x128 : Shape := ⟨4, ![1, 2, 4, 128]⟩

abbrev nBuf : Space → Nat
  | .hbm => 31
  | .vmem => 6
  | .smem => 0
  | _ => 0

abbrev bufTy : (tb : Table) → Fin (tcTables nBuf tb) → BufTy
  | .hbm, ⟨0, _⟩ => ⟨S32x9744, .f32⟩
  | .hbm, ⟨1, _⟩ => ⟨S1x32x512x2x4x128, .f32⟩
  | .hbm, ⟨2, _⟩ => ⟨S32x512x2x4x128, .f32⟩
  | .hbm, ⟨3, _⟩ => ⟨S32x512, .f32⟩
  | .hbm, ⟨4, _⟩ => ⟨S32x512, .f32⟩
  | .hbm, ⟨5, _⟩ => ⟨S32x1024, .f32⟩
  | .hbm, ⟨6, _⟩ => ⟨S32x1024, .f32⟩
  | .hbm, ⟨7, _⟩ => ⟨S32x16, .f32⟩
  | .hbm, ⟨8, _⟩ => ⟨S32x1536, .f32⟩
  | .hbm, ⟨9, _⟩ => ⟨S32x1536, .f32⟩
  | .hbm, ⟨10, _⟩ => ⟨S32x1536, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x496, .f32⟩
  | .hbm, ⟨15, _⟩ => ⟨S32x512, .f32⟩
  | .hbm, ⟨16, _⟩ => ⟨S32x512, .f32⟩
  | .hbm, ⟨17, _⟩ => ⟨S32x512, .f32⟩
  | .hbm, ⟨18, _⟩ => ⟨S32x7168, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x1536, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x1536, .f32⟩
  | .hbm, ⟨27, _⟩ => ⟨S32x10240, .f32⟩
  | .hbm, ⟨28, _⟩ => ⟨S32x1024, .f32⟩
  | .hbm, ⟨29, _⟩ => ⟨S32x1x2x4x128, .f32⟩
  | .hbm, ⟨30, _⟩ => ⟨S32x512x2x4x128, .f32⟩
  | .local _ .vmem, ⟨0, _⟩ => ⟨S1x512x2x4x128, .f32⟩
  | .local _ .vmem, ⟨1, _⟩ => ⟨S1x512x2x4x128, .f32⟩
  | .local _ .vmem, ⟨2, _⟩ => ⟨S1x1x2x4x128, .f32⟩
  | .local _ .vmem, ⟨3, _⟩ => ⟨S1x1x2x4x128, .f32⟩
  | .local _ .vmem, ⟨4, _⟩ => ⟨S1x512x2x4x128, .f32⟩
  | .local _ .vmem, ⟨5, _⟩ => ⟨S1x512x2x4x128, .f32⟩
  | _, _ => ⟨S32x9744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .ne arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.addi v0 c1_i32
  let c0_i32 : BitVec 32 := 0#32
  let v2 : BitVec 32 := Scalar.minsi v1 c0_i32
  let c0_i32_0 : BitVec 32 := 0#32
  let c0_i32_1 : BitVec 32 := 0#32
  let c0_i32_2 : BitVec 32 := 0#32
  let c0_i32_3 : BitVec 32 := 0#32
  ![arg0.toNat, v2.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x512x2x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2.lean ====
abbrev S32x9744 : Shape := ⟨2, ![32, 9744]⟩
abbrev S1x32x512x2x4x128 : Shape := ⟨6, ![1, 32, 512, 2, 4, 128]⟩
abbrev S32x1x9744 : Shape := ⟨3, ![32, 1, 9744]⟩
abbrev S32x512x2x4x128 : Shape := ⟨5, ![32, 512, 2, 4, 128]⟩
abbrev S32x1x512 : Shape := ⟨3, ![32, 1, 512]⟩
abbrev S32x1x1024 : Shape := ⟨3, ![32, 1, 1024]⟩
abbrev S32x1x16 : Shape := ⟨3, ![32, 1, 16]⟩
abbrev S32x1x1536 : Shape := ⟨3, ![32, 1, 1536]⟩
abbrev S32x1x3x4x128 : Shape := ⟨5, ![32, 1, 3, 4, 128]⟩
abbrev S32x1x1x4x128 : Shape := ⟨5, ![32, 1, 1, 4, 128]⟩
abbrev S32x1x4x128 : Shape := ⟨4, ![32, 1, 4, 128]⟩
abbrev S32x1x2x4x128 : Shape := ⟨5, ![32, 1, 2, 4, 128]⟩
abbrev S32x513x2x4x128 : Shape := ⟨5, ![32, 513, 2, 4, 128]⟩

abbrev nBuf : Space → Nat
  | .hbm => 25
  | .vmem => 0
  | .smem => 0
  | _ => 0

abbrev bufTy : (tb : Table) → Fin (tcTables nBuf tb) → BufTy
  | .hbm, ⟨0, _⟩ => ⟨S32x9744, .f32⟩
  | .hbm, ⟨1, _⟩ => ⟨S1x32x512x2x4x128, .f32⟩
  | .hbm, ⟨2, _⟩ => ⟨S32x1x9744, .f32⟩
  | .hbm, ⟨3, _⟩ => ⟨S32x512x2x4x128, .f32⟩
  | .hbm, ⟨4, _⟩ => ⟨S32x1x512, .f32⟩
  | .hbm, ⟨5, _⟩ => ⟨S32x1x512, .f32⟩
  | .hbm, ⟨6, _⟩ => ⟨S32x1x1024, .f32⟩
  | .hbm, ⟨7, _⟩ => ⟨S32x1x1024, .f32⟩
  | .hbm, ⟨8, _⟩ => ⟨S32x1x16, .f32⟩
  | .hbm, ⟨9, _⟩ => ⟨S32x1x1536, .f32⟩
  | .hbm, ⟨10, _⟩ => ⟨S32x1x1536, .f32⟩
  | .hbm, ⟨11, _⟩ => ⟨S32x1x1536, .f32⟩
  | .hbm, ⟨12, _⟩ => ⟨S32x1x1024, .f32⟩
  | .hbm, ⟨13, _⟩ => ⟨S32x1x1024, .f32⟩
  | .hbm, ⟨14, _⟩ => ⟨S32x1x3x4x128, .f32⟩
  | .hbm, ⟨15, _⟩ => ⟨S32x1x1x4x128, .f32⟩
  | .hbm, ⟨16, _⟩ => ⟨S32x1x4x128, .f32⟩
  | .hbm, ⟨17, _⟩ => ⟨S32x1x3x4x128, .f32⟩
  | .hbm, ⟨18, _⟩ => ⟨S32x1x1x4x128, .f32⟩
  | .hbm, ⟨19, _⟩ => ⟨S32x1x4x128, .f32⟩
  | .hbm, ⟨20, _⟩ => ⟨S32x1x1x4x128, .f32⟩
  | .hbm, ⟨21, _⟩ => ⟨S32x1x1x4x128, .f32⟩
  | .hbm, ⟨22, _⟩ => ⟨S32x1x2x4x128, .f32⟩
  | .hbm, ⟨23, _⟩ => ⟨S32x513x2x4x128, .f32⟩
  | .hbm, ⟨24, _⟩ => ⟨S32x512x2x4x128, .f32⟩
  | _, _ => ⟨S32x9744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Kernel3.lean ====
abbrev S32x9744 : Shape := ⟨2, ![32, 9744]⟩
abbrev S1x32x2048x2x4x128 : Shape := ⟨6, ![1, 32, 2048, 2, 4, 128]⟩
abbrev S32x2048x2x4x128 : Shape := ⟨5, ![32, 2048, 2, 4, 128]⟩
abbrev S32x512 : Shape := ⟨2, ![32, 512]⟩
abbrev S32x1024 : Shape := ⟨2, ![32, 1024]⟩
abbrev S32x16 : Shape := ⟨2, ![32, 16]⟩
abbrev S32x1536 : Shape := ⟨2, ![32, 1536]⟩
abbrev S_ : Shape := ⟨0, ![]⟩
abbrev S32x496 : Shape := ⟨2, ![32, 496]⟩
abbrev S32x7168 : Shape := ⟨2, ![32, 7168]⟩
abbrev S32x10240 : Shape := ⟨2, ![32, 10240]⟩
abbrev S32x1x2x4x128 : Shape := ⟨5, ![32, 1, 2, 4, 128]⟩
abbrev S1x512x2x4x128 : Shape := ⟨5, ![1, 512, 2, 4, 128]⟩
abbrev S1x1x2x4x128 : Shape := ⟨5, ![1, 1, 2, 4, 128]⟩
abbrev S1x511x2x4x128 : Shape := ⟨5, ![1, 511, 2, 4, 128]⟩
abbrev S511x2x4x128 : Shape := ⟨4, ![511, 2, 4, 128]⟩
abbrev S1x2x4x128 : Shape := ⟨4, ![1, 2, 4, 128]⟩

abbrev nBuf : Space → Nat
  | .hbm => 31
  | .vmem => 6
  | .smem => 0
  | _ => 0

abbrev bufTy : (tb : Table) → Fin (tcTables nBuf tb) → BufTy
  | .hbm, ⟨0, _⟩ => ⟨S32x9744, .f32⟩
  | .hbm, ⟨1, _⟩ => ⟨S1x32x2048x2x4x128, .f32⟩
  | .hbm, ⟨2, _⟩ => ⟨S32x2048x2x4x128, .f32⟩
  | .hbm, ⟨3, _⟩ => ⟨S32x512, .f32⟩
  | .hbm, ⟨4, _⟩ => ⟨S32x512, .f32⟩
  | .hbm, ⟨5, _⟩ => ⟨S32x1024, .f32⟩
  | .hbm, ⟨6, _⟩ => ⟨S32x1024, .f32⟩
  | .hbm, ⟨7, _⟩ => ⟨S32x16, .f32⟩
  | .hbm, ⟨8, _⟩ => ⟨S32x1536, .f32⟩
  | .hbm, ⟨9, _⟩ => ⟨S32x1536, .f32⟩
  | .hbm, ⟨10, _⟩ => ⟨S32x1536, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x496, .f32⟩
  | .hbm, ⟨15, _⟩ => ⟨S32x512, .f32⟩
  | .hbm, ⟨16, _⟩ => ⟨S32x512, .f32⟩
  | .hbm, ⟨17, _⟩ => ⟨S32x512, .f32⟩
  | .hbm, ⟨18, _⟩ => ⟨S32x7168, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x1536, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x1536, .f32⟩
  | .hbm, ⟨27, _⟩ => ⟨S32x10240, .f32⟩
  | .hbm, ⟨28, _⟩ => ⟨S32x1024, .f32⟩
  | .hbm, ⟨29, _⟩ => ⟨S32x1x2x4x128, .f32⟩
  | .hbm, ⟨30, _⟩ => ⟨S32x2048x2x4x128, .f32⟩
  | .local _ .vmem, ⟨0, _⟩ => ⟨S1x512x2x4x128, .f32⟩
  | .local _ .vmem, ⟨1, _⟩ => ⟨S1x512x2x4x128, .f32⟩
  | .local _ .vmem, ⟨2, _⟩ => ⟨S1x1x2x4x128, .f32⟩
  | .local _ .vmem, ⟨3, _⟩ => ⟨S1x1x2x4x128, .f32⟩
  | .local _ .vmem, ⟨4, _⟩ => ⟨S1x512x2x4x128, .f32⟩
  | .local _ .vmem, ⟨5, _⟩ => ⟨S1x512x2x4x128, .f32⟩
  | _, _ => ⟨S32x9744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c3_i32 : BitVec 32 := 3#32
  let v0 : BitVec 1 := Scalar.cmpi .ne arg1 c3_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c3_i32_0 : BitVec 32 := 3#32
  let v3 : BitVec 1 := Scalar.cmpi .eq arg1 c3_i32_0
  let v4 : BitVec 32 := Scalar.extui v3
  let c0_i32_1 : BitVec 32 := 0#32
  let v5 : BitVec 1 := Scalar.cmpi .ne v4 c0_i32_1
  v5

def cc0_transform_0 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c1_i32 : BitVec 32 := 1#32
  let v1 : BitVec 32 := Scalar.addi v0 c1_i32
  let c1536_i32 : BitVec 32 := 1536#32
  let v2 : BitVec 32 := Scalar.minsi v1 c1536_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x512x2x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3.lean ====
abbrev S32x9744 : Shape := ⟨2, ![32, 9744]⟩
abbrev S1x32x2048x2x4x128 : Shape := ⟨6, ![1, 32, 2048, 2, 4, 128]⟩
abbrev S32x1x9744 : Shape := ⟨3, ![32, 1, 9744]⟩
abbrev S32x2048x2x4x128 : Shape := ⟨5, ![32, 2048, 2, 4, 128]⟩
abbrev S32x1x512 : Shape := ⟨3, ![32, 1, 512]⟩
abbrev S32x1x1024 : Shape := ⟨3, ![32, 1, 1024]⟩
abbrev S32x1x16 : Shape := ⟨3, ![32, 1, 16]⟩
abbrev S32x1x1536 : Shape := ⟨3, ![32, 1, 1536]⟩
abbrev S32x1x3x4x128 : Shape := ⟨5, ![32, 1, 3, 4, 128]⟩
abbrev S32x1x1x4x128 : Shape := ⟨5, ![32, 1, 1, 4, 128]⟩
abbrev S32x1x4x128 : Shape := ⟨4, ![32, 1, 4, 128]⟩
abbrev S32x1x2x4x128 : Shape := ⟨5, ![32, 1, 2, 4, 128]⟩
abbrev S32x2049x2x4x128 : Shape := ⟨5, ![32, 2049, 2, 4, 128]⟩

abbrev nBuf : Space → Nat
  | .hbm => 25
  | .vmem => 0
  | .smem => 0
  | _ => 0

abbrev bufTy : (tb : Table) → Fin (tcTables nBuf tb) → BufTy
  | .hbm, ⟨0, _⟩ => ⟨S32x9744, .f32⟩
  | .hbm, ⟨1, _⟩ => ⟨S1x32x2048x2x4x128, .f32⟩
  | .hbm, ⟨2, _⟩ => ⟨S32x1x9744, .f32⟩
  | .hbm, ⟨3, _⟩ => ⟨S32x2048x2x4x128, .f32⟩
  | .hbm, ⟨4, _⟩ => ⟨S32x1x512, .f32⟩
  | .hbm, ⟨5, _⟩ => ⟨S32x1x512, .f32⟩
  | .hbm, ⟨6, _⟩ => ⟨S32x1x1024, .f32⟩
  | .hbm, ⟨7, _⟩ => ⟨S32x1x1024, .f32⟩
  | .hbm, ⟨8, _⟩ => ⟨S32x1x16, .f32⟩
  | .hbm, ⟨9, _⟩ => ⟨S32x1x1536, .f32⟩
  | .hbm, ⟨10, _⟩ => ⟨S32x1x1536, .f32⟩
  | .hbm, ⟨11, _⟩ => ⟨S32x1x1536, .f32⟩
  | .hbm, ⟨12, _⟩ => ⟨S32x1x1024, .f32⟩
  | .hbm, ⟨13, _⟩ => ⟨S32x1x1024, .f32⟩
  | .hbm, ⟨14, _⟩ => ⟨S32x1x3x4x128, .f32⟩
  | .hbm, ⟨15, _⟩ => ⟨S32x1x1x4x128, .f32⟩
  | .hbm, ⟨16, _⟩ => ⟨S32x1x4x128, .f32⟩
  | .hbm, ⟨17, _⟩ => ⟨S32x1x3x4x128, .f32⟩
  | .hbm, ⟨18, _⟩ => ⟨S32x1x1x4x128, .f32⟩
  | .hbm, ⟨19, _⟩ => ⟨S32x1x4x128, .f32⟩
  | .hbm, ⟨20, _⟩ => ⟨S32x1x1x4x128, .f32⟩
  | .hbm, ⟨21, _⟩ => ⟨S32x1x1x4x128, .f32⟩
  | .hbm, ⟨22, _⟩ => ⟨S32x1x2x4x128, .f32⟩
  | .hbm, ⟨23, _⟩ => ⟨S32x2049x2x4x128, .f32⟩
  | .hbm, ⟨24, _⟩ => ⟨S32x2048x2x4x128, .f32⟩
  | _, _ => ⟨S32x9744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Kernel4.lean ====
abbrev S189 : Shape := ⟨1, ![189]⟩
abbrev S1 : Shape := ⟨1, ![1]⟩
abbrev S96768x1024 : Shape := ⟨2, ![96768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S96768x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S96768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S189, .i32⟩
  | .local _ .smem, ⟨1, _⟩ => ⟨S1, .i32⟩
  | _, _ => ⟨S96768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![189], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S189.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S189) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S189.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S189) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S189.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S189) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S189.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S189) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S189 : Shape := ⟨1, ![189]⟩
abbrev S1 : Shape := ⟨1, ![1]⟩
abbrev S96768x1024 : Shape := ⟨2, ![96768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S189x512x1024 : Shape := ⟨3, ![189, 512, 1024]⟩
abbrev S_ : Shape := ⟨0, ![]⟩
abbrev S189x1 : Shape := ⟨2, ![189, 1]⟩
abbrev S189x1024x2048 : Shape := ⟨3, ![189, 1024, 2048]⟩
abbrev S189x512x2048 : Shape := ⟨3, ![189, 512, 2048]⟩
abbrev S189x1x2048 : Shape := ⟨3, ![189, 1, 2048]⟩
abbrev S189x1024x1024 : Shape := ⟨3, ![189, 1024, 1024]⟩
abbrev S189x1x1024 : Shape := ⟨3, ![189, 1, 1024]⟩
abbrev S189x1x1 : Shape := ⟨3, ![189, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S189, .i32⟩
  | .hbm, ⟨1, _⟩ => ⟨S1, .i32⟩
  | .hbm, ⟨2, _⟩ => ⟨S96768x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S189x512x1024, .f32⟩
  | .hbm, ⟨8, _⟩ => ⟨S_, .i32⟩
  | .hbm, ⟨9, _⟩ => ⟨S189, .i32⟩
  | .hbm, ⟨10, _⟩ => ⟨S189, .i1⟩
  | .hbm, ⟨11, _⟩ => ⟨S_, .i32⟩
  | .hbm, ⟨12, _⟩ => ⟨S189, .i32⟩
  | .hbm, ⟨13, _⟩ => ⟨S189, .i32⟩
  | .hbm, ⟨14, _⟩ => ⟨S189, .i32⟩
  | .hbm, ⟨15, _⟩ => ⟨S189x1, .i32⟩
  | .hbm, ⟨16, _⟩ => ⟨S189x1024x2048, .f32⟩
  | .hbm, ⟨17, _⟩ => ⟨S189x512x2048, .f32⟩
  | .hbm, ⟨18, _⟩ => ⟨S_, .i32⟩
  | .hbm, ⟨19, _⟩ => ⟨S189, .i32⟩
  | .hbm, ⟨20, _⟩ => ⟨S189, .i1⟩
  | .hbm, ⟨21, _⟩ => ⟨S_, .i32⟩
  | .hbm, ⟨22, _⟩ => ⟨S189, .i32⟩
  | .hbm, ⟨23, _⟩ => ⟨S189, .i32⟩
  | .hbm, ⟨24, _⟩ => ⟨S189, .i32⟩
  | .hbm, ⟨25, _⟩ => ⟨S189x1, .i32⟩
  | .hbm, ⟨26, _⟩ => ⟨S189x1x2048, .f32⟩
  | .hbm, ⟨27, _⟩ => ⟨S189x512x2048, .f32⟩
  | .hbm, ⟨28, _⟩ => ⟨S189x512x2048, .f32⟩
  | .hbm, ⟨29, _⟩ => ⟨S189x512x1024, .f32⟩
  | .hbm, ⟨30, _⟩ => ⟨S_, .f32⟩
  | .hbm, ⟨31, _⟩ => ⟨S189x512x1024, .f32⟩
  | .hbm, ⟨32, _⟩ => ⟨S189x512x1024, .f32⟩
  | .hbm, ⟨33, _⟩ => ⟨S189x512x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S189x512x1024, .f32⟩
  | .hbm, ⟨38, _⟩ => ⟨S189x512x1024, .f32⟩
  | .hbm, ⟨39, _⟩ => ⟨S_, .f32⟩
  | .hbm, ⟨40, _⟩ => ⟨S189x512x1024, .f32⟩
  | .hbm, ⟨41, _⟩ => ⟨S189x512x1024, .f32⟩
  | .hbm, ⟨42, _⟩ => ⟨S_, .f32⟩
  | .hbm, ⟨43, _⟩ => ⟨S189x512x1024, .f32⟩
  | .hbm, ⟨44, _⟩ => ⟨S189x512x1024, .f32⟩
  | .hbm, ⟨45, _⟩ => ⟨S189x512x1024, .f32⟩
  | .hbm, ⟨46, _⟩ => ⟨S_, .f32⟩
  | .hbm, ⟨47, _⟩ => ⟨S189x512x1024, .f32⟩
  | .hbm, ⟨48, _⟩ => ⟨S189x512x1024, .f32⟩
  | .hbm, ⟨49, _⟩ => ⟨S189x512x1024, .f32⟩
  | .hbm, ⟨50, _⟩ => ⟨S189x512x1024, .f32⟩
  | .hbm, ⟨51, _⟩ => ⟨S_, .f32⟩
  | .hbm, ⟨52, _⟩ => ⟨S189x512x1024, .f32⟩
  | .hbm, ⟨53, _⟩ => ⟨S189x512x1024, .f32⟩
  | .hbm, ⟨54, _⟩ => ⟨S_, .f32⟩
  | .hbm, ⟨55, _⟩ => ⟨S189x512x1024, .f32⟩
  | .hbm, ⟨56, _⟩ => ⟨S189x512x1024, .f32⟩
  | .hbm, ⟨57, _⟩ => ⟨S189x512x1024, .f32⟩
  | .hbm, ⟨58, _⟩ => ⟨S_, .i32⟩
  | .hbm, ⟨59, _⟩ => ⟨S189, .i32⟩
  | .hbm, ⟨60, _⟩ => ⟨S189, .i1⟩
  | .hbm, ⟨61, _⟩ => ⟨S_, .i32⟩
  | .hbm, ⟨62, _⟩ => ⟨S189, .i32⟩
  | .hbm, ⟨63, _⟩ => ⟨S189, .i32⟩
  | .hbm, ⟨64, _⟩ => ⟨S189, .i32⟩
  | .hbm, ⟨65, _⟩ => ⟨S189x1, .i32⟩
  | .hbm, ⟨66, _⟩ => ⟨S189x1024x1024, .f32⟩
  | .hbm, ⟨67, _⟩ => ⟨S189x512x1024, .f32⟩
  | .hbm, ⟨68, _⟩ => ⟨S_, .i32⟩
  | .hbm, ⟨69, _⟩ => ⟨S189, .i32⟩
  | .hbm, ⟨70, _⟩ => ⟨S189, .i1⟩
  | .hbm, ⟨71, _⟩ => ⟨S_, .i32⟩
  | .hbm, ⟨72, _⟩ => ⟨S189, .i32⟩
  | .hbm, ⟨73, _⟩ => ⟨S189, .i32⟩
  | .hbm, ⟨74, _⟩ => ⟨S189, .i32⟩
  | .hbm, ⟨75, _⟩ => ⟨S189x1, .i32⟩
  | .hbm, ⟨76, _⟩ => ⟨S189x1x1024, .f32⟩
  | .hbm, ⟨77, _⟩ => ⟨S189x512x1024, .f32⟩
  | .hbm, ⟨78, _⟩ => ⟨S189x512x1024, .f32⟩
  | .hbm, ⟨79, _⟩ => ⟨S189, .i32⟩
  | .hbm, ⟨80, _⟩ => ⟨S189, .i32⟩
  | .hbm, ⟨81, _⟩ => ⟨S189, .i1⟩
  | .hbm, ⟨82, _⟩ => ⟨S189x1x1, .i1⟩
  | .hbm, ⟨83, _⟩ => ⟨S_, .f32⟩
  | .hbm, ⟨84, _⟩ => ⟨S_, .f32⟩
  | .hbm, ⟨85, _⟩ => ⟨S189x512x1024, .i1⟩
  | .hbm, ⟨86, _⟩ => ⟨S189x512x1024, .f32⟩
  | .hbm, ⟨87, _⟩ => ⟨S189x512x1024, .f32⟩
  | .hbm, ⟨88, _⟩ => ⟨S96768x1024, .f32⟩
  | _, _ => ⟨S189, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== Kernel5.lean ====
abbrev S4x4096x1024 : Shape := ⟨3, ![4, 4096, 1024]⟩
abbrev S1x1024 : Shape := ⟨2, ![1, 1024]⟩
abbrev S1x1024x9744 : Shape := ⟨3, ![1, 1024, 9744]⟩
abbrev S1024x9744 : Shape := ⟨2, ![1024, 9744]⟩
abbrev S1024x512 : Shape := ⟨2, ![1024, 512]⟩
abbrev S1024x1024 : Shape := ⟨2, ![1024, 1024]⟩
abbrev S1024x16 : Shape := ⟨2, ![1024, 16]⟩
abbrev S1024x1536 : Shape := ⟨2, ![1024, 1536]⟩
abbrev S_ : Shape := ⟨0, ![]⟩
abbrev S1024x496 : Shape := ⟨2, ![1024, 496]⟩
abbrev S1024x7168 : Shape := ⟨2, ![1024, 7168]⟩
abbrev S1024 : Shape := ⟨1, ![1024]⟩
abbrev S16384x1024 : Shape := ⟨2, ![16384, 1024]⟩
abbrev S4x1x4096x7168 : Shape := ⟨4, ![4, 1, 4096, 7168]⟩
abbrev S1x1x1024x1024 : Shape := ⟨4, ![1, 1, 1024, 1024]⟩
abbrev S1024x1 : Shape := ⟨2, ![1024, 1]⟩
abbrev S4x1x128x1024 : Shape := ⟨4, ![4, 1, 128, 1024]⟩
abbrev S4x128x1x1024 : Shape := ⟨4, ![4, 128, 1, 1024]⟩
abbrev S4x128x2x4x128 : Shape := ⟨5, ![4, 128, 2, 4, 128]⟩

abbrev nBuf : Space → Nat
  | .hbm => 46
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9744, .f32⟩
  | .hbm, ⟨3, _⟩ => ⟨S1024x9744, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S1024x16, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1024, .f32⟩
  | .hbm, ⟨13, _⟩ => ⟨S1024x1024, .f32⟩
  | .hbm, ⟨14, _⟩ => ⟨S1024x512, .bf16⟩
  | .hbm, ⟨15, _⟩ => ⟨S1024x512, .bf16⟩
  | .hbm, ⟨16, _⟩ => ⟨S1024x1024, .bf16⟩
  | .hbm, ⟨17, _⟩ => ⟨S1024x1024, .bf16⟩
  | .hbm, ⟨18, _⟩ => ⟨S1024x16, .bf16⟩
  | .hbm, ⟨19, _⟩ => ⟨S1024x1536, .bf16⟩
  | .hbm, ⟨20, _⟩ => ⟨S1024x1536, .bf16⟩
  | .hbm, ⟨21, _⟩ => ⟨S1024x1536, .bf16⟩
  | .hbm, ⟨22, _⟩ => ⟨S1024x1024, .bf16⟩
  | .hbm, ⟨23, _⟩ => ⟨S1024x1024, .bf16⟩
  | .hbm, ⟨24, _⟩ => ⟨S_, .bf16⟩
  | .hbm, ⟨25, _⟩ => ⟨S1024x496, .bf16⟩
  | .hbm, ⟨26, _⟩ => ⟨S1024x512, .bf16⟩
  | .hbm, ⟨27, _⟩ => ⟨S1024x512, .bf16⟩
  | .hbm, ⟨28, _⟩ => ⟨S1024x512, .bf16⟩
  | .hbm, ⟨29, _⟩ => ⟨S1024x7168, .bf16⟩
  | .hbm, ⟨30, _⟩ => ⟨S1024x512, .bf16⟩
  | .hbm, ⟨31, _⟩ => ⟨S1024x512, .bf16⟩
  | .hbm, ⟨32, _⟩ => ⟨S1024x512, .bf16⟩
  | .hbm, ⟨33, _⟩ => ⟨S1024x1536, .bf16⟩
  | .hbm, ⟨34, _⟩ => ⟨S1024x512, .bf16⟩
  | .hbm, ⟨35, _⟩ => ⟨S1024x512, .bf16⟩
  | .hbm, ⟨36, _⟩ => ⟨S1024x512, .bf16⟩
  | .hbm, ⟨37, _⟩ => ⟨S1024x1536, .bf16⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S4x1x4096x7168, .bf16⟩
  | .hbm, ⟨42, _⟩ => ⟨S4x1x128x1024, .bf16⟩
  | .hbm, ⟨43, _⟩ => ⟨S4x128x1x1024, .bf16⟩
  | .hbm, ⟨44, _⟩ => ⟨S4x128x1x1024, .f32⟩
  | .hbm, ⟨45, _⟩ => ⟨S4x128x2x4x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x4096x1024 : Shape := ⟨3, ![4, 4096, 1024]⟩
abbrev S1x1024 : Shape := ⟨2, ![1, 1024]⟩
abbrev S1x1024x9744 : Shape := ⟨3, ![1, 1024, 9744]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x9744 : Shape := ⟨2, ![1024, 9744]⟩
abbrev S4x4096x9744 : Shape := ⟨3, ![4, 4096, 9744]⟩
abbrev S4x4096x512 : Shape := ⟨3, ![4, 4096, 512]⟩
abbrev S4x4096x16 : Shape := ⟨3, ![4, 4096, 16]⟩
abbrev S4x4096x1536 : Shape := ⟨3, ![4, 4096, 1536]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S4x4096x2x4x128 : Shape := ⟨5, ![4, 4096, 2, 4, 128]⟩
abbrev S4x4096x496 : Shape := ⟨3, ![4, 4096, 496]⟩
abbrev S4x4096x7168 : Shape := ⟨3, ![4, 4096, 7168]⟩
abbrev S4x4096x1x7168 : Shape := ⟨4, ![4, 4096, 1, 7168]⟩
abbrev S4x1x4096x7168 : Shape := ⟨4, ![4, 1, 4096, 7168]⟩
abbrev S4x128x2x4x128 : Shape := ⟨5, ![4, 128, 2, 4, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9744, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x9744, .f32⟩
  | .hbm, ⟨21, _⟩ => ⟨S4x4096x9744, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x1024, .f32⟩
  | .hbm, ⟨26, _⟩ => ⟨S4x4096x16, .f32⟩
  | .hbm, ⟨27, _⟩ => ⟨S4x4096x1536, .f32⟩
  | .hbm, ⟨28, _⟩ => ⟨S4x4096x1536, .f32⟩
  | .hbm, ⟨29, _⟩ => ⟨S4x4096x1536, .f32⟩
  | .hbm, ⟨30, _⟩ => ⟨S4x4096x1024, .f32⟩
  | .hbm, ⟨31, _⟩ => ⟨S4x4096x1024, .f32⟩
  | .hbm, ⟨32, _⟩ => ⟨S4x4096x3x4x128, .f32⟩
  | .hbm, ⟨33, _⟩ => ⟨S4x4096x1x4x128, .f32⟩
  | .hbm, ⟨34, _⟩ => ⟨S4x4096x4x128, .f32⟩
  | .hbm, ⟨35, _⟩ => ⟨S4x4096x3x4x128, .f32⟩
  | .hbm, ⟨36, _⟩ => ⟨S4x4096x1x4x128, .f32⟩
  | .hbm, ⟨37, _⟩ => ⟨S4x4096x4x128, .f32⟩
  | .hbm, ⟨38, _⟩ => ⟨S4x4096x3x4x128, .f32⟩
  | .hbm, ⟨39, _⟩ => ⟨S4x4096x1x4x128, .f32⟩
  | .hbm, ⟨40, _⟩ => ⟨S4x4096x4x128, .f32⟩
  | .hbm, ⟨41, _⟩ => ⟨S4x4096x1x4x128, .f32⟩
  | .hbm, ⟨42, _⟩ => ⟨S4x4096x1x4x128, .f32⟩
  | .hbm, ⟨43, _⟩ => ⟨S4x4096x2x4x128, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S_, .f32⟩
  | .hbm, ⟨48, _⟩ => ⟨S4x4096x496, .f32⟩
  | .hbm, ⟨49, _⟩ => ⟨S4x4096x7168, .f32⟩
  | .hbm, ⟨50, _⟩ => ⟨S4x4096x1x7168, .f32⟩
  | .hbm, ⟨51, _⟩ => ⟨S4x1x4096x7168, .f32⟩
  | .hbm, ⟨52, _⟩ => ⟨S4x1x4096x7168, .bf16⟩
  | .hbm, ⟨53, _⟩ => ⟨S4x128x2x4x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩

abbrev nD : Nat := 1
abbrev τ : Topo := Topo.v7x

variable {F : FTy → Type} [FloatOps F]
-- ==== Kernel6.lean ====
abbrev S4x4096x1024 : Shape := ⟨3, ![4, 4096, 1024]⟩
abbrev S1x1024 : Shape := ⟨2, ![1, 1024]⟩
abbrev S1x1024x9744 : Shape := ⟨3, ![1, 1024, 9744]⟩
abbrev S1024x9744 : Shape := ⟨2, ![1024, 9744]⟩
abbrev S1024x512 : Shape := ⟨2, ![1024, 512]⟩
abbrev S1024x1024 : Shape := ⟨2, ![1024, 1024]⟩
abbrev S1024x16 : Shape := ⟨2, ![1024, 16]⟩
abbrev S1024x1536 : Shape := ⟨2, ![1024, 1536]⟩
abbrev S_ : Shape := ⟨0, ![]⟩
abbrev S1024x496 : Shape := ⟨2, ![1024, 496]⟩
abbrev S1024x7168 : Shape := ⟨2, ![1024, 7168]⟩
abbrev S1024 : Shape := ⟨1, ![1024]⟩
abbrev S16384x1024 : Shape := ⟨2, ![16384, 1024]⟩
abbrev S4x4x1024x1536 : Shape := ⟨4, ![4, 4, 1024, 1536]⟩
abbrev S4x512x2x4x128 : Shape := ⟨5, ![4, 512, 2, 4, 128]⟩
abbrev S1x4x256x1536 : Shape := ⟨4, ![1, 4, 256, 1536]⟩
abbrev S1x512x2x4x128 : Shape := ⟨5, ![1, 512, 2, 4, 128]⟩
abbrev S12x1024x128 : Shape := ⟨3, ![12, 1024, 128]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S512x128 : Shape := ⟨2, ![512, 128]⟩
abbrev S1x512x1x1x128 : Shape := ⟨5, ![1, 512, 1, 1, 128]⟩

abbrev nBuf : Space → Nat
  | .hbm => 43
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9744, .f32⟩
  | .hbm, ⟨3, _⟩ => ⟨S1024x9744, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S1024x16, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1024, .f32⟩
  | .hbm, ⟨13, _⟩ => ⟨S1024x1024, .f32⟩
  | .hbm, ⟨14, _⟩ => ⟨S1024x512, .bf16⟩
  | .hbm, ⟨15, _⟩ => ⟨S1024x512, .bf16⟩
  | .hbm, ⟨16, _⟩ => ⟨S1024x1024, .bf16⟩
  | .hbm, ⟨17, _⟩ => ⟨S1024x1024, .bf16⟩
  | .hbm, ⟨18, _⟩ => ⟨S1024x16, .bf16⟩
  | .hbm, ⟨19, _⟩ => ⟨S1024x1536, .bf16⟩
  | .hbm, ⟨20, _⟩ => ⟨S1024x1536, .bf16⟩
  | .hbm, ⟨21, _⟩ => ⟨S1024x1536, .bf16⟩
  | .hbm, ⟨22, _⟩ => ⟨S1024x1024, .bf16⟩
  | .hbm, ⟨23, _⟩ => ⟨S1024x1024, .bf16⟩
  | .hbm, ⟨24, _⟩ => ⟨S_, .bf16⟩
  | .hbm, ⟨25, _⟩ => ⟨S1024x496, .bf16⟩
  | .hbm, ⟨26, _⟩ => ⟨S1024x512, .bf16⟩
  | .hbm, ⟨27, _⟩ => ⟨S1024x512, .bf16⟩
  | .hbm, ⟨28, _⟩ => ⟨S1024x512, .bf16⟩
  | .hbm, ⟨29, _⟩ => ⟨S1024x7168, .bf16⟩
  | .hbm, ⟨30, _⟩ => ⟨S1024x512, .bf16⟩
  | .hbm, ⟨31, _⟩ => ⟨S1024x512, .bf16⟩
  | .hbm, ⟨32, _⟩ => ⟨S1024x512, .bf16⟩
  | .hbm, ⟨33, _⟩ => ⟨S1024x1536, .bf16⟩
  | .hbm, ⟨34, _⟩ => ⟨S1024x512, .bf16⟩
  | .hbm, ⟨35, _⟩ => ⟨S1024x512, .bf16⟩
  | .hbm, ⟨36, _⟩ => ⟨S1024x512, .bf16⟩
  | .hbm, ⟨37, _⟩ => ⟨S1024x1536, .bf16⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S4x4x1024x1536, .bf16⟩
  | .hbm, ⟨42, _⟩ => ⟨S4x512x2x4x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x4x256x1536, .bf16⟩
  | .local _ .vmem, ⟨5, _⟩ => ⟨S1x4x256x1536, .bf16⟩
  | .local _ .vmem, ⟨6, _⟩ => ⟨S1x512x2x4x128, .f32⟩
  | .local _ .vmem, ⟨7, _⟩ => ⟨S1x512x2x4x128, .f32⟩
  | .local _ .vmem, ⟨8, _⟩ => ⟨S1024x1024, .bf16⟩
  | .local _ .vmem, ⟨9, _⟩ => ⟨S12x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37_0 : Ref sig .tc := ⟨.hbm, 41, rfl⟩
abbrev main_v37_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg0 : BitVec 32 := BitVec.ofNat 32 (i 0).val
  let c4_i32 : BitVec 32 := 4#32
  let c0_i32_354 : BitVec 32 := 0#32
  let v343 : BitVec 1 := Scalar.cmpi .eq c4_i32 c0_i32_354
  let c1_i32 : BitVec 32 := 1#32
  let v344 : BitVec 32 := Scalar.select v343 c1_i32 c4_i32
  let v345 : BitVec 32 := Scalar.remsi arg0 v344
  let c0_i32_356 : BitVec 32 := 0#32
  let v347 : BitVec 1 := Scalar.cmpi .slt v345 c0_i32_356
  let c0_i32_357 : BitVec 32 := 0#32
  let v348 : BitVec 1 := Scalar.cmpi .slt v344 c0_i32_357
  let v349 : BitVec 1 := Scalar.xori v347 v348
  let c0_i32_355 : BitVec 32 := 0#32
  let v346 : BitVec 1 := Scalar.cmpi .ne v345 c0_i32_355
  let v350 : BitVec 1 := Scalar.andi v349 v346
  let v351 : BitVec 32 := Scalar.addi v345 v344
  let v352 : BitVec 32 := Scalar.select v350 v351 v345
  let c3_i32 : BitVec 32 := 3#32
  let v353 : BitVec 1 := Scalar.cmpi .sge v352 c3_i32
  let v354 : BitVec 32 := Scalar.extui v353
  let c0_i32_358 : BitVec 32 := 0#32
  let v355 : BitVec 1 := Scalar.cmpi .ne v354 c0_i32_358
  v355

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

def cc0_transform_4 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  let c0_i32_14 : BitVec 32 := 0#32
  ![v16.toNat, v28.toNat, c0_i32_11.toNat, c0_i32_12.toNat, c0_i32_13.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x4x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4x4096x1024 : Shape := ⟨3, ![4, 4096, 1024]⟩
abbrev S1x1024 : Shape := ⟨2, ![1, 1024]⟩
abbrev S1x1024x9744 : Shape := ⟨3, ![1, 1024, 9744]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x9744 : Shape := ⟨2, ![1024, 9744]⟩
abbrev S4x4096x9744 : Shape := ⟨3, ![4, 4096, 9744]⟩
abbrev S4x4096x512 : Shape := ⟨3, ![4, 4096, 512]⟩
abbrev S4x4096x16 : Shape := ⟨3, ![4, 4096, 16]⟩
abbrev S4x4096x1536 : Shape := ⟨3, ![4, 4096, 1536]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S4x4096x2x4x128 : Shape := ⟨5, ![4, 4096, 2, 4, 128]⟩
abbrev S4x1024x4x1536 : Shape := ⟨4, ![4, 1024, 4, 1536]⟩
abbrev S4x4x1024x1536 : Shape := ⟨4, ![4, 4, 1024, 1536]⟩
abbrev S4x512x2x4x128 : Shape := ⟨5, ![4, 512, 2, 4, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9744, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x9744, .f32⟩
  | .hbm, ⟨21, _⟩ => ⟨S4x4096x9744, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x1024, .f32⟩
  | .hbm, ⟨26, _⟩ => ⟨S4x4096x16, .f32⟩
  | .hbm, ⟨27, _⟩ => ⟨S4x4096x1536, .f32⟩
  | .hbm, ⟨28, _⟩ => ⟨S4x4096x1536, .f32⟩
  | .hbm, ⟨29, _⟩ => ⟨S4x4096x1536, .f32⟩
  | .hbm, ⟨30, _⟩ => ⟨S4x4096x1024, .f32⟩
  | .hbm, ⟨31, _⟩ => ⟨S4x4096x1024, .f32⟩
  | .hbm, ⟨32, _⟩ => ⟨S4x4096x3x4x128, .f32⟩
  | .hbm, ⟨33, _⟩ => ⟨S4x4096x1x4x128, .f32⟩
  | .hbm, ⟨34, _⟩ => ⟨S4x4096x4x128, .f32⟩
  | .hbm, ⟨35, _⟩ => ⟨S4x4096x3x4x128, .f32⟩
  | .hbm, ⟨36, _⟩ => ⟨S4x4096x1x4x128, .f32⟩
  | .hbm, ⟨37, _⟩ => ⟨S4x4096x4x128, .f32⟩
  | .hbm, ⟨38, _⟩ => ⟨S4x4096x3x4x128, .f32⟩
  | .hbm, ⟨39, _⟩ => ⟨S4x4096x1x4x128, .f32⟩
  | .hbm, ⟨40, _⟩ => ⟨S4x4096x4x128, .f32⟩
  | .hbm, ⟨41, _⟩ => ⟨S4x4096x1x4x128, .f32⟩
  | .hbm, ⟨42, _⟩ => ⟨S4x4096x1x4x128, .f32⟩
  | .hbm, ⟨43, _⟩ => ⟨S4x4096x2x4x128, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x1536, .f32⟩
  | .hbm, ⟨48, _⟩ => ⟨S4x1024x4x1536, .f32⟩
  | .hbm, ⟨49, _⟩ => ⟨S4x4x1024x1536, .f32⟩
  | .hbm, ⟨50, _⟩ => ⟨S4x4x1024x1536, .bf16⟩
  | .hbm, ⟨51, _⟩ => ⟨S4x512x2x4x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Kernel7.lean ====
abbrev S4x4096x1024 : Shape := ⟨3, ![4, 4096, 1024]⟩
abbrev S1x1024 : Shape := ⟨2, ![1, 1024]⟩
abbrev S1x1024x9744 : Shape := ⟨3, ![1, 1024, 9744]⟩
abbrev S1024x9744 : Shape := ⟨2, ![1024, 9744]⟩
abbrev S1024x512 : Shape := ⟨2, ![1024, 512]⟩
abbrev S1024x1024 : Shape := ⟨2, ![1024, 1024]⟩
abbrev S1024x16 : Shape := ⟨2, ![1024, 16]⟩
abbrev S1024x1536 : Shape := ⟨2, ![1024, 1536]⟩
abbrev S_ : Shape := ⟨0, ![]⟩
abbrev S1024x496 : Shape := ⟨2, ![1024, 496]⟩
abbrev S1024x7168 : Shape := ⟨2, ![1024, 7168]⟩
abbrev S1024 : Shape := ⟨1, ![1024]⟩
abbrev S16384x1024 : Shape := ⟨2, ![16384, 1024]⟩
abbrev S4x16x256x1536 : Shape := ⟨4, ![4, 16, 256, 1536]⟩
abbrev S4x2048x2x4x128 : Shape := ⟨5, ![4, 2048, 2, 4, 128]⟩
abbrev S1x16x64x1536 : Shape := ⟨4, ![1, 16, 64, 1536]⟩
abbrev S1x1024x2x4x128 : Shape := ⟨5, ![1, 1024, 2, 4, 128]⟩
abbrev S12x1024x128 : Shape := ⟨3, ![12, 1024, 128]⟩
abbrev S1024x1 : Shape := ⟨2, ![1024, 1]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S1x1x64x128 : Shape := ⟨4, ![1, 1, 64, 128]⟩
abbrev S1x1024x1x1x128 : Shape := ⟨5, ![1, 1024, 1, 1, 128]⟩

abbrev nBuf : Space → Nat
  | .hbm => 43
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9744, .f32⟩
  | .hbm, ⟨3, _⟩ => ⟨S1024x9744, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S1024x16, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1024, .f32⟩
  | .hbm, ⟨13, _⟩ => ⟨S1024x1024, .f32⟩
  | .hbm, ⟨14, _⟩ => ⟨S1024x512, .bf16⟩
  | .hbm, ⟨15, _⟩ => ⟨S1024x512, .bf16⟩
  | .hbm, ⟨16, _⟩ => ⟨S1024x1024, .bf16⟩
  | .hbm, ⟨17, _⟩ => ⟨S1024x1024, .bf16⟩
  | .hbm, ⟨18, _⟩ => ⟨S1024x16, .bf16⟩
  | .hbm, ⟨19, _⟩ => ⟨S1024x1536, .bf16⟩
  | .hbm, ⟨20, _⟩ => ⟨S1024x1536, .bf16⟩
  | .hbm, ⟨21, _⟩ => ⟨S1024x1536, .bf16⟩
  | .hbm, ⟨22, _⟩ => ⟨S1024x1024, .bf16⟩
  | .hbm, ⟨23, _⟩ => ⟨S1024x1024, .bf16⟩
  | .hbm, ⟨24, _⟩ => ⟨S_, .bf16⟩
  | .hbm, ⟨25, _⟩ => ⟨S1024x496, .bf16⟩
  | .hbm, ⟨26, _⟩ => ⟨S1024x512, .bf16⟩
  | .hbm, ⟨27, _⟩ => ⟨S1024x512, .bf16⟩
  | .hbm, ⟨28, _⟩ => ⟨S1024x512, .bf16⟩
  | .hbm, ⟨29, _⟩ => ⟨S1024x7168, .bf16⟩
  | .hbm, ⟨30, _⟩ => ⟨S1024x512, .bf16⟩
  | .hbm, ⟨31, _⟩ => ⟨S1024x512, .bf16⟩
  | .hbm, ⟨32, _⟩ => ⟨S1024x512, .bf16⟩
  | .hbm, ⟨33, _⟩ => ⟨S1024x1536, .bf16⟩
  | .hbm, ⟨34, _⟩ => ⟨S1024x512, .bf16⟩
  | .hbm, ⟨35, _⟩ => ⟨S1024x512, .bf16⟩
  | .hbm, ⟨36, _⟩ => ⟨S1024x512, .bf16⟩
  | .hbm, ⟨37, _⟩ => ⟨S1024x1536, .bf16⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S4x16x256x1536, .bf16⟩
  | .hbm, ⟨42, _⟩ => ⟨S4x2048x2x4x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x16x64x1536, .bf16⟩
  | .local _ .vmem, ⟨5, _⟩ => ⟨S1x16x64x1536, .bf16⟩
  | .local _ .vmem, ⟨6, _⟩ => ⟨S1x1024x2x4x128, .f32⟩
  | .local _ .vmem, ⟨7, _⟩ => ⟨S1x1024x2x4x128, .f32⟩
  | .local _ .vmem, ⟨8, _⟩ => ⟨S1024x1024, .bf16⟩
  | .local _ .vmem, ⟨9, _⟩ => ⟨S12x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37_0 : Ref sig .tc := ⟨.hbm, 41, rfl⟩
abbrev main_v37_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg0 : BitVec 32 := BitVec.ofNat 32 (i 0).val
  let c4_i32 : BitVec 32 := 4#32
  let c0_i32_1358 : BitVec 32 := 0#32
  let v1207 : BitVec 1 := Scalar.cmpi .eq c4_i32 c0_i32_1358
  let c1_i32 : BitVec 32 := 1#32
  let v1208 : BitVec 32 := Scalar.select v1207 c1_i32 c4_i32
  let v1209 : BitVec 32 := Scalar.remsi arg0 v1208
  let c0_i32_1360 : BitVec 32 := 0#32
  let v1211 : BitVec 1 := Scalar.cmpi .slt v1209 c0_i32_1360
  let c0_i32_1361 : BitVec 32 := 0#32
  let v1212 : BitVec 1 := Scalar.cmpi .slt v1208 c0_i32_1361
  let v1213 : BitVec 1 := Scalar.xori v1211 v1212
  let c0_i32_1359 : BitVec 32 := 0#32
  let v1210 : BitVec 1 := Scalar.cmpi .ne v1209 c0_i32_1359
  let v1214 : BitVec 1 := Scalar.andi v1213 v1210
  let v1215 : BitVec 32 := Scalar.addi v1209 v1208
  let v1216 : BitVec 32 := Scalar.select v1214 v1215 v1209
  let c2_i32 : BitVec 32 := 2#32
  let v1217 : BitVec 1 := Scalar.cmpi .sge v1216 c2_i32
  let v1218 : BitVec 32 := Scalar.extui v1217
  let c0_i32_1362 : BitVec 32 := 0#32
  let v1219 : BitVec 1 := Scalar.cmpi .ne v1218 c0_i32_1362
  v1219

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

def cc0_transform_4 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.subi v26 c2_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  let c0_i32_14 : BitVec 32 := 0#32
  ![v16.toNat, v28.toNat, c0_i32_11.toNat, c0_i32_12.toNat, c0_i32_13.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x16x64x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S4x4096x1024 : Shape := ⟨3, ![4, 4096, 1024]⟩
abbrev S1x1024 : Shape := ⟨2, ![1, 1024]⟩
abbrev S1x1024x9744 : Shape := ⟨3, ![1, 1024, 9744]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x9744 : Shape := ⟨2, ![1024, 9744]⟩
abbrev S4x4096x9744 : Shape := ⟨3, ![4, 4096, 9744]⟩
abbrev S4x4096x512 : Shape := ⟨3, ![4, 4096, 512]⟩
abbrev S4x4096x16 : Shape := ⟨3, ![4, 4096, 16]⟩
abbrev S4x4096x1536 : Shape := ⟨3, ![4, 4096, 1536]⟩
abbrev S4x4096x3x4x128 : Shape := ⟨5, ![4, 4096, 3, 4, 128]⟩
abbrev S4x4096x1x4x128 : Shape := ⟨5, ![4, 4096, 1, 4, 128]⟩
abbrev S4x4096x4x128 : Shape := ⟨4, ![4, 4096, 4, 128]⟩
abbrev S4x4096x2x4x128 : Shape := ⟨5, ![4, 4096, 2, 4, 128]⟩
abbrev S4x256x16x1536 : Shape := ⟨4, ![4, 256, 16, 1536]⟩
abbrev S4x16x256x1536 : Shape := ⟨4, ![4, 16, 256, 1536]⟩
abbrev S4x2048x2x4x128 : Shape := ⟨5, ![4, 2048, 2, 4, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9744, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x9744, .f32⟩
  | .hbm, ⟨21, _⟩ => ⟨S4x4096x9744, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x1024, .f32⟩
  | .hbm, ⟨26, _⟩ => ⟨S4x4096x16, .f32⟩
  | .hbm, ⟨27, _⟩ => ⟨S4x4096x1536, .f32⟩
  | .hbm, ⟨28, _⟩ => ⟨S4x4096x1536, .f32⟩
  | .hbm, ⟨29, _⟩ => ⟨S4x4096x1536, .f32⟩
  | .hbm, ⟨30, _⟩ => ⟨S4x4096x1024, .f32⟩
  | .hbm, ⟨31, _⟩ => ⟨S4x4096x1024, .f32⟩
  | .hbm, ⟨32, _⟩ => ⟨S4x4096x3x4x128, .f32⟩
  | .hbm, ⟨33, _⟩ => ⟨S4x4096x1x4x128, .f32⟩
  | .hbm, ⟨34, _⟩ => ⟨S4x4096x4x128, .f32⟩
  | .hbm, ⟨35, _⟩ => ⟨S4x4096x3x4x128, .f32⟩
  | .hbm, ⟨36, _⟩ => ⟨S4x4096x1x4x128, .f32⟩
  | .hbm, ⟨37, _⟩ => ⟨S4x4096x4x128, .f32⟩
  | .hbm, ⟨38, _⟩ => ⟨S4x4096x3x4x128, .f32⟩
  | .hbm, ⟨39, _⟩ => ⟨S4x4096x1x4x128, .f32⟩
  | .hbm, ⟨40, _⟩ => ⟨S4x4096x4x128, .f32⟩
  | .hbm, ⟨41, _⟩ => ⟨S4x4096x1x4x128, .f32⟩
  | .hbm, ⟨42, _⟩ => ⟨S4x4096x1x4x128, .f32⟩
  | .hbm, ⟨43, _⟩ => ⟨S4x4096x2x4x128, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S4x4096x1536, .f32⟩
  | .hbm, ⟨48, _⟩ => ⟨S4x256x16x1536, .f32⟩
  | .hbm, ⟨49, _⟩ => ⟨S4x16x256x1536, .f32⟩
  | .hbm, ⟨50, _⟩ => ⟨S4x16x256x1536, .bf16⟩
  | .hbm, ⟨51, _⟩ => ⟨S4x2048x2x4x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Kernel8.lean ====
abbrev S32x9744 : Shape := ⟨2, ![32, 9744]⟩
abbrev S1x32x4x128x256 : Shape := ⟨5, ![1, 32, 4, 128, 256]⟩
abbrev S1x16x512 : Shape := ⟨3, ![1, 16, 512]⟩
abbrev S1x512 : Shape := ⟨2, ![1, 512]⟩
abbrev S1x256 : Shape := ⟨2, ![1, 256]⟩
abbrev S32x512 : Shape := ⟨2, ![32, 512]⟩
abbrev S32x1024 : Shape := ⟨2, ![32, 1024]⟩
abbrev S32x16 : Shape := ⟨2, ![32, 16]⟩
abbrev S32x1536 : Shape := ⟨2, ![32, 1536]⟩
abbrev S_ : Shape := ⟨0, ![]⟩
abbrev S32x496 : Shape := ⟨2, ![32, 496]⟩
abbrev S32x7168 : Shape := ⟨2, ![32, 7168]⟩
abbrev S32x10240 : Shape := ⟨2, ![32, 10240]⟩
abbrev S128x512 : Shape := ⟨2, ![128, 512]⟩
abbrev S16x512 : Shape := ⟨2, ![16, 512]⟩
abbrev S1 : Shape := ⟨1, ![1]⟩
abbrev S512 : Shape := ⟨1, ![512]⟩
abbrev S256 : Shape := ⟨1, ![256]⟩
abbrev S32x1x10240 : Shape := ⟨3, ![32, 1, 10240]⟩
abbrev S32x4x128x256 : Shape := ⟨4, ![32, 4, 128, 256]⟩
abbrev S32x1x1024 : Shape := ⟨3, ![32, 1, 1024]⟩
abbrev S1x1x10240 : Shape := ⟨3, ![1, 1, 10240]⟩
abbrev S1x4x128x256 : Shape := ⟨4, ![1, 4, 128, 256]⟩
abbrev S1x1x1024 : Shape := ⟨3, ![1, 1, 1024]⟩
abbrev S1x10240 : Shape := ⟨2, ![1, 10240]⟩
abbrev S1x128 : Shape := ⟨2, ![1, 128]⟩
abbrev S8x128 : Shape := ⟨2, ![8, 128]⟩
abbrev S8x512 : Shape := ⟨2, ![8, 512]⟩
abbrev S1x1x128x256 : Shape := ⟨4, ![1, 1, 128, 256]⟩
abbrev S128x256 : Shape := ⟨2, ![128, 256]⟩
abbrev S128x128 : Shape := ⟨2, ![128, 128]⟩
abbrev S1x1 : Shape := ⟨2, ![1, 1]⟩
abbrev S1x1x256 : Shape := ⟨3, ![1, 1, 256]⟩

abbrev nBuf : Space → Nat
  | .hbm => 44
  | .vmem => 11
  | .smem => 0
  | _ => 0

abbrev bufTy : (tb : Table) → Fin (tcTables nBuf tb) → BufTy
  | .hbm, ⟨0, _⟩ => ⟨S32x9744, .f32⟩
  | .hbm, ⟨1, _⟩ => ⟨S1x32x4x128x256, .f32⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S32x512, .f32⟩
  | .hbm, ⟨6, _⟩ => ⟨S32x512, .f32⟩
  | .hbm, ⟨7, _⟩ => ⟨S32x1024, .f32⟩
  | .hbm, ⟨8, _⟩ => ⟨S32x1024, .f32⟩
  | .hbm, ⟨9, _⟩ => ⟨S32x16, .f32⟩
  | .hbm, ⟨10, _⟩ => ⟨S32x1536, .f32⟩
  | .hbm, ⟨11, _⟩ => ⟨S32x1536, .f32⟩
  | .hbm, ⟨12, _⟩ => ⟨S32x1536, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x496, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x7168, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x1536, .f32⟩
  | .hbm, ⟨25, _⟩ => ⟨S32x512, .f32⟩
  | .hbm, ⟨26, _⟩ => ⟨S32x512, .f32⟩
  | .hbm, ⟨27, _⟩ => ⟨S32x512, .f32⟩
  | .hbm, ⟨28, _⟩ => ⟨S32x1536, .f32⟩
  | .hbm, ⟨29, _⟩ => ⟨S32x10240, .f32⟩
  | .hbm, ⟨30, _⟩ => ⟨S_, .f32⟩
  | .hbm, ⟨31, _⟩ => ⟨S128x512, .f32⟩
  | .hbm, ⟨32, _⟩ => ⟨S16x512, .f32⟩
  | .hbm, ⟨33, _⟩ => ⟨S_, .i32⟩
  | .hbm, ⟨34, _⟩ => ⟨S1, .i32⟩
  | .hbm, ⟨35, _⟩ => ⟨S128x512, .f32⟩
  | .hbm, ⟨36, _⟩ => ⟨S512, .f32⟩
  | .hbm, ⟨37, _⟩ => ⟨S1x512, .f32⟩
  | .hbm, ⟨38, _⟩ => ⟨S256, .f32⟩
  | .hbm, ⟨39, _⟩ => ⟨S1x256, .f32⟩
  | .hbm, ⟨40, _⟩ => ⟨S32x1x10240, .f32⟩
  | .hbm, ⟨41, _⟩ => ⟨S32x4x128x256, .f32⟩
  | .hbm, ⟨42, _⟩ => ⟨S32x1x1024, .f32⟩
  | .hbm, ⟨43, _⟩ => ⟨S32x4x128x256, .f32⟩
  | .local _ .vmem, ⟨0, _⟩ => ⟨S1x1x10240, .f32⟩
  | .local _ .vmem, ⟨1, _⟩ => ⟨S1x1x10240, .f32⟩
  | .local _ .vmem, ⟨2, _⟩ => ⟨S1x4x128x256, .f32⟩
  | .local _ .vmem, ⟨3, _⟩ => ⟨S1x4x128x256, .f32⟩
  | .local _ .vmem, ⟨4, _⟩ => ⟨S128x512, .f32⟩
  | .local _ .vmem, ⟨5, _⟩ => ⟨S1x512, .f32⟩
  | .local _ .vmem, ⟨6, _⟩ => ⟨S1x256, .f32⟩
  | .local _ .vmem, ⟨7, _⟩ => ⟨S1x1x1024, .f32⟩
  | .local _ .vmem, ⟨8, _⟩ => ⟨S1x1x1024, .f32⟩
  | .local _ .vmem, ⟨9, _⟩ => ⟨S1x4x128x256, .f32⟩
  | .local _ .vmem, ⟨10, _⟩ => ⟨S1x4x128x256, .f32⟩
  | _, _ => ⟨S32x9744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S32x9744 : Shape := ⟨2, ![32, 9744]⟩
abbrev S1x32x4x128x256 : Shape := ⟨5, ![1, 32, 4, 128, 256]⟩
abbrev S1x16x512 : Shape := ⟨3, ![1, 16, 512]⟩
abbrev S1x512 : Shape := ⟨2, ![1, 512]⟩
abbrev S1x256 : Shape := ⟨2, ![1, 256]⟩
abbrev S32x1x9744 : Shape := ⟨3, ![32, 1, 9744]⟩
abbrev S32x1x512 : Shape := ⟨3, ![32, 1, 512]⟩
abbrev S32x1x1024 : Shape := ⟨3, ![32, 1, 1024]⟩
abbrev S32x1x16 : Shape := ⟨3, ![32, 1, 16]⟩
abbrev S32x1x1536 : Shape := ⟨3, ![32, 1, 1536]⟩
abbrev S16x512 : Shape := ⟨2, ![16, 512]⟩
abbrev S512 : Shape := ⟨1, ![512]⟩
abbrev S1x1x512 : Shape := ⟨3, ![1, 1, 512]⟩
abbrev S_ : Shape := ⟨0, ![]⟩
abbrev S32x1x4x128 : Shape := ⟨4, ![32, 1, 4, 128]⟩
abbrev S32x4x1x128 : Shape := ⟨4, ![32, 4, 1, 128]⟩
abbrev S32x1x4x256 : Shape := ⟨4, ![32, 1, 4, 256]⟩
abbrev S32x4x1x256 : Shape := ⟨4, ![32, 4, 1, 256]⟩
abbrev S32x4x128x256 : Shape := ⟨4, ![32, 4, 128, 256]⟩
abbrev S32x4x128 : Shape := ⟨3, ![32, 4, 128]⟩
abbrev S32x4x128x1 : Shape := ⟨4, ![32, 4, 128, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x9744, .f32⟩
  | .hbm, ⟨1, _⟩ => ⟨S1x32x4x128x256, .f32⟩
  | .hbm, ⟨2, _⟩ => ⟨S1x16x512, .f32⟩
  | .hbm, ⟨3, _⟩ => ⟨S1x512, .f32⟩
  | .hbm, ⟨4, _⟩ => ⟨S1x256, .f32⟩
  | .hbm, ⟨5, _⟩ => ⟨S32x1x9744, .f32⟩
  | .hbm, ⟨6, _⟩ => ⟨S32x1x512, .f32⟩
  | .hbm, ⟨7, _⟩ => ⟨S32x1x512, .f32⟩
  | .hbm, ⟨8, _⟩ => ⟨S32x1x1024, .f32⟩
  | .hbm, ⟨9, _⟩ => ⟨S32x1x1024, .f32⟩
  | .hbm, ⟨10, _⟩ => ⟨S32x1x16, .f32⟩
  | .hbm, ⟨11, _⟩ => ⟨S32x1x1536, .f32⟩
  | .hbm, ⟨12, _⟩ => ⟨S32x1x1536, .f32⟩
  | .hbm, ⟨13, _⟩ => ⟨S32x1x1536, .f32⟩
  | .hbm, ⟨14, _⟩ => ⟨S32x1x1024, .f32⟩
  | .hbm, ⟨15, _⟩ => ⟨S32x1x1024, .f32⟩
  | .hbm, ⟨16, _⟩ => ⟨S16x512, .f32⟩
  | .hbm, ⟨17, _⟩ => ⟨S32x1x512, .f32⟩
  | .hbm, ⟨18, _⟩ => ⟨S512, .f32⟩
  | .hbm, ⟨19, _⟩ => ⟨S1x1x512, .f32⟩
  | .hbm, ⟨20, _⟩ => ⟨S32x1x512, .f32⟩
  | .hbm, ⟨21, _⟩ => ⟨S32x1x512, .f32⟩
  | .hbm, ⟨22, _⟩ => ⟨S32x1x512, .f32⟩
  | .hbm, ⟨23, _⟩ => ⟨S_, .f32⟩
  | .hbm, ⟨24, _⟩ => ⟨S32x1x512, .f32⟩
  | .hbm, ⟨25, _⟩ => ⟨S32x1x512, .f32⟩
  | .hbm, ⟨26, _⟩ => ⟨S32x1x512, .f32⟩
  | .hbm, ⟨27, _⟩ => ⟨S32x1x512, .f32⟩
  | .hbm, ⟨28, _⟩ => ⟨S32x1x512, .i1⟩
  | .hbm, ⟨29, _⟩ => ⟨S32x1x512, .f32⟩
  | .hbm, ⟨30, _⟩ => ⟨S32x1x512, .f32⟩
  | .hbm, ⟨31, _⟩ => ⟨S32x1x512, .f32⟩
  | .hbm, ⟨32, _⟩ => ⟨S32x1x512, .f32⟩
  | .hbm, ⟨33, _⟩ => ⟨S32x1x512, .f32⟩
  | .hbm, ⟨34, _⟩ => ⟨S32x1x512, .f32⟩
  | .hbm, ⟨35, _⟩ => ⟨S32x1x512, .f32⟩
  | .hbm, ⟨36, _⟩ => ⟨S32x1x512, .f32⟩
  | .hbm, ⟨37, _⟩ => ⟨S32x1x512, .f32⟩
  | .hbm, ⟨38, _⟩ => ⟨S_, .f32⟩
  | .hbm, ⟨39, _⟩ => ⟨S32x1x512, .f32⟩
  | .hbm, ⟨40, _⟩ => ⟨S32x1x512, .f32⟩
  | .hbm, ⟨41, _⟩ => ⟨S32x1x4x128, .f32⟩
  | .hbm, ⟨42, _⟩ => ⟨S32x4x1x128, .f32⟩
  | .hbm, ⟨43, _⟩ => ⟨S32x1x4x256, .f32⟩
  | .hbm, ⟨44, _⟩ => ⟨S32x4x1x256, .f32⟩
  | .hbm, ⟨45, _⟩ => ⟨S32x1x4x128, .f32⟩
  | .hbm, ⟨46, _⟩ => ⟨S32x4x1x128, .f32⟩
  | .hbm, ⟨47, _⟩ => ⟨S32x4x128x256, .f32⟩
  | .hbm, ⟨48, _⟩ => ⟨S_, .f32⟩
  | .hbm, ⟨49, _⟩ => ⟨S_, .f32⟩
  | .hbm, ⟨50, _⟩ => ⟨S32x4x1x128, .f32⟩
  | .hbm, ⟨51, _⟩ => ⟨S32x4x1x128, .f32⟩
  | .hbm, ⟨52, _⟩ => ⟨S32x4x128, .f32⟩
  | .hbm, ⟨53, _⟩ => ⟨S32x4x128x1, .f32⟩
  | .hbm, ⟨54, _⟩ => ⟨S32x4x128x256, .f32⟩
  | .hbm, ⟨55, _⟩ => ⟨S32x4x128x256, .f32⟩
  | .hbm, ⟨56, _⟩ => ⟨S32x4x1x128, .f32⟩
  | .hbm, ⟨57, _⟩ => ⟨S32x4x1x128, .f32⟩
  | .hbm, ⟨58, _⟩ => ⟨S32x4x1x128, .f32⟩
  | .hbm, ⟨59, _⟩ => ⟨S32x4x128x256, .f32⟩
  | .hbm, ⟨60, _⟩ => ⟨S32x4x128x256, .f32⟩
  | _, _ => ⟨S32x9744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_call0_cst : Ref sig .tc := ⟨.hbm, 48, rfl⟩
abbrev main_call1_call0_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Proof.Shift.lean ====
/- What the shifted cache holds, as one function of the projection row and the old cache: row `r` of a sequence is the
   old row `r + 1`, and the last row is the new token's key (from column 4624) and value (from column 6160). -/
module

public import Idealize.ShloMosaic.Lib.Pipeline.ValueKit
public import Idealize.ShloMosaic.Lib.Pointwise

@[expose] public section

noncomputable section

namespace Cert.Shift

open Idealize.ShloMosaic

variable {α : Type}

/-- The shapes of the projection, of a cache of `n` rows, and of the cache without its layer axis. -/
abbrev SP : Shape := ⟨2, ![32, 9744]⟩
abbrev SC (n : Nat) : Shape := ⟨6, ![1, 32, n, 2, 4, 128]⟩
abbrev SO (n : Nat) : Shape := ⟨5, ![32, n, 2, 4, 128]⟩

/-- The projection's column that holds entry `(s, h, e)` of the new row of group `g`. -/
def col (g : Nat) (hg : g < 3) (s : Fin 2) (h : Fin 4) (e : Fin 128) : Fin 9744 :=
  ⟨4624 + s.val * 1536 + g * 512 + h.val * 128 + e.val, by omega⟩

/-- The shifted cache. -/
def shifted (n : Nat) (g : Nat) (hg : g < 3) (p : SP.Idx → α) (x : (SC n).Idx → α) : (SO n).Idx → α := fun i =>
  if h : (i 1).val + 1 < n then x (ix6 (0 : Fin 1) (i 0 : Fin 32) (⟨(i 1).val + 1, h⟩ : Fin n) (i 2 : Fin 2) (i 3 : Fin 4) (i 4 : Fin 128))
  else p (ix2 (i 0 : Fin 32) (col g hg (i 2) (i 3) (i 4)))

/-- The old rows, one place up. -/
theorem shifted_old (n g : Nat) (hg : g < 3) (p : SP.Idx → α) (x : (SC n).Idx → α) (i j : (SO n).Idx)
    (e0 : (j 0).val = (i 0).val) (e1 : (j 1).val = (i 1).val + 1) (e2 : (j 2).val = (i 2).val) (e3 : (j 3).val = (i 3).val)
    (e4 : (j 4).val = (i 4).val) :
    x (ix6 (0 : Fin 1) (j 0 : Fin 32) (j 1 : Fin n) (j 2 : Fin 2) (j 3 : Fin 4) (j 4 : Fin 128)) = shifted n g hg p x i := by
  have hj : (j 1).val < n := (j 1).isLt
  refine Eq.trans ?_ (dif_pos (by omega)).symm
  have f0 : (j 0 : Fin 32) = (i 0 : Fin 32) := Fin.ext e0
  have f1 : (j 1 : Fin n) = ⟨(i 1).val + 1, by omega⟩ := Fin.ext e1
  have f2 : (j 2 : Fin 2) = (i 2 : Fin 2) := Fin.ext e2
  have f3 : (j 3 : Fin 4) = (i 3 : Fin 4) := Fin.ext e3
  have f4 : (j 4 : Fin 128) = (i 4 : Fin 128) := Fin.ext e4
  rw [f0, f1, f2, f3, f4]; rfl

/-- The last row: the new token's. -/
theorem shifted_new (n g : Nat) (hg : g < 3) (p : SP.Idx → α) (x : (SC n).Idx → α) (i : (SO n).Idx) (j : (SO 1).Idx)
    (e0 : (j 0).val = (i 0).val) (e1 : (i 1).val + 1 = n) (e2 : (j 2).val = (i 2).val) (e3 : (j 3).val = (i 3).val)
    (e4 : (j 4).val = (i 4).val) :
    p (ix2 (j 0 : Fin 32) (col g hg (j 2) (j 3) (j 4))) = shifted n g hg p x i := by
  refine Eq.trans ?_ (dif_neg (by omega)).symm
  have f0 : (j 0 : Fin 32) = (i 0 : Fin 32) := Fin.ext e0
  have f2 : (j 2 : Fin 2) = (i 2 : Fin 2) := Fin.ext e2
  have f3 : (j 3 : Fin 4) = (i 3 : Fin 4) := Fin.ext e3
  have f4 : (j 4 : Fin 128) = (i 4 : Fin 128) := Fin.ext e4
  rw [f0, f2, f3, f4]

/-- A block of `k + 1` rows is covered by its first `k` rows and its last row. -/
theorem cover_rows {Val : EltTy → Type} {e : EltTy} (k : Nat) (y : (⟨5, ![1, k + 1, 2, 4, 128]⟩ : Shape).Idx)
    (inb1 : ∀ a, (![0, k, 0, 0, 0] : Fin 5 → Nat) a + (![1, 1, 2, 4, 128] : Fin 5 → Nat) a ≤ (⟨5, ![1, k + 1, 2, 4, 128]⟩ : Shape).size a)
    (inb0 : ∀ a, (![0, 0, 0, 0, 0] : Fin 5 → Nat) a + (![1, k, 2, 4, 128] : Fin 5 → Nat) a ≤ (⟨5, ![1, k + 1, 2, 4, 128]⟩ : Shape).size a)
    (w1 : (Rect.unit (s := (⟨5, ![1, k + 1, 2, 4, 128]⟩ : Shape)) ![0, k, 0, 0, 0] ![1, 1, 2, 4, 128] inb1).shape.Idx → Val e)
    (w0 : (Rect.unit (s := (⟨5, ![1, k + 1, 2, 4, 128]⟩ : Shape)) ![0, 0, 0, 0, 0] ![1, k, 2, 4, 128] inb0).shape.Idx → Val e) :
    ∃ p ∈ ([⟨Rect.unit ![0, k, 0, 0, 0] ![1, 1, 2, 4, 128] inb1, w1⟩, ⟨Rect.unit ![0, 0, 0, 0, 0] ![1, k, 2, 4, 128] inb0, w0⟩] :
      List (View.Piece Val (⟨5, ![1, k + 1, 2, 4, 128]⟩ : Shape) e)), y ∈ p.1.set := by
  have h0 : (y 0).val < 1 := (y 0).isLt
  have h1 : (y 1).val < k + 1 := (y 1).isLt
  have h2 : (y 2).val < 2 := (y 2).isLt
  have h3 : (y 3).val < 4 := (y 3).isLt
  have h4 : (y 4).val < 128 := (y 4).isLt
  by_cases h : (y 1).val < k
  · refine ⟨_, List.mem_cons_of_mem _ List.mem_cons_self, ?_⟩
    show y ∈ (Rect.unit ![0, 0, 0, 0, 0] ![1, k, 2, 4, 128] inb0).set
    rw [Rect.mem_set_unit]
    intro a
    match a with
    | ⟨0, _⟩ => exact ⟨Nat.zero_le _, by show (y 0).val < 0 + 1; omega⟩
    | ⟨1, _⟩ => exact ⟨Nat.zero_le _, by show (y 1).val < 0 + k; omega⟩
    | ⟨2, _⟩ => exact ⟨Nat.zero_le _, by show (y 2).val < 0 + 2; omega⟩
    | ⟨3, _⟩ => exact ⟨Nat.zero_le _, by show (y 3).val < 0 + 4; omega⟩
    | ⟨4, _⟩ => exact ⟨Nat.zero_le _, by show (y 4).val < 0 + 128; omega⟩
  · refine ⟨_, List.mem_cons_self, ?_⟩
    show y ∈ (Rect.unit ![0, k, 0, 0, 0] ![1, 1, 2, 4, 128] inb1).set
    rw [Rect.mem_set_unit]
    intro a
    match a with
    | ⟨0, _⟩ => exact ⟨Nat.zero_le _, by show (y 0).val < 0 + 1; omega⟩
    | ⟨1, _⟩ => exact ⟨by show k ≤ (y 1).val; omega, by show (y 1).val < k + 1; omega⟩
    | ⟨2, _⟩ => exact ⟨Nat.zero_le _, by show (y 2).val < 0 + 2; omega⟩
    | ⟨3, _⟩ => exact ⟨Nat.zero_le _, by show (y 3).val < 0 + 4; omega⟩
    | ⟨4, _⟩ => exact ⟨Nat.zero_le _, by show (y 4).val < 0 + 128; omega⟩

end Cert.Shift

end
-- ==== Proof.ShiftRef1.lean ====
/- The reference's lines of the first group's cache, entry by entry. -/
module

public import proofs.«01_k».proof.Proof.Gen.ReferenceIdeal
public import proofs.«01_k».proof.Proof.Shift

@[expose] public section

set_option maxRecDepth 16384

noncomputable section

namespace Cert.Shift

open Cert.ReferenceIdeal Cert.ReferenceIdeal.Gen Idealize.ShloMosaic

variable {F : FTy → Type} [FloatOps F]

set_option maxHeartbeats 1000000 in
/-- The old rows and the new row joined, from row 1 on: the shifted cache. -/
theorem reference1 (P : (⟨S32x9744, .f32⟩ : BufTy).Contents (Elt F)) (X : (⟨S1x32x128x2x4x128, .f32⟩ : BufTy).Contents (Elt F)) :
    extractStridedSlice S32x128x2x4x128 ![0, 1, 0, 0, 0] (concatenate S32x129x2x4x128 1 [⟨S32x128x2x4x128, (shapeCast _ X shapeCasts_S1x32x128x2x4x128_S32x128x2x4x128)⟩, ⟨S32x1x2x4x128, (concatenate S32x1x2x4x128 2 [⟨S32x1x1x4x128, (broadcastInDim S32x1x1x4x128 ![0, 1, 3, 4] bcast_S32x1x4x128_S32x1x1x4x128_0_1_3_4 (shapeCast _ (extractStridedSlice S32x1x1x4x128 ![0, 0, 0, 0, 0] (shapeCast _ (extractStridedSlice S32x1x1536 ![0, 0, 4624] (broadcastInDim S32x1x9744 ![0, 2] bcast_S32x9744_S32x1x9744_0_2 P) slices_S32x1x9744_S32x1x1536_0_0_4624) shapeCasts_S32x1x1536_S32x1x3x4x128) slices_S32x1x3x4x128_S32x1x1x4x128_0_0_0_0_0) shapeCasts_S32x1x1x4x128_S32x1x4x128))⟩, ⟨S32x1x1x4x128, (broadcastInDim S32x1x1x4x128 ![0, 1, 3, 4] bcast_S32x1x4x128_S32x1x1x4x128_0_1_3_4 (shapeCast _ (extractStridedSlice S32x1x1x4x128 ![0, 0, 0, 0, 0] (shapeCast _ (extractStridedSlice S32x1x1536 ![0, 0, 6160] (broadcastInDim S32x1x9744 ![0, 2] bcast_S32x9744_S32x1x9744_0_2 P) slices_S32x1x9744_S32x1x1536_0_0_6160) shapeCasts_S32x1x1536_S32x1x3x4x128) slices_S32x1x3x4x128_S32x1x1x4x128_0_0_0_0_0) shapeCasts_S32x1x1x4x128_S32x1x4x128))⟩] concatenates_S32x1x1x4x128_S32x1x1x4x128_S32x1x2x4x128_d2)⟩] concatenates_S32x128x2x4x128_S32x1x2x4x128_S32x129x2x4x128_d1) slices_S32x129x2x4x128_S32x128x2x4x128_0_1_0_0_0
      = shifted 128 0 (by decide) P X := by
  funext i
  idx_vars i
  pointwise [shifted]
  by_cases h : i1.val + 1 < 128
  · refine (dif_pos (by omega)).trans (Eq.trans ?_ (dif_pos h).symm)
    exact congrArg X (congrArg (ix6 0 i0 · i2 i3 i4) (Fin.ext (Nat.add_comm _ _)))
  · refine (dif_neg (by omega)).trans (Eq.trans ?_ (dif_neg h).symm)
    by_cases hs : i2.val < 1
    · refine (dif_pos hs).trans (congrArg P (congrArg (ix2 i0) (Fin.ext ?_))); simp only [col]; omega
    · refine (dif_neg hs).trans (congrArg P (congrArg (ix2 i0) (Fin.ext ?_))); simp only [col]; omega

end Cert.Shift

end
-- ==== Proof.Shift1.lean ====
/- The cache shift of the first group (read over the reals): what the kernel's result array holds after the run. -/
module

public import proofs.«01_k».proof.Defs
public import proofs.«01_k».proof.Proof.Gen.KernelIdeal.Value
public import proofs.«01_k».proof.Proof.Gen.ReferenceIdeal.Run
public import proofs.«01_k».proof.Proof.ShiftRef1
public import Idealize.ShloMosaic.Lib.Claim
public import Idealize.ShloMosaic.Lib.Quiescent

@[expose] public section

set_option maxRecDepth 16384

noncomputable section

namespace Cert.KernelIdeal.RefValue

open Cert.KernelIdeal Cert.KernelIdeal.Gen Cert.Shift Idealize.ShloMosaic Idealize.ShloMosaic.TcCoe Idealize.SL.Sem
open Idealize.ShloMosaic.Pipeline (Dat)

section Final

variable {F : FTy → Type} [FloatOps F]
variable (m : (ℓ : Loc nD τ sig) → Buf (Elt F) ℓ)

/-- The windows' places at a point: the cache's in elements, the other two in blocks. -/
theorem idx0 : ∀ t : Fin cfg0.N, win0_0.index t = ![t.val, 0, 0, 0, 0] :=
  (by decide +kernel : ∀ t : Fin grid0.N, _)
theorem idx1 : ∀ t : Fin cfg0.N, win0_1.index t = ![t.val, 0, 0, 0, 0] :=
  (by decide +kernel : ∀ t : Fin grid0.N, _)
theorem idx2 : ∀ t : Fin cfg0.N, win0_2.index t = ![t.val, 0, 0, 0, 0] :=
  (by decide +kernel : ∀ t : Fin grid0.N, _)

/-- An entry of the cache's block sits at the block's element offset plus its own place. -/
theorem emb0 (t : Fin cfg0.N) (z : (win0_0.xblock (grid0.coords t)).Idx) (a : Fin 5) :
    ((win0_0.rect t).emb z a : Nat) = win0_0.index t a + (z a : Nat) :=
  win0_0.rect_emb_val_off t z a

theorem cache_apply (X : (⟨S1x32x128x2x4x128, .f32⟩ : BufTy).Contents (Elt F)) (i : S32x128x2x4x128.Idx) :
    shapeCast S32x128x2x4x128 X shapeCasts_S1x32x128x2x4x128_S32x128x2x4x128 i = X (ix6 (0 : Fin 1) (i 0 : Fin 32) (i 1 : Fin 128) (i 2 : Fin 2) (i 3 : Fin 4) (i 4 : Fin 128)) := by
  pointwise

/-- The cache the kernel is handed: the argument without its layer axis. -/
theorem V_cache (c : Dev nD) (i : S32x128x2x4x128.Idx) : V m c main_v0 i = m ((c : Thread nD τ).loc main_arg1) (ix6 (0 : Fin 1) (i 0 : Fin 32) (i 1 : Fin 128) (i 2 : Fin 2) (i 3 : Fin 4) (i 4 : Fin 128)) := by
  have e : V m c main_v0 = shapeCast S32x128x2x4x128 (m ((c : Thread nD τ).loc main_arg1)) shapeCasts_S1x32x128x2x4x128_S32x128x2x4x128 := by
    unfold V; after_results <;> rfl
  rw [e]
  exact cache_apply _ i

/-- The host code's new row, as it computes it: columns of the reordered projection. -/
def row (P : (⟨S32x9744, .f32⟩ : BufTy).Contents (Elt F)) : (⟨S32x1x2x4x128, .f32⟩ : BufTy).Contents (Elt F) :=
  (shapeCast S32x1x2x4x128 (extractStridedSlice S32x1024 ![0, 5632] (concatenate S32x10240 1 [⟨S32x7168, (concatenate S32x7168 1 [⟨S32x512, (extractStridedSlice S32x512 ![0, 0] P slices_S32x9744_S32x512_0_0)⟩, ⟨S32x512, (extractStridedSlice S32x512 ![0, 512] P slices_S32x9744_S32x512_0_512)⟩, ⟨S32x1024, (extractStridedSlice S32x1024 ![0, 1024] P slices_S32x9744_S32x1024_0_1024)⟩, ⟨S32x1024, (extractStridedSlice S32x1024 ![0, 2048] P slices_S32x9744_S32x1024_0_2048)⟩, ⟨S32x1024, (extractStridedSlice S32x1024 ![0, 7696] P slices_S32x9744_S32x1024_0_7696)⟩, ⟨S32x1024, (extractStridedSlice S32x1024 ![0, 8720] P slices_S32x9744_S32x1024_0_8720)⟩, ⟨S32x512, (extractStridedSlice S32x512 ![0, 0] (extractStridedSlice S32x1536 ![0, 3088] P slices_S32x9744_S32x1536_0_3088) slices_S32x1536_S32x512_0_0)⟩, ⟨S32x512, (extractStridedSlice S32x512 ![0, 0] (extractStridedSlice S32x1536 ![0, 4624] P slices_S32x9744_S32x1536_0_4624) slices_S32x1536_S32x512_0_0)⟩, ⟨S32x512, (extractStridedSlice S32x512 ![0, 0] (extractStridedSlice S32x1536 ![0, 6160] P slices_S32x9744_S32x1536_0_6160) slices_S32x1536_S32x512_0_0)⟩, ⟨S32x16, (extractStridedSlice S32x16 ![0, 3072] P slices_S32x9744_S32x16_0_3072)⟩, ⟨S32x496, (broadcastInDim S32x496 ![] bcast_S_S32x496 (constant S_ .f32 0x00000000#32))⟩] concatenates_S32x512_S32x512_S32x1024_S32x1024_S32x1024_S32x1024_S32x512_S32x512_S32x512_S32x16_S32x496_S32x7168_d1 : (⟨S32x7168, .f32⟩ : BufTy).Contents (Elt F))⟩, ⟨S32x1536, (concatenate S32x1536 1 [⟨S32x512, (extractStridedSlice S32x512 ![0, 512] (extractStridedSlice S32x1536 ![0, 3088] P slices_S32x9744_S32x1536_0_3088) slices_S32x1536_S32x512_0_512)⟩, ⟨S32x512, (extractStridedSlice S32x512 ![0, 512] (extractStridedSlice S32x1536 ![0, 4624] P slices_S32x9744_S32x1536_0_4624) slices_S32x1536_S32x512_0_512)⟩, ⟨S32x512, (extractStridedSlice S32x512 ![0, 512] (extractStridedSlice S32x1536 ![0, 6160] P slices_S32x9744_S32x1536_0_6160) slices_S32x1536_S32x512_0_512)⟩] concatenates_S32x512_S32x512_S32x512_S32x1536_d1 : (⟨S32x1536, .f32⟩ : BufTy).Contents (Elt F))⟩, ⟨S32x1536, (concatenate S32x1536 1 [⟨S32x512, (extractStridedSlice S32x512 ![0, 1024] (extractStridedSlice S32x1536 ![0, 3088] P slices_S32x9744_S32x1536_0_3088) slices_S32x1536_S32x512_0_1024)⟩, ⟨S32x512, (extractStridedSlice S32x512 ![0, 1024] (extractStridedSlice S32x1536 ![0, 4624] P slices_S32x9744_S32x1536_0_4624) slices_S32x1536_S32x512_0_1024)⟩, ⟨S32x512, (extractStridedSlice S32x512 ![0, 1024] (extractStridedSlice S32x1536 ![0, 6160] P slices_S32x9744_S32x1536_0_6160) slices_S32x1536_S32x512_0_1024)⟩] concatenates_S32x512_S32x512_S32x512_S32x1536_d1 : (⟨S32x1536, .f32⟩ : BufTy).Contents (Elt F))⟩] concatenates_S32x7168_S32x1536_S32x1536_S32x10240_d1 : (⟨S32x10240, .f32⟩ : BufTy).Contents (Elt F)) slices_S32x10240_S32x1024_0_5632) shapeCasts_S32x1024_S32x1x2x4x128)

theorem row_apply (P : (⟨S32x9744, .f32⟩ : BufTy).Contents (Elt F)) (i : S32x1x2x4x128.Idx) :
    row P i = P (ix2 (i 0 : Fin 32) (col 0 (by decide) (i 2) (i 3) (i 4))) := by
  idx_vars i
  pointwise [row]
  have hs : i2.val = 0 ∨ i2.val = 1 := by omega
  rcases hs with hs | hs <;>
    (repeat first | refine (dif_pos (by omega)).trans ?_ | refine (dif_neg (by omega)).trans ?_) <;>
    (refine congrArg P (congrArg (ix2 i0) (Fin.ext ?_)); simp only [col]; omega)

theorem V_row_eq (c : Dev nD) : V m c main_v26 = row (m ((c : Thread nD τ).loc main_arg0)) := by
  unfold V row
  after_results <;> rfl

/-- The new row the kernel is handed. -/
theorem V_row (c : Dev nD) (i : S32x1x2x4x128.Idx) : V m c main_v26 i = m ((c : Thread nD τ).loc main_arg0) (ix2 (i 0 : Fin 32) (col 0 (by decide) (i 2) (i 3) (i 4))) := by
  rw [V_row_eq m c]; exact row_apply _ i

theorem covers : (cfg0.win 2).Covers := (by decide +kernel : win0_2.Covers)

/-- What the result array is shown to hold. -/
abbrev G (c : Dev nD) : Buf (Elt F) ((c : Thread nD τ).loc main_v27) :=
  shifted 128 0 (by decide) (m ((c : Thread nD τ).loc main_arg0)) (m ((c : Thread nD τ).loc main_arg1))

set_option maxHeartbeats 1000000 in
theorem final (c : Dev nD) : (dats m 0 c).arrAt 2 cfg0.N = G m c := by
  refine (dats m 0 c).arrAt_eq_of_covers 2 (G m c) covers fun t hf y => ?_
  blk_simp
  rw [after0_2]
  unfold outsAt0
  frame_out
  canon_tiles x h using cover_rows 127 y _ _ _ _
  · pointwise [k0_pay3]
    blk_simp [iblk]
    rw [V_row]
    refine shifted_new 128 0 _ _ _ _ ((win0_1.blk t).view.emb x) ?_ ?_ ?_ ?_ ?_ <;> blk_simp [idx1, idx2] <;> simp <;> omega
  · pointwise [k0_pay2]
    blk_simp [iblk]
    rw [V_cache]
    refine shifted_old 128 0 _ _ _ _ ((win0_0.blk t).view.emb (ix5 0 ⟨1 + (x 1).val, _⟩ (x 2) (x 3) (x 4))) ?_ ?_ ?_ ?_ ?_ <;>
      refine (emb0 t _ _).trans ?_ <;> rw [idx0] <;> blk_simp [idx2] <;> simp <;> omega

end Final

set_option maxHeartbeats 1000000 in
/-- The kernel and the reference end with the same cache. -/
theorem algebraic : Cert.algebraic_KernelIdeal_ReferenceIdeal := by
  pair_intro
  · run_from Cert.KernelIdeal.Value.run_blocks m g
  · run_from Cert.ReferenceIdeal.Value.run m' g'
    rw [final m c]
    exact reference1 _ _

/-- The kernel's frame. -/
theorem frame : Cert.quiescent_KernelIdeal := fun m g _ => Cert.KernelIdeal.Gen.frame m g

/-- The reference's frame. -/
theorem frame_reference : Cert.quiescent_ReferenceIdeal := fun m g _ =>
  (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m g)

end Cert.KernelIdeal.RefValue

end
-- ==== Proof.ShiftRef2.lean ====
/- The reference's lines of the second group's cache, entry by entry. -/
module

public import proofs.«01_k».proof.Proof.Gen.Reference2Ideal
public import proofs.«01_k».proof.Proof.Shift

@[expose] public section

set_option maxRecDepth 16384

noncomputable section

namespace Cert.Shift

open Cert.Reference2Ideal Cert.Reference2Ideal.Gen Idealize.ShloMosaic

variable {F : FTy → Type} [FloatOps F]

set_option maxHeartbeats 1000000 in
/-- The old rows and the new row joined, from row 1 on: the shifted cache. -/
theorem reference2 (P : (⟨S32x9744, .f32⟩ : BufTy).Contents (Elt F)) (X : (⟨S1x32x512x2x4x128, .f32⟩ : BufTy).Contents (Elt F)) :
    extractStridedSlice S32x512x2x4x128 ![0, 1, 0, 0, 0] (concatenate S32x513x2x4x128 1 [⟨S32x512x2x4x128, (shapeCast _ X shapeCasts_S1x32x512x2x4x128_S32x512x2x4x128)⟩, ⟨S32x1x2x4x128, (concatenate S32x1x2x4x128 2 [⟨S32x1x1x4x128, (broadcastInDim S32x1x1x4x128 ![0, 1, 3, 4] bcast_S32x1x4x128_S32x1x1x4x128_0_1_3_4 (shapeCast _ (extractStridedSlice S32x1x1x4x128 ![0, 0, 1, 0, 0] (shapeCast _ (extractStridedSlice S32x1x1536 ![0, 0, 4624] (broadcastInDim S32x1x9744 ![0, 2] bcast_S32x9744_S32x1x9744_0_2 P) slices_S32x1x9744_S32x1x1536_0_0_4624) shapeCasts_S32x1x1536_S32x1x3x4x128) slices_S32x1x3x4x128_S32x1x1x4x128_0_0_1_0_0) shapeCasts_S32x1x1x4x128_S32x1x4x128))⟩, ⟨S32x1x1x4x128, (broadcastInDim S32x1x1x4x128 ![0, 1, 3, 4] bcast_S32x1x4x128_S32x1x1x4x128_0_1_3_4 (shapeCast _ (extractStridedSlice S32x1x1x4x128 ![0, 0, 1, 0, 0] (shapeCast _ (extractStridedSlice S32x1x1536 ![0, 0, 6160] (broadcastInDim S32x1x9744 ![0, 2] bcast_S32x9744_S32x1x9744_0_2 P) slices_S32x1x9744_S32x1x1536_0_0_6160) shapeCasts_S32x1x1536_S32x1x3x4x128) slices_S32x1x3x4x128_S32x1x1x4x128_0_0_1_0_0) shapeCasts_S32x1x1x4x128_S32x1x4x128))⟩] concatenates_S32x1x1x4x128_S32x1x1x4x128_S32x1x2x4x128_d2)⟩] concatenates_S32x512x2x4x128_S32x1x2x4x128_S32x513x2x4x128_d1) slices_S32x513x2x4x128_S32x512x2x4x128_0_1_0_0_0
      = shifted 512 1 (by decide) P X := by
  funext i
  idx_vars i
  pointwise [shifted]
  by_cases h : i1.val + 1 < 512
  · refine (dif_pos (by omega)).trans (Eq.trans ?_ (dif_pos h).symm)
    exact congrArg X (congrArg (ix6 0 i0 · i2 i3 i4) (Fin.ext (Nat.add_comm _ _)))
  · refine (dif_neg (by omega)).trans (Eq.trans ?_ (dif_neg h).symm)
    by_cases hs : i2.val < 1
    · refine (dif_pos hs).trans (congrArg P (congrArg (ix2 i0) (Fin.ext ?_))); simp only [col]; omega
    · refine (dif_neg hs).trans (congrArg P (congrArg (ix2 i0) (Fin.ext ?_))); simp only [col]; omega

end Cert.Shift

end
-- ==== Proof.Shift2.lean ====
/- The cache shift of the second group (read over the reals): what the kernel's result array holds after the run. -/
module

public import proofs.«01_k».proof.Defs
public import proofs.«01_k».proof.Proof.Gen.Kernel2Ideal.Value
public import proofs.«01_k».proof.Proof.Gen.Reference2Ideal.Run
public import proofs.«01_k».proof.Proof.ShiftRef2
public import Idealize.ShloMosaic.Lib.Claim
public import Idealize.ShloMosaic.Lib.Quiescent

@[expose] public section

set_option maxRecDepth 16384

noncomputable section

namespace Cert.Kernel2Ideal.RefValue

open Cert.Kernel2Ideal Cert.Kernel2Ideal.Gen Cert.Shift Idealize.ShloMosaic Idealize.ShloMosaic.TcCoe Idealize.SL.Sem
open Idealize.ShloMosaic.Pipeline (Dat)

section Final

variable {F : FTy → Type} [FloatOps F]
variable (m : (ℓ : Loc nD τ sig) → Buf (Elt F) ℓ)

/-- The windows' places at a point: the cache's in elements, the other two in blocks. -/
theorem idx0 : ∀ t : Fin cfg0.N, win0_0.index t = ![t.val, 0, 0, 0, 0] :=
  (by decide +kernel : ∀ t : Fin grid0.N, _)
theorem idx1 : ∀ t : Fin cfg0.N, win0_1.index t = ![t.val, 0, 0, 0, 0] :=
  (by decide +kernel : ∀ t : Fin grid0.N, _)
theorem idx2 : ∀ t : Fin cfg0.N, win0_2.index t = ![t.val, 0, 0, 0, 0] :=
  (by decide +kernel : ∀ t : Fin grid0.N, _)

/-- An entry of the cache's block sits at the block's element offset plus its own place. -/
theorem emb0 (t : Fin cfg0.N) (z : (win0_0.xblock (grid0.coords t)).Idx) (a : Fin 5) :
    ((win0_0.rect t).emb z a : Nat) = win0_0.index t a + (z a : Nat) :=
  win0_0.rect_emb_val_off t z a

theorem cache_apply (X : (⟨S1x32x512x2x4x128, .f32⟩ : BufTy).Contents (Elt F)) (i : S32x512x2x4x128.Idx) :
    shapeCast S32x512x2x4x128 X shapeCasts_S1x32x512x2x4x128_S32x512x2x4x128 i = X (ix6 (0 : Fin 1) (i 0 : Fin 32) (i 1 : Fin 512) (i 2 : Fin 2) (i 3 : Fin 4) (i 4 : Fin 128)) := by
  pointwise

/-- The cache the kernel is handed: the argument without its layer axis. -/
theorem V_cache (c : Dev nD) (i : S32x512x2x4x128.Idx) : V m c main_v0 i = m ((c : Thread nD τ).loc main_arg1) (ix6 (0 : Fin 1) (i 0 : Fin 32) (i 1 : Fin 512) (i 2 : Fin 2) (i 3 : Fin 4) (i 4 : Fin 128)) := by
  have e : V m c main_v0 = shapeCast S32x512x2x4x128 (m ((c : Thread nD τ).loc main_arg1)) shapeCasts_S1x32x512x2x4x128_S32x512x2x4x128 := by
    unfold V; after_results <;> rfl
  rw [e]
  exact cache_apply _ i

/-- The host code's new row, as it computes it: columns of the reordered projection. -/
def row (P : (⟨S32x9744, .f32⟩ : BufTy).Contents (Elt F)) : (⟨S32x1x2x4x128, .f32⟩ : BufTy).Contents (Elt F) :=
  (shapeCast S32x1x2x4x128 (extractStridedSlice S32x1024 ![0, 7680] (concatenate S32x10240 1 [⟨S32x7168, (concatenate S32x7168 1 [⟨S32x512, (extractStridedSlice S32x512 ![0, 0] P slices_S32x9744_S32x512_0_0)⟩, ⟨S32x512, (extractStridedSlice S32x512 ![0, 512] P slices_S32x9744_S32x512_0_512)⟩, ⟨S32x1024, (extractStridedSlice S32x1024 ![0, 1024] P slices_S32x9744_S32x1024_0_1024)⟩, ⟨S32x1024, (extractStridedSlice S32x1024 ![0, 2048] P slices_S32x9744_S32x1024_0_2048)⟩, ⟨S32x1024, (extractStridedSlice S32x1024 ![0, 7696] P slices_S32x9744_S32x1024_0_7696)⟩, ⟨S32x1024, (extractStridedSlice S32x1024 ![0, 8720] P slices_S32x9744_S32x1024_0_8720)⟩, ⟨S32x512, (extractStridedSlice S32x512 ![0, 0] (extractStridedSlice S32x1536 ![0, 3088] P slices_S32x9744_S32x1536_0_3088) slices_S32x1536_S32x512_0_0)⟩, ⟨S32x512, (extractStridedSlice S32x512 ![0, 0] (extractStridedSlice S32x1536 ![0, 4624] P slices_S32x9744_S32x1536_0_4624) slices_S32x1536_S32x512_0_0)⟩, ⟨S32x512, (extractStridedSlice S32x512 ![0, 0] (extractStridedSlice S32x1536 ![0, 6160] P slices_S32x9744_S32x1536_0_6160) slices_S32x1536_S32x512_0_0)⟩, ⟨S32x16, (extractStridedSlice S32x16 ![0, 3072] P slices_S32x9744_S32x16_0_3072)⟩, ⟨S32x496, (broadcastInDim S32x496 ![] bcast_S_S32x496 (constant S_ .f32 0x00000000#32))⟩] concatenates_S32x512_S32x512_S32x1024_S32x1024_S32x1024_S32x1024_S32x512_S32x512_S32x512_S32x16_S32x496_S32x7168_d1 : (⟨S32x7168, .f32⟩ : BufTy).Contents (Elt F))⟩, ⟨S32x1536, (concatenate S32x1536 1 [⟨S32x512, (extractStridedSlice S32x512 ![0, 512] (extractStridedSlice S32x1536 ![0, 3088] P slices_S32x9744_S32x1536_0_3088) slices_S32x1536_S32x512_0_512)⟩, ⟨S32x512, (extractStridedSlice S32x512 ![0, 512] (extractStridedSlice S32x1536 ![0, 4624] P slices_S32x9744_S32x1536_0_4624) slices_S32x1536_S32x512_0_512)⟩, ⟨S32x512, (extractStridedSlice S32x512 ![0, 512] (extractStridedSlice S32x1536 ![0, 6160] P slices_S32x9744_S32x1536_0_6160) slices_S32x1536_S32x512_0_512)⟩] concatenates_S32x512_S32x512_S32x512_S32x1536_d1 : (⟨S32x1536, .f32⟩ : BufTy).Contents (Elt F))⟩, ⟨S32x1536, (concatenate S32x1536 1 [⟨S32x512, (extractStridedSlice S32x512 ![0, 1024] (extractStridedSlice S32x1536 ![0, 3088] P slices_S32x9744_S32x1536_0_3088) slices_S32x1536_S32x512_0_1024)⟩, ⟨S32x512, (extractStridedSlice S32x512 ![0, 1024] (extractStridedSlice S32x1536 ![0, 4624] P slices_S32x9744_S32x1536_0_4624) slices_S32x1536_S32x512_0_1024)⟩, ⟨S32x512, (extractStridedSlice S32x512 ![0, 1024] (extractStridedSlice S32x1536 ![0, 6160] P slices_S32x9744_S32x1536_0_6160) slices_S32x1536_S32x512_0_1024)⟩] concatenates_S32x512_S32x512_S32x512_S32x1536_d1 : (⟨S32x1536, .f32⟩ : BufTy).Contents (Elt F))⟩] concatenates_S32x7168_S32x1536_S32x1536_S32x10240_d1 : (⟨S32x10240, .f32⟩ : BufTy).Contents (Elt F)) slices_S32x10240_S32x1024_0_7680) shapeCasts_S32x1024_S32x1x2x4x128)

theorem row_apply (P : (⟨S32x9744, .f32⟩ : BufTy).Contents (Elt F)) (i : S32x1x2x4x128.Idx) :
    row P i = P (ix2 (i 0 : Fin 32) (col 1 (by decide) (i 2) (i 3) (i 4))) := by
  idx_vars i
  pointwise [row]
  have hs : i2.val = 0 ∨ i2.val = 1 := by omega
  rcases hs with hs | hs <;>
    (repeat first | refine (dif_pos (by omega)).trans ?_ | refine (dif_neg (by omega)).trans ?_) <;>
    (refine congrArg P (congrArg (ix2 i0) (Fin.ext ?_)); simp only [col]; omega)

theorem V_row_eq (c : Dev nD) : V m c main_v26 = row (m ((c : Thread nD τ).loc main_arg0)) := by
  unfold V row
  after_results <;> rfl

/-- The new row the kernel is handed. -/
theorem V_row (c : Dev nD) (i : S32x1x2x4x128.Idx) : V m c main_v26 i = m ((c : Thread nD τ).loc main_arg0) (ix2 (i 0 : Fin 32) (col 1 (by decide) (i 2) (i 3) (i 4))) := by
  rw [V_row_eq m c]; exact row_apply _ i

theorem covers : (cfg0.win 2).Covers := (by decide +kernel : win0_2.Covers)

/-- What the result array is shown to hold. -/
abbrev G (c : Dev nD) : Buf (Elt F) ((c : Thread nD τ).loc main_v27) :=
  shifted 512 1 (by decide) (m ((c : Thread nD τ).loc main_arg0)) (m ((c : Thread nD τ).loc main_arg1))

set_option maxHeartbeats 1000000 in
theorem final (c : Dev nD) : (dats m 0 c).arrAt 2 cfg0.N = G m c := by
  refine (dats m 0 c).arrAt_eq_of_covers 2 (G m c) covers fun t hf y => ?_
  blk_simp
  rw [after0_2]
  unfold outsAt0
  frame_out
  canon_tiles x h using cover_rows 511 y _ _ _ _
  · pointwise [k0_pay3]
    blk_simp [iblk]
    rw [V_row]
    refine shifted_new 512 1 _ _ _ _ ((win0_1.blk t).view.emb x) ?_ ?_ ?_ ?_ ?_ <;> blk_simp [idx1, idx2] <;> simp <;> omega
  · pointwise [k0_pay2]
    blk_simp [iblk]
    rw [V_cache]
    refine shifted_old 512 1 _ _ _ _ ((win0_0.blk t).view.emb (ix5 0 ⟨1 + (x 1).val, _⟩ (x 2) (x 3) (x 4))) ?_ ?_ ?_ ?_ ?_ <;>
      refine (emb0 t _ _).trans ?_ <;> rw [idx0] <;> blk_simp [idx2] <;> simp <;> omega

end Final

set_option maxHeartbeats 1000000 in
/-- The kernel and the reference end with the same cache. -/
theorem algebraic : Cert.algebraic_Kernel2Ideal_Reference2Ideal := by
  pair_intro
  · run_from Cert.Kernel2Ideal.Value.run_blocks m g
  · run_from Cert.Reference2Ideal.Value.run m' g'
    rw [final m c]
    exact reference2 _ _

/-- The kernel's frame. -/
theorem frame : Cert.quiescent_Kernel2Ideal := fun m g _ => Cert.Kernel2Ideal.Gen.frame m g

/-- The reference's frame. -/
theorem frame_reference : Cert.quiescent_Reference2Ideal := fun m g _ =>
  (θ_run Cert.Reference2Ideal.defs _ _).mono (fun r h => ⟨fun c => ⟨(h c).2.1, (h c).2.2⟩, Idealize.ShloMosaic.sem_eq_zero_of_no_sems (by decide) r.2⟩)
    (Cert.Reference2Ideal.Value.run (F := Ideal) m g)

end Cert.Kernel2Ideal.RefValue

end
-- ==== Proof.ShiftRef3.lean ====
/- The reference's lines of the third group's cache, entry by entry. -/
module

public import proofs.«01_k».proof.Proof.Gen.Reference3Ideal
public import proofs.«01_k».proof.Proof.Shift

@[expose] public section

set_option maxRecDepth 16384

noncomputable section

namespace Cert.Shift

open Cert.Reference3Ideal Cert.Reference3Ideal.Gen Idealize.ShloMosaic

variable {F : FTy → Type} [FloatOps F]

set_option maxHeartbeats 1000000 in
/-- The old rows and the new row joined, from row 1 on: the shifted cache. -/
theorem reference3 (P : (⟨S32x9744, .f32⟩ : BufTy).Contents (Elt F)) (X : (⟨S1x32x2048x2x4x128, .f32⟩ : BufTy).Contents (Elt F)) :
    extractStridedSlice S32x2048x2x4x128 ![0, 1, 0, 0, 0] (concatenate S32x2049x2x4x128 1 [⟨S32x2048x2x4x128, (shapeCast _ X shapeCasts_S1x32x2048x2x4x128_S32x2048x2x4x128)⟩, ⟨S32x1x2x4x128, (concatenate S32x1x2x4x128 2 [⟨S32x1x1x4x128, (broadcastInDim S32x1x1x4x128 ![0, 1, 3, 4] bcast_S32x1x4x128_S32x1x1x4x128_0_1_3_4 (shapeCast _ (extractStridedSlice S32x1x1x4x128 ![0, 0, 2, 0, 0] (shapeCast _ (extractStridedSlice S32x1x1536 ![0, 0, 4624] (broadcastInDim S32x1x9744 ![0, 2] bcast_S32x9744_S32x1x9744_0_2 P) slices_S32x1x9744_S32x1x1536_0_0_4624) shapeCasts_S32x1x1536_S32x1x3x4x128) slices_S32x1x3x4x128_S32x1x1x4x128_0_0_2_0_0) shapeCasts_S32x1x1x4x128_S32x1x4x128))⟩, ⟨S32x1x1x4x128, (broadcastInDim S32x1x1x4x128 ![0, 1, 3, 4] bcast_S32x1x4x128_S32x1x1x4x128_0_1_3_4 (shapeCast _ (extractStridedSlice S32x1x1x4x128 ![0, 0, 2, 0, 0] (shapeCast _ (extractStridedSlice S32x1x1536 ![0, 0, 6160] (broadcastInDim S32x1x9744 ![0, 2] bcast_S32x9744_S32x1x9744_0_2 P) slices_S32x1x9744_S32x1x1536_0_0_6160) shapeCasts_S32x1x1536_S32x1x3x4x128) slices_S32x1x3x4x128_S32x1x1x4x128_0_0_2_0_0) shapeCasts_S32x1x1x4x128_S32x1x4x128))⟩] concatenates_S32x1x1x4x128_S32x1x1x4x128_S32x1x2x4x128_d2)⟩] concatenates_S32x2048x2x4x128_S32x1x2x4x128_S32x2049x2x4x128_d1) slices_S32x2049x2x4x128_S32x2048x2x4x128_0_1_0_0_0
      = shifted 2048 2 (by decide) P X := by
  funext i
  idx_vars i
  pointwise [shifted]
  by_cases h : i1.val + 1 < 2048
  · refine (dif_pos (by omega)).trans (Eq.trans ?_ (dif_pos h).symm)
    exact congrArg X (congrArg (ix6 0 i0 · i2 i3 i4) (Fin.ext (Nat.add_comm _ _)))
  · refine (dif_neg (by omega)).trans (Eq.trans ?_ (dif_neg h).symm)
    by_cases hs : i2.val < 1
    · refine (dif_pos hs).trans (congrArg P (congrArg (ix2 i0) (Fin.ext ?_))); simp only [col]; omega
    · refine (dif_neg hs).trans (congrArg P (congrArg (ix2 i0) (Fin.ext ?_))); simp only [col]; omega

end Cert.Shift

end
-- ==== Proof.Shift3.lean ====
/- The cache shift of the third group (read over the reals): what the kernel's result array holds after the run. -/
module

public import proofs.«01_k».proof.Defs
public import proofs.«01_k».proof.Proof.Gen.Kernel3Ideal.Value
public import proofs.«01_k».proof.Proof.Gen.Reference3Ideal.Run
public import proofs.«01_k».proof.Proof.ShiftRef3
public import Idealize.ShloMosaic.Lib.Claim
public import Idealize.ShloMosaic.Lib.Quiescent

@[expose] public section

set_option maxRecDepth 16384

noncomputable section

namespace Cert.Kernel3Ideal.RefValue

open Cert.Kernel3Ideal Cert.Kernel3Ideal.Gen Cert.Shift Idealize.ShloMosaic Idealize.ShloMosaic.TcCoe Idealize.SL.Sem
open Idealize.ShloMosaic.Pipeline (Dat)

section Final

variable {F : FTy → Type} [FloatOps F]
variable (m : (ℓ : Loc nD τ sig) → Buf (Elt F) ℓ)

/-- The windows' places at a point: the cache's in elements, the other two in blocks. -/
theorem idx0 : ∀ t : Fin cfg0.N, win0_0.index t = ![t.val / 4, if t.val % 4 = 3 then 1536 else 512 * (t.val % 4) + 1, 0, 0, 0] :=
  (by decide +kernel : ∀ t : Fin grid0.N, _)
theorem idx1 : ∀ t : Fin cfg0.N, win0_1.index t = ![t.val / 4, 0, 0, 0, 0] :=
  (by decide +kernel : ∀ t : Fin grid0.N, _)
theorem idx2 : ∀ t : Fin cfg0.N, win0_2.index t = ![t.val / 4, t.val % 4, 0, 0, 0] :=
  (by decide +kernel : ∀ t : Fin grid0.N, _)

/-- An entry of the cache's block sits at the block's element offset plus its own place. -/
theorem emb0 (t : Fin cfg0.N) (z : (win0_0.xblock (grid0.coords t)).Idx) (a : Fin 5) :
    ((win0_0.rect t).emb z a : Nat) = win0_0.index t a + (z a : Nat) :=
  win0_0.rect_emb_val_off t z a

theorem cache_apply (X : (⟨S1x32x2048x2x4x128, .f32⟩ : BufTy).Contents (Elt F)) (i : S32x2048x2x4x128.Idx) :
    shapeCast S32x2048x2x4x128 X shapeCasts_S1x32x2048x2x4x128_S32x2048x2x4x128 i = X (ix6 (0 : Fin 1) (i 0 : Fin 32) (i 1 : Fin 2048) (i 2 : Fin 2) (i 3 : Fin 4) (i 4 : Fin 128)) := by
  pointwise

/-- The cache the kernel is handed: the argument without its layer axis. -/
theorem V_cache (c : Dev nD) (i : S32x2048x2x4x128.Idx) : V m c main_v0 i = m ((c : Thread nD τ).loc main_arg1) (ix6 (0 : Fin 1) (i 0 : Fin 32) (i 1 : Fin 2048) (i 2 : Fin 2) (i 3 : Fin 4) (i 4 : Fin 128)) := by
  have e : V m c main_v0 = shapeCast S32x2048x2x4x128 (m ((c : Thread nD τ).loc main_arg1)) shapeCasts_S1x32x2048x2x4x128_S32x2048x2x4x128 := by
    unfold V; after_results <;> rfl
  rw [e]
  exact cache_apply _ i

/-- The host code's new row, as it computes it: columns of the reordered projection. -/
def row (P : (⟨S32x9744, .f32⟩ : BufTy).Contents (Elt F)) : (⟨S32x1x2x4x128, .f32⟩ : BufTy).Contents (Elt F) :=
  (shapeCast S32x1x2x4x128 (extractStridedSlice S32x1024 ![0, 9216] (concatenate S32x10240 1 [⟨S32x7168, (concatenate S32x7168 1 [⟨S32x512, (extractStridedSlice S32x512 ![0, 0] P slices_S32x9744_S32x512_0_0)⟩, ⟨S32x512, (extractStridedSlice S32x512 ![0, 512] P slices_S32x9744_S32x512_0_512)⟩, ⟨S32x1024, (extractStridedSlice S32x1024 ![0, 1024] P slices_S32x9744_S32x1024_0_1024)⟩, ⟨S32x1024, (extractStridedSlice S32x1024 ![0, 2048] P slices_S32x9744_S32x1024_0_2048)⟩, ⟨S32x1024, (extractStridedSlice S32x1024 ![0, 7696] P slices_S32x9744_S32x1024_0_7696)⟩, ⟨S32x1024, (extractStridedSlice S32x1024 ![0, 8720] P slices_S32x9744_S32x1024_0_8720)⟩, ⟨S32x512, (extractStridedSlice S32x512 ![0, 0] (extractStridedSlice S32x1536 ![0, 3088] P slices_S32x9744_S32x1536_0_3088) slices_S32x1536_S32x512_0_0)⟩, ⟨S32x512, (extractStridedSlice S32x512 ![0, 0] (extractStridedSlice S32x1536 ![0, 4624] P slices_S32x9744_S32x1536_0_4624) slices_S32x1536_S32x512_0_0)⟩, ⟨S32x512, (extractStridedSlice S32x512 ![0, 0] (extractStridedSlice S32x1536 ![0, 6160] P slices_S32x9744_S32x1536_0_6160) slices_S32x1536_S32x512_0_0)⟩, ⟨S32x16, (extractStridedSlice S32x16 ![0, 3072] P slices_S32x9744_S32x16_0_3072)⟩, ⟨S32x496, (broadcastInDim S32x496 ![] bcast_S_S32x496 (constant S_ .f32 0x00000000#32))⟩] concatenates_S32x512_S32x512_S32x1024_S32x1024_S32x1024_S32x1024_S32x512_S32x512_S32x512_S32x16_S32x496_S32x7168_d1 : (⟨S32x7168, .f32⟩ : BufTy).Contents (Elt F))⟩, ⟨S32x1536, (concatenate S32x1536 1 [⟨S32x512, (extractStridedSlice S32x512 ![0, 512] (extractStridedSlice S32x1536 ![0, 3088] P slices_S32x9744_S32x1536_0_3088) slices_S32x1536_S32x512_0_512)⟩, ⟨S32x512, (extractStridedSlice S32x512 ![0, 512] (extractStridedSlice S32x1536 ![0, 4624] P slices_S32x9744_S32x1536_0_4624) slices_S32x1536_S32x512_0_512)⟩, ⟨S32x512, (extractStridedSlice S32x512 ![0, 512] (extractStridedSlice S32x1536 ![0, 6160] P slices_S32x9744_S32x1536_0_6160) slices_S32x1536_S32x512_0_512)⟩] concatenates_S32x512_S32x512_S32x512_S32x1536_d1 : (⟨S32x1536, .f32⟩ : BufTy).Contents (Elt F))⟩, ⟨S32x1536, (concatenate S32x1536 1 [⟨S32x512, (extractStridedSlice S32x512 ![0, 1024] (extractStridedSlice S32x1536 ![0, 3088] P slices_S32x9744_S32x1536_0_3088) slices_S32x1536_S32x512_0_1024)⟩, ⟨S32x512, (extractStridedSlice S32x512 ![0, 1024] (extractStridedSlice S32x1536 ![0, 4624] P slices_S32x9744_S32x1536_0_4624) slices_S32x1536_S32x512_0_1024)⟩, ⟨S32x512, (extractStridedSlice S32x512 ![0, 1024] (extractStridedSlice S32x1536 ![0, 6160] P slices_S32x9744_S32x1536_0_6160) slices_S32x1536_S32x512_0_1024)⟩] concatenates_S32x512_S32x512_S32x512_S32x1536_d1 : (⟨S32x1536, .f32⟩ : BufTy).Contents (Elt F))⟩] concatenates_S32x7168_S32x1536_S32x1536_S32x10240_d1 : (⟨S32x10240, .f32⟩ : BufTy).Contents (Elt F)) slices_S32x10240_S32x1024_0_9216) shapeCasts_S32x1024_S32x1x2x4x128)

theorem row_apply (P : (⟨S32x9744, .f32⟩ : BufTy).Contents (Elt F)) (i : S32x1x2x4x128.Idx) :
    row P i = P (ix2 (i 0 : Fin 32) (col 2 (by decide) (i 2) (i 3) (i 4))) := by
  idx_vars i
  pointwise [row]
  have hs : i2.val = 0 ∨ i2.val = 1 := by omega
  rcases hs with hs | hs <;>
    (repeat first | refine (dif_pos (by omega)).trans ?_ | refine (dif_neg (by omega)).trans ?_) <;>
    (refine congrArg P (congrArg (ix2 i0) (Fin.ext ?_)); simp only [col]; omega)

theorem V_row_eq (c : Dev nD) : V m c main_v26 = row (m ((c : Thread nD τ).loc main_arg0)) := by
  unfold V row
  after_results <;> rfl

/-- The new row the kernel is handed. -/
theorem V_row (c : Dev nD) (i : S32x1x2x4x128.Idx) : V m c main_v26 i = m ((c : Thread nD τ).loc main_arg0) (ix2 (i 0 : Fin 32) (col 2 (by decide) (i 2) (i 3) (i 4))) := by
  rw [V_row_eq m c]; exact row_apply _ i

theorem covers : (cfg0.win 2).Covers := (by decide +kernel : win0_2.Covers)

/-- What the result array is shown to hold. -/
abbrev G (c : Dev nD) : Buf (Elt F) ((c : Thread nD τ).loc main_v27) :=
  shifted 2048 2 (by decide) (m ((c : Thread nD τ).loc main_arg0)) (m ((c : Thread nD τ).loc main_arg1))

set_option maxHeartbeats 1000000 in
theorem final (c : Dev nD) : (dats m 0 c).arrAt 2 cfg0.N = G m c := by
  refine (dats m 0 c).arrAt_eq_of_covers 2 (G m c) covers fun t hf y => ?_
  blk_simp
  rw [after0_2]
  by_cases hl : t.val % 4 = 3
  · rw [outsAt0_B m c t (by omega) hl]
    frame_out
    canon_tiles x h using cover_rows 511 y _ _ _ _
    · pointwise [k0_pay3]
      blk_simp [iblk]
      rw [V_row]
      refine shifted_new 2048 2 _ _ _ _ ((win0_1.blk t).view.emb x) ?_ ?_ ?_ ?_ ?_ <;> blk_simp [idx1, idx2] <;> simp <;> omega
    · pointwise [k0_pay2]
      blk_simp [iblk]
      rw [V_cache]
      refine shifted_old 2048 2 _ _ _ _ ((win0_0.blk t).view.emb (ix5 0 ⟨1 + (x 1).val, _⟩ (x 2) (x 3) (x 4))) ?_ ?_ ?_ ?_ ?_ <;>
        refine (emb0 t _ _).trans ?_ <;> rw [idx0] <;> blk_simp [idx2] <;> simp [hl] <;> omega
  · rw [outsAt0_A m c t (by omega) hl]
    frame_out
    pointwise [k0_pay1]
    blk_simp [iblk]
    rw [V_cache]
    refine shifted_old 2048 2 _ _ _ _ ((win0_0.blk t).view.emb y) ?_ ?_ ?_ ?_ ?_ <;>
      refine (emb0 t _ _).trans ?_ <;> rw [idx0] <;> blk_simp [idx2] <;> simp [hl] <;> omega

end Final

set_option maxHeartbeats 1000000 in
/-- The kernel and the reference end with the same cache. -/
theorem algebraic : Cert.algebraic_Kernel3Ideal_Reference3Ideal := by
  pair_intro
  · run_from Cert.Kernel3Ideal.Value.run_blocks m g
  · run_from Cert.Reference3Ideal.Value.run m' g'
    rw [final m c]
    exact reference3 _ _

/-- The kernel's frame. -/
theorem frame : Cert.quiescent_Kernel3Ideal := fun m g _ => Cert.Kernel3Ideal.Gen.frame m g

/-- The reference's frame. -/
theorem frame_reference : Cert.quiescent_Reference3Ideal := fun m g _ =>
  (θ_run Cert.Reference3Ideal.defs _ _).mono (fun r h => ⟨fun c => ⟨(h c).2.1, (h c).2.2⟩, Idealize.ShloMosaic.sem_eq_zero_of_no_sems (by decide) r.2⟩)
    (Cert.Reference3Ideal.Value.run (F := Ideal) m g)

end Cert.Kernel3Ideal.RefValue

end
-- ==== Proof.Experts.lean ====
/- The experts' feed-forward, in plain words: a token's entry as both programs compute it, and a gather of whole
   matrices read at an entry. -/
module

public import Idealize.ShloMosaic.Lib.Pointwise
public import Idealize.ShloMosaic.Lib.StableHlo
public import Idealize.ShloMosaic.PureOps
public import Idealize.ShloMosaic.PureOps.Ideal

@[expose] public section

noncomputable section

namespace Cert.Experts

open Idealize.ShloMosaic

/-! ## A token's entry -/

/-- The bound of the gate and of the linear part, its negative, and the gate's slope, as the programs hold them. -/
abbrev bound : EReal := Ideal.ofBits .f32 1088421888#32
abbrev boundNeg : EReal := Ideal.ofBits .f32 3235905536#32
abbrev slope : EReal := Ideal.ofBits .f32 1071242019#32

/-- The gated unit of a gate and a linear part. -/
def gated (g u : EReal) : EReal :=
  (min bound (max boundNeg u) + 1) * min g bound * Ideal.div 1 (1 + Ideal.exp (-(slope * min g bound)))

/-- Entry `f` of a token's first projection, with its bias. -/
def proj (x : Fin 1024 → EReal) (w : Fin 1024 → Fin 2048 → EReal) (b : Fin 2048 → EReal) (f : Fin 2048) : EReal :=
  (∑ k, x k * w k f) + b f

/-- Entry `j` of what an expert makes of a token. -/
def entry (x : Fin 1024 → EReal) (w : Fin 1024 → Fin 2048 → EReal) (b : Fin 2048 → EReal) (d : Fin 1024 → Fin 1024 → EReal) (e : Fin 1024 → EReal)
    (j : Fin 1024) : EReal :=
  (∑ f : Fin 1024, gated (proj x w b ⟨f.val, by omega⟩) (proj x w b ⟨1024 + f.val, by omega⟩) * d f j) + e j

/-- The matrix a table's word names. -/
def pick (te : (⟨1, ![189]⟩ : Shape).Idx → BitVec 32) (ht : ∀ x, (te x).toNat < 32) (t : Fin 189) : Fin 32 := ⟨(te (ix1 t)).toNat, ht _⟩

/-- The whole result: each token of a used tile through the tile's expert, zeros in the others. -/
def moe (te : (⟨1, ![189]⟩ : Shape).Idx → BitVec 32) (ht : ∀ x, (te x).toNat < 32) (nu : (⟨1, ![1]⟩ : Shape).Idx → BitVec 32)
    (X : (⟨2, ![96768, 1024]⟩ : Shape).Idx → EReal) (W : (⟨3, ![32, 1024, 2048]⟩ : Shape).Idx → EReal) (B : (⟨3, ![32, 1, 2048]⟩ : Shape).Idx → EReal)
    (D : (⟨3, ![32, 1024, 1024]⟩ : Shape).Idx → EReal) (E : (⟨3, ![32, 1, 1024]⟩ : Shape).Idx → EReal) (i : Fin 96768) (j : Fin 1024) : EReal :=
  if ((i.val / 512 : ℕ) : ℤ) < (nu (ix1 (0 : Fin 1))).toInt then
    entry (fun k => X (ix2 i k)) (fun k f => W (ix3 (pick te ht ⟨i.val / 512, by omega⟩) k f)) (fun f => B (ix3 (pick te ht ⟨i.val / 512, by omega⟩) (0 : Fin 1) f))
      (fun k f => D (ix3 (pick te ht ⟨i.val / 512, by omega⟩) k f)) (fun f => E (ix3 (pick te ht ⟨i.val / 512, by omega⟩) (0 : Fin 1) f)) j
  else 0

/-! ## A gather of whole matrices -/

section Gather

variable {α : Type}

/-- Dimension numbers of `x[idx]`, where `idx` names matrices of a stack. -/
abbrev stackDims (n a b t : ℕ) (wf : GatherDims.WF ⟨3, ![n, a, b]⟩ ⟨2, ![t, 1]⟩ ⟨3, ![t, a, b]⟩ [1, 2] [0] [] [0] [] 1 ![1, a, b]) :
    GatherDims ⟨3, ![n, a, b]⟩ ⟨2, ![t, 1]⟩ ⟨3, ![t, a, b]⟩ where
  offsetDims := [1, 2]
  collapsedSliceDims := [0]
  operandBatchingDims := []
  startIndicesBatchingDims := []
  startIndexMap := [0]
  indexVectorDim := 1
  sliceSizes := ![1, a, b]
  wf := wf

/-- Such a gather reads the matrix its index names, where the index is in range. -/
theorem stack_apply {n a b t : ℕ} (wf : GatherDims.WF ⟨3, ![n, a, b]⟩ ⟨2, ![t, 1]⟩ ⟨3, ![t, a, b]⟩ [1, 2] [0] [] [0] [] 1 ![1, a, b])
    (x : (⟨3, ![n, a, b]⟩ : Shape).Idx → α) (idx : IVec ⟨2, ![t, 1]⟩ 32) (i : Fin t) (p : Fin a) (q : Fin b) (e : Fin n)
    (he : (idx (ix2 i (0 : Fin 1))).toInt = (e.val : ℤ)) :
    Host.gather (stackDims n a b t wf) x idx (ix3 i p q) = x (ix3 e p q) := by
  unfold Host.gather
  refine congrArg x (funext fun k => Fin.ext ?_)
  have hb : (stackDims n a b t wf).batchCoord (ix3 i p q) k = 0 := GatherDims.batchCoord_eq_zero _ _ _ List.not_mem_nil
  show (stackDims n a b t wf).start (ix3 i p q) idx k + (stackDims n a b t wf).batchCoord (ix3 i p q) k + (stackDims n a b t wf).offCoord (ix3 i p q) k = _
  rw [hb]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (stackDims n a b t wf).startIndexMap from List.mem_singleton.mpr rfl)]
    have hs : (stackDims n a b t wf).siIdx (ix3 i p q) ⟨List.idxOf (0 : Fin 3) (stackDims n a b t wf).startIndexMap,
        List.idxOf_lt_length_iff.2 (List.mem_singleton.mpr rfl)⟩ = ix2 i (0 : Fin 1) := by
      funext c; refine Fin.ext ?_
      match c with
      | ⟨0, _⟩ => rfl
      | ⟨1, _⟩ => rfl
    have hl := e.isLt
    rw [hs, he]
    show min ((e.val : ℤ).toNat) (n - 1) + 0 + 0 = e.val
    omega
  · unfold GatherDims.start
    rw [dif_neg (fun h => absurd (List.mem_singleton.mp h) (by simp))]
    simp only [Nat.zero_add]
    rfl
  · unfold GatherDims.start
    rw [dif_neg (fun h => absurd (List.mem_singleton.mp h) (by simp))]
    simp only [Nat.zero_add]
    rfl

end Gather

end Cert.Experts

end
-- ==== Proof.ExpertsRef.lean ====
/- The reference's lines of the experts' feed-forward, entry by entry. -/
module

public import proofs.«01_k».proof.Proof.Gen.Reference4Ideal.Run
public import proofs.«01_k».proof.Proof.Experts

@[expose] public section

set_option maxRecDepth 16384

noncomputable section

namespace Cert.Experts

open Cert.Reference4Ideal Cert.Reference4Ideal.Gen Idealize.ShloMosaic Idealize.ShloMosaic.TcCoe Idealize.SL.Sem

section Lines

variable {F : FTy → Type} [FloatOps F]

/-- The expert of each tile, as the indexing reads it: a negative number counts from the end. -/
def rowIx (te : (⟨S189, .i32⟩ : BufTy).Contents (Elt F)) : (⟨S189x1, .i32⟩ : BufTy).Contents (Elt F) :=
  broadcastInDim S189x1 ![0] bcast_S189_S189x1_0 (select (cmpi .slt te (broadcastInDim S189 ![] bcast_S_S189 (constantI S_ 32 0#32))) (addi te (broadcastInDim S189 ![] bcast_S_S189 (constantI S_ 32 32#32))) te)

/-- Both projections of every token, with their biases. -/
def hidden (te : (⟨S189, .i32⟩ : BufTy).Contents (Elt F)) (X : (⟨S96768x1024, .f32⟩ : BufTy).Contents (Elt F)) (W : (⟨S32x1024x2048, .f32⟩ : BufTy).Contents (Elt F)) (B : (⟨S32x1x2048, .f32⟩ : BufTy).Contents (Elt F)) : (⟨S189x512x2048, .f32⟩ : BufTy).Contents (Elt F) :=
  addf (Host.dotGeneral dot_S189x512x1024_S189x1024x2048_S189x512x2048_2_1_1_2_0_0 none (shapeCast _ X shapeCasts_S96768x1024_S189x512x1024) (Host.gather gather_S32x1024x2048_S189x1_S189x1024x2048_12_0_n_n_0_1_110242048 W (rowIx (F := F) te))) (broadcastInDim S189x512x2048 ![0, 1, 2] bcast_S189x1x2048_S189x512x2048_0_1_2 (Host.gather gather_S32x1x2048_S189x1_S189x1x2048_12_0_n_n_0_1_112048 B (rowIx (F := F) te)))

/-- The gated unit of every token. -/
def active (te : (⟨S189, .i32⟩ : BufTy).Contents (Elt F)) (X : (⟨S96768x1024, .f32⟩ : BufTy).Contents (Elt F)) (W : (⟨S32x1024x2048, .f32⟩ : BufTy).Contents (Elt F)) (B : (⟨S32x1x2048, .f32⟩ : BufTy).Contents (Elt F)) : (⟨S189x512x1024, .f32⟩ : BufTy).Contents (Elt F) :=
  mulf (mulf (addf (minimumf (broadcastInDim S189x512x1024 ![] bcast_S_S189x512x1024 (id (constant S_ .f32 0x40E00000#32))) (maximumf (broadcastInDim S189x512x1024 ![] bcast_S_S189x512x1024 (id (constant S_ .f32 0xC0E00000#32))) (extractStridedSlice S189x512x1024 ![0, 0, 1024] (hidden te X W B) slices_S189x512x2048_S189x512x1024_0_0_1024))) (broadcastInDim S189x512x1024 ![] bcast_S_S189x512x1024 (constant S_ .f32 0x3F800000#32))) (minimumf (extractStridedSlice S189x512x1024 ![0, 0, 0] (hidden te X W B) slices_S189x512x2048_S189x512x1024_0_0_0) (broadcastInDim S189x512x1024 ![] bcast_S_S189x512x1024 (constant S_ .f32 0x40E00000#32)))) (Host.divf (broadcastInDim S189x512x1024 ![] bcast_S_S189x512x1024 (constant S_ .f32 0x3F800000#32)) (addf (broadcastInDim S189x512x1024 ![] bcast_S_S189x512x1024 (constant S_ .f32 0x3F800000#32)) (Host.exp (Host.negf (mulf (broadcastInDim S189x512x1024 ![] bcast_S_S189x512x1024 (constant S_ .f32 0x3FD9DB23#32)) (minimumf (extractStridedSlice S189x512x1024 ![0, 0, 0] (hidden te X W B) slices_S189x512x2048_S189x512x1024_0_0_0) (broadcastInDim S189x512x1024 ![] bcast_S_S189x512x1024 (constant S_ .f32 0x40E00000#32))))))))

/-- The whole result. -/
def lines (te : (⟨S189, .i32⟩ : BufTy).Contents (Elt F)) (nu : (⟨S1, .i32⟩ : BufTy).Contents (Elt F)) (X : (⟨S96768x1024, .f32⟩ : BufTy).Contents (Elt F)) (W : (⟨S32x1024x2048, .f32⟩ : BufTy).Contents (Elt F)) (B : (⟨S32x1x2048, .f32⟩ : BufTy).Contents (Elt F)) (D : (⟨S32x1024x1024, .f32⟩ : BufTy).Contents (Elt F)) (E : (⟨S32x1x1024, .f32⟩ : BufTy).Contents (Elt F)) : (⟨S96768x1024, .f32⟩ : BufTy).Contents (Elt F) :=
  shapeCast S96768x1024 (select (broadcastInDim S189x512x1024 ![0, 1, 2] bcast_S189x1x1_S189x512x1024_0_1_2 (broadcastInDim S189x1x1 ![0] bcast_S189_S189x1x1_0 (cmpi .slt (iotaInDim S189 32 0) (broadcastInDim S189 ![0] bcast_S1_S189_0 nu)))) (addf (Host.dotGeneral dot_S189x512x1024_S189x1024x1024_S189x512x1024_2_1_1_2_0_0 none (active te X W B) (Host.gather gather_S32x1024x1024_S189x1_S189x1024x1024_12_0_n_n_0_1_110241024 D (rowIx (F := F) te))) (broadcastInDim S189x512x1024 ![0, 1, 2] bcast_S189x1x1024_S189x512x1024_0_1_2 (Host.gather gather_S32x1x1024_S189x1_S189x1x1024_12_0_n_n_0_1_111024 E (rowIx (F := F) te)))) (broadcastInDim S189x512x1024 ![] bcast_S_S189x512x1024 (id (constant S_ .f32 0x00000000#32)))) shapeCasts_S189x512x1024_S96768x1024

theorem lines_eq (m : (ℓ : Loc nD τ sig) → Buf (Elt F) ℓ) (c : Dev nD) : Cert.Reference4Ideal.Value.res_main_v57 m c
    = lines (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

end Lines

variable (te : IVec S189 32) (ht : ∀ x, (te x).toNat < 32)

theorem toInt_small {w : BitVec 32} (h : w.toNat < 32) : w.toInt = (w.toNat : ℤ) := BitVec.toInt_eq_toNat_of_lt (by omega)

include ht in
theorem rowIx_apply (i : Fin 189) (j : Fin 1) : rowIx (F := Ideal) te (ix2 i j) = te (ix1 i) := by
  have h := ht (ix1 i)
  pointwise [rowIx]
  have e : ¬ (te (ix1 i)).toInt < (0#32 : BitVec 32).toInt := by rw [toInt_small h]; simp
  have e' : IntOp.cmpi .slt (te (ix1 i)) 0#32 = 0#1 := by
    exact (BitVec.eq_zero_or_eq_one _).resolve_right (mt IntOp.cmpi_slt.mp e)
  rw [e']; rfl

include ht in
theorem rowIx_toInt (i : Fin 189) : (rowIx (F := Ideal) te (ix2 i (0 : Fin 1))).toInt = ((pick te ht i).val : ℤ) :=
  (congrArg BitVec.toInt (rowIx_apply te ht i 0)).trans (toInt_small (ht _))

variable (nu : IVec S1 32)
variable (X : (⟨S96768x1024, .f32⟩ : BufTy).Contents (Elt Ideal)) (W : (⟨S32x1024x2048, .f32⟩ : BufTy).Contents (Elt Ideal)) (B : (⟨S32x1x2048, .f32⟩ : BufTy).Contents (Elt Ideal))
variable (D : (⟨S32x1024x1024, .f32⟩ : BufTy).Contents (Elt Ideal)) (E : (⟨S32x1x1024, .f32⟩ : BufTy).Contents (Elt Ideal))

theorem gather_W (t : Fin 189) (p : Fin 1024) (q : Fin 2048) :
    Host.gather gather_S32x1024x2048_S189x1_S189x1024x2048_12_0_n_n_0_1_110242048 W (rowIx (F := Ideal) te) (ix3 t p q) = W (ix3 (pick te ht t) p q) :=
  stack_apply _ W _ t p q (pick te ht t) (rowIx_toInt te ht t)
theorem gather_B (t : Fin 189) (p : Fin 1) (q : Fin 2048) :
    Host.gather gather_S32x1x2048_S189x1_S189x1x2048_12_0_n_n_0_1_112048 B (rowIx (F := Ideal) te) (ix3 t p q) = B (ix3 (pick te ht t) p q) :=
  stack_apply _ B _ t p q (pick te ht t) (rowIx_toInt te ht t)
theorem gather_D (t : Fin 189) (p : Fin 1024) (q : Fin 1024) :
    Host.gather gather_S32x1024x1024_S189x1_S189x1024x1024_12_0_n_n_0_1_110241024 D (rowIx (F := Ideal) te) (ix3 t p q) = D (ix3 (pick te ht t) p q) :=
  stack_apply _ D _ t p q (pick te ht t) (rowIx_toInt te ht t)
theorem gather_E (t : Fin 189) (p : Fin 1) (q : Fin 1024) :
    Host.gather gather_S32x1x1024_S189x1_S189x1x1024_12_0_n_n_0_1_111024 E (rowIx (F := Ideal) te) (ix3 t p q) = E (ix3 (pick te ht t) p q) :=
  stack_apply _ E _ t p q (pick te ht t) (rowIx_toInt te ht t)

theorem hidden_apply (t : Fin 189) (r : Fin 512) (f : Fin 2048) : hidden te X W B (ix3 t r f)
    = proj (fun k => X (ix2 (⟨t.val * 512 + r.val, by omega⟩ : Fin 96768) k)) (fun k f => W (ix3 (pick te ht t) k f)) (fun f => B (ix3 (pick te ht t) (0 : Fin 1) f)) f := by
  pointwise [hidden]
  rw [gather_B te ht B]
  unfold proj
  refine congrArg (· + _) (Finset.sum_congr rfl fun x _ => ?_)
  rw [gather_W te ht W]

theorem active_apply (t : Fin 189) (r : Fin 512) (f : Fin 1024) : active te X W B (ix3 t r f)
    = gated (hidden te X W B (ix3 t r ⟨f.val, by omega⟩)) (hidden te X W B (ix3 t r ⟨1024 + f.val, by omega⟩)) := by
  pointwise [active]
  rfl

theorem lines_apply (i : Fin 96768) (j : Fin 1024) : lines te nu X W B D E (ix2 i j) = moe te ht nu X W B D E i j := by
  have hi : i.val / 512 < 189 := by omega
  have ei : (⟨i.val / 512 * 512 + i.val % 512, by omega⟩ : Fin 96768) = i := Fin.ext (by show i.val / 512 * 512 + i.val % 512 = i.val; omega)
  have en : (BitVec.ofNat 32 (i.val / 512)).toInt = ((i.val / 512 : ℕ) : ℤ) := by
    rw [BitVec.toInt_eq_toNat_of_lt] <;> simp <;> omega
  pointwise [lines]
  unfold moe
  rw [gather_E te ht E]
  by_cases h : ((i.val / 512 : ℕ) : ℤ) < (nu (ix1 (0 : Fin 1))).toInt
  · rw [if_pos h]
    have e : IntOp.cmpi .slt (BitVec.ofNat 32 (i.val / 512)) (nu (ix1 (0 : Fin 1))) = 1#1 := IntOp.cmpi_slt.mpr (by rw [en]; exact h)
    rw [e]
    unfold entry
    refine congrArg (· + _) (Finset.sum_congr rfl fun x _ => ?_)
    rw [gather_D te ht D, active_apply, hidden_apply te ht, hidden_apply te ht, ei]
  · rw [if_neg h]
    have e : IntOp.cmpi .slt (BitVec.ofNat 32 (i.val / 512)) (nu (ix1 (0 : Fin 1))) = 0#1 :=
      (BitVec.eq_zero_or_eq_one _).resolve_right (mt IntOp.cmpi_slt.mp (by rw [en]; exact h))
    rw [e]
    show Ideal.ofBits .f32 0#32 = 0
    simp [Ideal.ofBits, Ideal.ieee]

theorem lines_moe {te te' : IVec S189 32} {nu nu' : IVec S1 32} {X X' : (⟨S96768x1024, .f32⟩ : BufTy).Contents (Elt Ideal)} {W W' : (⟨S32x1024x2048, .f32⟩ : BufTy).Contents (Elt Ideal)}
    {B B' : (⟨S32x1x2048, .f32⟩ : BufTy).Contents (Elt Ideal)} {D D' : (⟨S32x1024x1024, .f32⟩ : BufTy).Contents (Elt Ideal)} {E E' : (⟨S32x1x1024, .f32⟩ : BufTy).Contents (Elt Ideal)}
    (ht : ∀ x, (te' x).toNat < 32) (e0 : te = te') (e1 : nu = nu') (e2 : X = X') (e3 : W = W') (e4 : B = B') (e5 : D = D') (e6 : E = E') :
    lines te nu X W B D E = fun i : S96768x1024.Idx => moe te' ht nu' X' W' B' D' E' (i 0) (i 1) := by
  subst e0 e1 e2 e3 e4 e5 e6
  funext i
  idx_vars i
  exact lines_apply te ht nu X W B D E i0 i1

end Cert.Experts

end
-- ==== Proof.ExpertsCfgIdeal.lean ====
/- The experts' call (read over the reals): its tables as the precondition leaves them, the pipeline at them, the words its body
   reads, and its windows' blocks in closed form. -/
module

public import proofs.«01_k».proof.Defs
public import proofs.«01_k».proof.Proof.Gen.Kernel4Ideal.Flash.Runs
public import Idealize.ShloMosaic.Lib.Pipeline.Quiescent
public import Idealize.ShloMosaic.Lib.Claim
public import Idealize.ShloMosaic.Lib.Pipeline.ValueKit

@[expose] public section

set_option maxRecDepth 16384

noncomputable section

namespace Cert.Kernel4Ideal.Experts

open Cert.Kernel4Ideal Cert.Kernel4Ideal.Gen
open Idealize.ShloMosaic
open Idealize.ShloMosaic.TcCoe Idealize.ShloMosaic.Tactic
open Idealize.ShloMosaic.Pipeline (Dat Cfg Window)

/-- The two tables: which expert each tile is for, and how many tiles are used. -/
structure Tables where
  te : S189.Idx → BitVec 32
  nu : S1.Idx → BitVec 32
  te_lt : ∀ x, (te x).toNat < 32
  nu_pos : ∀ x, 1 ≤ (nu x).toInt

variable (T : Tables)

set_option backward.proofsInPublic true in
/-- The tables as the pipeline takes them. -/
def pf : pre0.Contents (Elt Ideal) := fun | ⟨0, _⟩ => T.te | ⟨1, _⟩ => T.nu | ⟨_ + 2, h⟩ => absurd h (by simp)

/-- The place a one-word load reads first. -/
abbrev o1 : S1.Idx := ix1 (0 : Fin 1)

/-- The expert's word of a tile. -/
def word (i : grid0.Coords) : BitVec 32 := T.te (ix1 (⟨(i 0).val, (i 0).isLt⟩ : Fin 189))

theorem coord_lt (i : grid0.Coords) : (i 0).val < 189 := (i 0).isLt

theorem ofNat_toNat (i : grid0.Coords) : (BitVec.ofNat 32 (i 0).val).toNat = (i 0).val := by
  have h := coord_lt i
  simp only [BitVec.toNat_ofNat]; omega

theorem ofNat_toInt (i : grid0.Coords) : (BitVec.ofNat 32 (i 0).val).toInt = ((i 0).val : ℤ) := by
  have h := coord_lt i
  rw [BitVec.toInt_eq_toNat_of_lt (by rw [ofNat_toNat]; omega), ofNat_toNat]

/-- The word a tile's expert is read from. -/
theorem at0 (i : grid0.Coords) (off : Fin 1 → ℕ) (h) (e : off = ![(i 0).val]) : (pf T).at 0 (Rect.unit (s := S189) off S1.size h) numel1_S1 = word T i := by
  subst e
  refine congrArg T.te (funext fun a => Fin.ext ?_)
  fin_cases a
  rfl

theorem at1 (h) : (pf T).at 1 (Rect.unit (s := S1) ![0] S1.size h) numel1_S1 = T.nu o1 := by
  refine congrArg T.nu (funext fun a => Fin.ext ?_)
  fin_cases a
  rfl

theorem off_word (i : grid0.Coords) : ![(Scalar.indexCast (BitVec.ofNat 32 (i 0).val)).toNat] = ![(i 0).val] := by
  simp only [Scalar.indexCast, ofNat_toNat]

theorem sub_one (w : BitVec 32) (hw : 1 ≤ w.toInt) : (w - 1#32).toInt = w.toInt - 1 := by
  rw [BitVec.toInt_sub, show (1#32 : BitVec 32).toInt = 1 from rfl]
  have := w.toInt_lt; have := w.le_toInt
  exact Int.bmod_eq_of_le (by omega) (by omega)

theorem toNat_cast (w : BitVec 32) (hw : 0 ≤ w.toInt) : (w.toNat : ℤ) = w.toInt := by
  rw [BitVec.toInt_eq_toNat_cond] at *
  split at hw <;> rename_i h
  · simp [h]
  · have := w.isLt; omega

/-- The block of rows a point takes: its own while it is used. -/
theorem min_toNat_lt (i : grid0.Coords) (w : BitVec 32) (hw : 1 ≤ w.toInt) :
    (Scalar.minsi (BitVec.ofNat 32 (i 0).val) (Scalar.subi w 1#32)).toNat < 189 := by
  have h := coord_lt i
  have e := sub_one w hw
  have e2 := toNat_cast (w - 1#32) (by omega)
  unfold Scalar.minsi IntOp.minsi Scalar.subi IntOp.subi
  split
  · rw [ofNat_toNat]; exact h
  · rename_i hn
    simp only [BitVec.slt, decide_eq_true_eq, not_lt, ofNat_toInt] at hn
    omega

theorem min_eq (i : grid0.Coords) (w : BitVec 32) (hw : 1 ≤ w.toInt) (hi : ((i 0).val : ℤ) < w.toInt) :
    (Scalar.minsi (BitVec.ofNat 32 (i 0).val) (Scalar.subi w 1#32)).toNat = (i 0).val := by
  have h := coord_lt i
  have e := sub_one w hw
  have e2 := toNat_cast (w - 1#32) (by omega)
  unfold Scalar.minsi IntOp.minsi Scalar.subi IntOp.subi
  split
  · exact ofNat_toNat i
  · rename_i hn
    simp only [BitVec.slt, decide_eq_true_eq, not_lt, ofNat_toInt] at hn
    omega

theorem t0_eq (i : grid0.Coords) : cc0_transform_0 inb_S1_S1_0 numel1_S1 (pf T) i = ![(Scalar.minsi (BitVec.ofNat 32 (i 0).val) (Scalar.subi (T.nu o1) 1#32)).toNat, 0] := by
  exact congrArg (fun w => ![(Scalar.minsi (BitVec.ofNat 32 (i 0).val) (Scalar.subi w 1#32)).toNat, 0]) (at1 T _)
theorem t1_eq (i : grid0.Coords) : cc0_transform_1 k0_off1_inb numel1_S1 (pf T) i = ![(word T i).toNat, 0, 0] := by
  exact congrArg (fun w : BitVec 32 => ![w.toNat, 0, 0]) (at0 T i _ _ (off_word i))
theorem t2_eq (i : grid0.Coords) : cc0_transform_2 k0_off1_inb numel1_S1 (pf T) i = ![(word T i).toNat, 0, 0] := by
  exact congrArg (fun w : BitVec 32 => ![w.toNat, 0, 0]) (at0 T i _ _ (off_word i))
theorem t3_eq (i : grid0.Coords) : cc0_transform_3 k0_off1_inb numel1_S1 (pf T) i = ![(word T i).toNat, 0, 0] := by
  exact congrArg (fun w : BitVec 32 => ![w.toNat, 0, 0]) (at0 T i _ _ (off_word i))
theorem t4_eq (i : grid0.Coords) : cc0_transform_4 k0_off1_inb numel1_S1 (pf T) i = ![(word T i).toNat, 0, 0] := by
  exact congrArg (fun w : BitVec 32 => ![w.toNat, 0, 0]) (at0 T i _ _ (off_word i))

/-- Every block lies inside its array. -/
theorem ok : ok0 (F := Ideal) (pf T) := by
  refine ⟨fun i => ⟨?_, .inl rfl⟩, fun i => ⟨?_, .inl rfl⟩, fun i => ⟨?_, .inl rfl⟩, fun i => ⟨?_, .inl rfl⟩, fun i => ⟨?_, .inl rfl⟩⟩
  · rw [t0_eq]
    have := min_toNat_lt i (T.nu o1) (T.nu_pos _)
    exact okcons (by omega) (okcons (by omega) (fun a => a.elim0))
  · rw [t1_eq]
    have : (word T i).toNat < 32 := T.te_lt _
    exact okcons (by omega) (okcons (by omega) (okcons (by omega) (fun a => a.elim0)))
  · rw [t2_eq]
    have : (word T i).toNat < 32 := T.te_lt _
    exact okcons (by omega) (okcons (by omega) (okcons (by omega) (fun a => a.elim0)))
  · rw [t3_eq]
    have : (word T i).toNat < 32 := T.te_lt _
    exact okcons (by omega) (okcons (by omega) (okcons (by omega) (fun a => a.elim0)))
  · rw [t4_eq]
    have : (word T i).toNat < 32 := T.te_lt _
    exact okcons (by omega) (okcons (by omega) (okcons (by omega) (fun a => a.elim0)))

/-- The pipeline at the tables. -/
def adm : (pcfg0 (F := Ideal)).Adm := ⟨pf T, ok T⟩
abbrev cfgA : Pipeline.Cfg sig Λ₀ := cfg0 (F := Ideal) (adm T)
abbrev pcs : Fin 1 → Pipeline.Cfg sig Λ₀ := Pipeline.pin (pcfgs (F := Ideal)) fun _ => adm T

/-- A point's coordinates. -/
abbrev crd (t : Fin (cfgA T).N) : (cfgA T).grid.Coords := (cfgA T).grid.coords t

theorem crd_val : ∀ t : Fin grid0.N, (grid0.coords t 0).val = t.val := by decide +kernel

/-! ## The words the body reads -/

/-- How many tiles are used, as the body reads it. -/
abbrev nuW : BitVec 32 := View.readAt (Elt Ideal) (tbM0_1).view (Rect.unit (s := S1) ![0] S1.size inb_S1_S1_0).toLoadRect T.nu (Shape.Idx.first (numel1_S1.symm ▸ Nat.one_pos))

/-- Whether the point's tile is used, and whether its expert is to be taken up anew, as the body decides them. -/
abbrev Used (i : grid0.Coords) : Prop := k0_cond1 i (nuW T) = 1#1
abbrev Anew (i : grid0.Coords) : Prop := (Scalar.cmpi .ne (Scalar.extui (Scalar.ori (Scalar.cmpi .eq (BitVec.ofNat 32 (i 0).val) 0#32) (Scalar.cmpi .ne (View.readAt (Elt Ideal) (tbM0_0).view (Rect.unit (s := S189) (k0_off2 i) S1.size (k0_off2_inb i)).toLoadRect T.te (Shape.Idx.first (numel1_S1.symm ▸ Nat.one_pos))) (View.readAt (Elt Ideal) (tbM0_0).view (Rect.unit (s := S189) (k0_off3 i) S1.size (k0_off3_inb i)).toLoadRect T.te (Shape.Idx.first (numel1_S1.symm ▸ Nat.one_pos)))))) 0#32) = 1#1

theorem cond1_iff (i : grid0.Coords) (w : BitVec 32) : k0_cond1 i w = 1#1 ↔ ((i 0).val : ℤ) < w.toInt := by
  rw [← ofNat_toInt i]
  show (IntOp.cmpi .ne (BitVec.setWidth 32 (BitVec.ofBool ((BitVec.ofNat 32 (i 0).val).slt w))) 0#32) = 1#1 ↔ _
  by_cases h : (BitVec.ofNat 32 (i 0).val).toInt < w.toInt
  · have e : (BitVec.ofNat 32 (i 0).val).slt w = true := by simpa [BitVec.slt] using h
    rw [e]; simp only [h, iff_true]; decide
  · have e : (BitVec.ofNat 32 (i 0).val).slt w = false := by simpa [BitVec.slt] using h
    rw [e]; simp only [h, iff_false]; decide

theorem cond3_iff (i : grid0.Coords) (w : BitVec 32) : k0_cond3 i w = 1#1 ↔ ¬ k0_cond1 i w = 1#1 := by
  show (IntOp.cmpi .ne (BitVec.setWidth 32 ((BitVec.ofBool ((BitVec.ofNat 32 (i 0).val).slt w)) ^^^ 1#1)) 0#32) = 1#1 ↔ ¬ (IntOp.cmpi .ne (BitVec.setWidth 32 (BitVec.ofBool ((BitVec.ofNat 32 (i 0).val).slt w))) 0#32) = 1#1
  cases (BitVec.ofNat 32 (i 0).val).slt w <;> decide

theorem nuW_eq : nuW T = T.nu o1 := by
  refine congrArg T.nu (funext fun a => Fin.ext ?_)
  fin_cases a
  rfl

theorem used_iff (i : grid0.Coords) : Used T i ↔ ((i 0).val : ℤ) < (T.nu o1).toInt := by
  unfold Used; rw [cond1_iff, nuW_eq]

theorem not_anew (i : grid0.Coords) (h : ¬ Anew T i) : (i 0).val ≠ 0 ∧
    ∀ j : grid0.Coords, (j 0).val + 1 = (i 0).val → word T i = word T j := by
  have key : ∀ (a b x y : BitVec 32), ¬ (Scalar.cmpi .ne (Scalar.extui (Scalar.ori (Scalar.cmpi .eq a b) (Scalar.cmpi .ne x y))) 0#32) = 1#1 → a ≠ b ∧ x = y := by
    intro a b x y hn
    by_cases h1 : a = b
    · refine absurd ?_ hn
      have e1 : (a == b) = true := by simpa using h1
      show (IntOp.cmpi .ne (BitVec.setWidth 32 ((BitVec.ofBool (a == b)) ||| (BitVec.ofBool (x != y)))) 0#32) = 1#1
      rw [e1]; cases (x != y) <;> decide
    · refine ⟨h1, ?_⟩
      by_contra h2
      refine absurd ?_ hn
      have e2 : (x != y) = true := by simpa using h2
      show (IntOp.cmpi .ne (BitVec.setWidth 32 ((BitVec.ofBool (a == b)) ||| (BitVec.ofBool (x != y)))) 0#32) = 1#1
      rw [e2]; cases (a == b) <;> decide
  obtain ⟨h1, h2⟩ := key _ _ _ _ h
  have hi := coord_lt i
  have h0 : (i 0).val ≠ 0 := fun h0 => h1 (by rw [h0])
  refine ⟨h0, fun j hj => ?_⟩
  have o2 : k0_off2 i = ![(i 0).val] := by
    unfold k0_off2; simp only [Scalar.indexCast, ofNat_toNat]
  have o3 : k0_off3 i = ![(j 0).val] := by
    unfold k0_off3
    have : (Scalar.maxsi (Scalar.subi (BitVec.ofNat 32 (i 0).val) 1#32) 0#32).toNat = (j 0).val := by
      have e : Scalar.subi (BitVec.ofNat 32 (i 0).val) 1#32 = BitVec.ofNat 32 (j 0).val := by
        apply BitVec.eq_of_toNat_eq
        show (BitVec.ofNat 32 (i 0).val - 1#32).toNat = _
        rw [BitVec.toNat_sub, ofNat_toNat, ofNat_toNat]; simp; omega
      rw [e]
      unfold Scalar.maxsi IntOp.maxsi
      split
      · exact ofNat_toNat j
      · rename_i hn
        simp only [BitVec.slt, decide_eq_true_eq, not_lt, ofNat_toInt] at hn
        simp at hn
        simp; omega
    simp only [Scalar.indexCast, this]
  have r : ∀ (off : Fin 1 → ℕ) (hin : ∀ a, off a + S1.size a ≤ S189.size a) (k : grid0.Coords), off = ![(k 0).val] →
      View.readAt (Elt Ideal) (tbM0_0).view (Rect.unit (s := S189) off S1.size hin).toLoadRect T.te (Shape.Idx.first (numel1_S1.symm ▸ Nat.one_pos)) = word T k := by
    intro off hin k e
    subst e
    refine congrArg T.te (funext fun a => Fin.ext ?_)
    fin_cases a
    simp [Rect.unit, Rect.emb, ix1]
  rw [r _ _ i o2, r _ _ j o3] at h2
  exact h2

end Cert.Kernel4Ideal.Experts

end
-- ==== Proof.ExpertsKeptIdeal.lean ====
/- The experts' call (read over the reals): what its body keeps in the scratch buffers, in closed form. -/
module

public import proofs.«01_k».proof.Proof.ExpertsCfgIdeal
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## What the body leaves -/

/-- The expert's gate and up matrices as the first scratch buffer keeps them. -/
def castW (x : S1x1024x2048.Idx → Elt Ideal .f32) : S1024x2048.Idx → Elt Ideal .bf16 :=
  fun y => FloatOps.truncf (F := Ideal) (φ := .f32) .bf16 bitsLt_bf16_f32 (x (ix3 (0 : Fin 1) (y 0 : Fin 1024) (y 1 : Fin 2048)))

/-- The expert's down matrix as the second scratch buffer keeps it. -/
def castD (x : S1x1024x1024.Idx → Elt Ideal .f32) : S1024x1024.Idx → Elt Ideal .bf16 :=
  fun y => FloatOps.truncf (F := Ideal) (φ := .f32) .bf16 bitsLt_bf16_f32 (x (ix3 (0 : Fin 1) (y 0 : Fin 1024) (y 1 : Fin 1024)))

/-- What a used tile comes to, from its rows, the kept matrices and the two biases. -/
def tileOut (x0 : S512x1024.Idx → Elt Ideal .f32) (w : S1024x2048.Idx → Elt Ideal .bf16) (x2 : S1x1x2048.Idx → Elt Ideal .f32)
    (d : S1024x1024.Idx → Elt Ideal .bf16) (x4 : S1x1x1024.Idx → Elt Ideal .f32) : S512x1024.Idx → Elt Ideal .f32 :=
  k0_pay1 (F := Ideal) (k0_pay19 (F := Ideal) x0 w x2 d) x4

set_option maxHeartbeats 600000 in
theorem kept_W (arg4 : Memref sig .tc .vmem S1x1024x2048 .f32) (x1 : S1x1024x2048.Idx → Elt Ideal .f32) (f) :
    (View.whole cc0_scratch0).writes (Elt Ideal) f (kernelRun0_A.sl.HS0_8 arg4 x1) = castW x1 := by
  funext y
  refine (congrFun (View.read_whole (Val := Elt Ideal) cc0_scratch0 _).symm y).trans ?_
  have hc : ∃ p ∈ kernelRun0_A.sl.HS0_8 arg4 x1, y ∈ p.1.set := View.cover_of_tiledL (kernelRun0_A.sl.HS0_8 arg4 x1) S128x2048.size (by sl_kernel_rfl) y
  rw [View.read_writes_apply_eq_canon _ _ _ _ hc]
  unfold kernelRun0_A.sl.HS0_8
  canon_tiles x h <;>
  (pointwise [k0_pay3, k0_pay4, k0_pay5, k0_pay6, k0_pay7, k0_pay8, k0_pay9, k0_pay10]
   rw [View.readAt_rep]
   first
   | refine congrArg x1 (funext fun a => Fin.ext ?_)
   | refine congrArg (FloatOps.truncf (F := Ideal) (φ := .f32) .bf16 bitsLt_bf16_f32) (congrArg x1 (funext fun a => Fin.ext ?_))
   have x0_lt := (x 0).isLt
   fin_cases a <;> simp [Rect.unit, LoadRect.idx] at * <;> omega)

set_option maxHeartbeats 600000 in
theorem kept_D (arg6 : Memref sig .tc .vmem S1x1024x1024 .f32) (x3 : S1x1024x1024.Idx → Elt Ideal .f32) (f) :
    (View.whole cc0_scratch1).writes (Elt Ideal) f (kernelRun0_A.sl.HS1_8 arg6 x3) = castD x3 := by
  funext y
  refine (congrFun (View.read_whole (Val := Elt Ideal) cc0_scratch1 _).symm y).trans ?_
  have hc : ∃ p ∈ kernelRun0_A.sl.HS1_8 arg6 x3, y ∈ p.1.set := View.cover_of_tiledL (kernelRun0_A.sl.HS1_8 arg6 x3) S128x1024.size (by sl_kernel_rfl) y
  rw [View.read_writes_apply_eq_canon _ _ _ _ hc]
  unfold kernelRun0_A.sl.HS1_8
  canon_tiles x h <;>
  (pointwise [k0_pay11, k0_pay12, k0_pay13, k0_pay14, k0_pay15, k0_pay16, k0_pay17, k0_pay18]
   rw [View.readAt_rep]
   first
   | refine congrArg x3 (funext fun a => Fin.ext ?_)
   | refine congrArg (FloatOps.truncf (F := Ideal) (φ := .f32) .bf16 bitsLt_bf16_f32) (congrArg x3 (funext fun a => Fin.ext ?_))
   have x0_lt := (x 0).isLt
   fin_cases a <;> simp [Rect.unit, LoadRect.idx] at * <;> omega)

end Cert.Kernel4Ideal.Experts

end
-- ==== Proof.ExpertsTile.lean ====
/- What the body leaves at a used point, entry by entry, over the reals. -/
module

public import proofs.«01_k».proof.Proof.Experts
public import proofs.«01_k».proof.Proof.ExpertsKeptIdeal

@[expose] public section

set_option maxRecDepth 16384

noncomputable section

namespace Cert.Kernel4Ideal.Experts

open Cert.Kernel4Ideal Cert.Kernel4Ideal.Gen Idealize.ShloMosaic Cert.Experts

theorem tile_apply (x0 : S512x1024.Idx → Elt Ideal .f32) (x1 : S1x1024x2048.Idx → Elt Ideal .f32) (x2 : S1x1x2048.Idx → Elt Ideal .f32)
    (x3 : S1x1024x1024.Idx → Elt Ideal .f32) (x4 : S1x1x1024.Idx → Elt Ideal .f32) (r : Fin 512) (j : Fin 1024) :
    tileOut x0 (castW x1) x2 (castD x3) x4 (ix2 r j)
      = entry (fun k => x0 (ix2 r k)) (fun k f => x1 (ix3 (0 : Fin 1) k f)) (fun f => x2 (ix3 (0 : Fin 1) (0 : Fin 1) f))
          (fun k f => x3 (ix3 (0 : Fin 1) k f)) (fun f => x4 (ix3 (0 : Fin 1) (0 : Fin 1) f)) j := by
  pointwise [tileOut, k0_pay1, k0_pay19, castW, castD]
  rfl

theorem zeros_apply (y : S512x1024.Idx) : k0_pay2 (F := Ideal) y = (0 : EReal) := by
  idx_vars y
  pointwise [k0_pay2]

end Cert.Kernel4Ideal.Experts

end
-- ==== Proof.ExpertsPre.lean ====
/- What the precondition says of the two tables. -/
module

public import proofs.«01_k».proof.Proof.Gen.Pre_in_range
public import Idealize.ShloMosaic.Lib.Pointwise
public import Idealize.ShloMosaic.Lib.ReduceAll

@[expose] public section

set_option maxRecDepth 16384

noncomputable section

namespace Cert.Experts

open Cert.Pre_in_range Cert.Pre_in_range.Gen Idealize.ShloMosaic

variable {F : FTy → Type} [FloatOps F]

theorem andi_one {a b : BitVec 1} (h : IntOp.andi a b = 1#1) : a = 1#1 ∧ b = 1#1 := by
  revert a b; decide

instance : Subsingleton S_.Idx := ⟨fun a b => funext fun k => k.elim0⟩

/-- Every tile names one of the 32 experts, and at least one tile is used. -/
theorem in_range_tables (te : IVec S189 32) (nu : IVec S1 32) (X : FVec F S96768x1024 .f32) (W : FVec F S32x1024x2048 .f32) (B : FVec F S32x1x2048 .f32)
    (D : FVec F S32x1024x1024 .f32) (E : FVec F S32x1x1024 .f32) (h : Cert.Pre_in_range.fn (F := F) te nu X W B D E = fun _ => 1#1) :
    (∀ x, (te x).toNat < 32) ∧ (∀ x, 1 ≤ (nu x).toInt) := by
  have h0 := andi_one (congrFun h ix0)
  refine ⟨fun x => ?_, fun x => ?_⟩
  · have e := andi_one (Host.reduce_andi_all _ _ _ _ _ h0.1 x)
    have e1 := IntOp.cmpi_sge.mp e.1
    have e2 := IntOp.cmpi_slt.mp e.2
    have e1' : (0#32 : BitVec 32).toInt ≤ (te x).toInt := e1
    have e2' : (te x).toInt < (32#32 : BitVec 32).toInt := e2
    have z : (0#32 : BitVec 32).toInt = 0 := rfl
    have z' : (32#32 : BitVec 32).toInt = 32 := rfl
    rw [z] at e1'; rw [z'] at e2'
    rw [BitVec.toInt_eq_toNat_cond] at e1' e2'
    have := (te x).isLt
    split at e1' <;> split at e2' <;> omega
  · have e := IntOp.cmpi_sge.mp (Host.reduce_andi_all _ _ _ _ _ h0.2 x)
    exact e

end Cert.Experts

end
-- ==== Proof.ExpertsRunIdeal.lean ====
/- The experts' call (read over the reals): what its body leaves at a point and which blocks it is handed, in closed form. -/
module

public import proofs.«01_k».proof.Proof.ExpertsKeptIdeal
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Ideal) ℕ (UR sig nD τ) ℕ

abbrev EP : Emb (UR sig nD τ) 𝕄 := emb₁

/-! ## What the body leaves -/

section Runs

variable (T : Tables) (c : Dev nD) (i : grid0.Coords)
variable (arg3 : Memref sig .tc .vmem S512x1024 .f32) (harg3 : arg3.IsWhole) (arg4 : Memref sig .tc .vmem S1x1024x2048 .f32) (harg4 : arg4.IsWhole)
variable (arg5 : Memref sig .tc .vmem S1x1x2048 .f32) (harg5 : arg5.IsWhole) (arg6 : Memref sig .tc .vmem S1x1024x1024 .f32) (harg6 : arg6.IsWhole)
variable (arg7 : Memref sig .tc .vmem S1x1x1024 .f32) (harg7 : arg7.IsWhole) (arg8 : Memref sig .tc .vmem S512x1024 .f32) (harg8 : arg8.IsWhole)
variable (x0 : S512x1024.Idx → Elt Ideal .f32) (x1 : S1x1024x2048.Idx → Elt Ideal .f32) (x2 : S1x1x2048.Idx → Elt Ideal .f32)
variable (x3 : S1x1024x1024.Idx → Elt Ideal .f32) (x4 : S1x1x1024.Idx → Elt Ideal .f32)
variable (a0 : Buf (Elt Ideal) ((c : Thread nD τ).loc cc0_scratch0)) (a1 : Buf (Elt Ideal) ((c : Thread nD τ).loc cc0_scratch1))
variable (h1 : Used T i) (h2 : Anew T i) (n1 : ¬ Used T i) (n2 : ¬ Anew T i) (h3 : k0_cond3 i (nuW T) = 1#1) (n3 : ¬ k0_cond3 i (nuW T) = 1#1)

abbrev runA := kernelRun0_A c i arg3 harg3 arg4 harg4 arg5 harg5 arg6 harg6 arg7 harg7 arg8 harg8 T.te T.nu x0 x1 x2 x3 x4 h1 h2 n3
abbrev runB := kernelRun0_B c i arg3 harg3 arg4 harg4 arg5 harg5 arg6 harg6 arg7 harg7 arg8 harg8 T.te T.nu x0 x1 x2 x3 x4 a0 a1 h1 n2 n3
abbrev runC := kernelRun0_C c i arg3 harg3 arg4 harg4 arg5 harg5 arg6 harg6 arg7 harg7 arg8 harg8 T.te T.nu x0 x1 x2 x3 x4 a0 a1 n1 h3

theorem runA_L : (runA T c i arg3 harg3 arg4 harg4 arg5 harg5 arg6 harg6 arg7 harg7 arg8 harg8 x0 x1 x2 x3 x4 h1 h2 n3).1 = kernelRun0_A.sl.HO5_1 arg3 arg4 arg5 arg6 arg7 x0 x1 x2 x3 x4 := rfl
theorem runB_L : (runB T c i arg3 harg3 arg4 harg4 arg5 harg5 arg6 harg6 arg7 harg7 arg8 harg8 x0 x1 x2 x3 x4 a0 a1 h1 n2 n3).1 = kernelRun0_B.sl.HO5_1 c arg3 arg5 arg7 x0 x2 x4 a0 a1 := rfl
theorem runC_L : (runC T c i arg3 harg3 arg4 harg4 arg5 harg5 arg6 harg6 arg7 harg7 arg8 harg8 x0 x1 x2 x3 x4 a0 a1 n1 h3).1 = kernelRun0_C.sl.HO5_1 := rfl

theorem runA_W : (runA T c i arg3 harg3 arg4 harg4 arg5 harg5 arg6 harg6 arg7 harg7 arg8 harg8 x0 x1 x2 x3 x4 h1 h2 n3).2.1 = castW x1 := by
  delta runA kernelRun0_A
  dsimp only
  exact kept_W arg4 x1 _
theorem runA_D : (runA T c i arg3 harg3 arg4 harg4 arg5 harg5 arg6 harg6 arg7 harg7 arg8 harg8 x0 x1 x2 x3 x4 h1 h2 n3).2.2.1 = castD x3 := by
  delta runA kernelRun0_A
  dsimp only
  exact kept_D arg6 x3 _
theorem runA_out (f) : arg8.view.read (Elt Ideal) (arg8.view.writes (Elt Ideal) f (runA T c i arg3 harg3 arg4 harg4 arg5 harg5 arg6 harg6 arg7 harg7 arg8 harg8 x0 x1 x2 x3 x4 h1 h2 n3).1)
    = tileOut x0 (castW x1) x2 (castD x3) x4 := by
  rw [runA_L]; unfold kernelRun0_A.sl.HO5_1
  refine (View.read_writes_full _ _ _ _ _).trans ?_
  have e0 := View.readAt_rep_full (Val := Elt Ideal) arg3.view x0 inb_S512x1024_S512x1024_0_0
  have e2 := View.readAt_rep_full (Val := Elt Ideal) arg5.view x2 inb_S1x1x2048_S1x1x2048_0_0_0
  have e4 := View.readAt_rep_full (Val := Elt Ideal) arg7.view x4 inb_S1x1x1024_S1x1x1024_0_0_0
  have e1 : kernelRun0_A.sl.v20 arg4 x1 = castW x1 := by
    unfold kernelRun0_A.sl.v20 View.readCov; exact (View.readAt_full _ _ _).trans ((View.read_whole (Val := Elt Ideal) cc0_scratch0 _).trans (kept_W arg4 x1 _))
  have e3 : kernelRun0_A.sl.v42 arg6 x3 = castD x3 := by
    unfold kernelRun0_A.sl.v42 View.readCov; exact (View.readAt_full _ _ _).trans ((View.read_whole (Val := Elt Ideal) cc0_scratch1 _).trans (kept_D arg6 x3 _))
  unfold kernelRun0_A.sl.r_3 tileOut
  rw [e0, e1, e2, e3, e4]

theorem runB_out (f) : arg8.view.read (Elt Ideal) (arg8.view.writes (Elt Ideal) f (runB T c i arg3 harg3 arg4 harg4 arg5 harg5 arg6 harg6 arg7 harg7 arg8 harg8 x0 x1 x2 x3 x4 a0 a1 h1 n2 n3).1)
    = tileOut x0 a0 x2 a1 x4 := by
  rw [runB_L]; unfold kernelRun0_B.sl.HO5_1
  refine (View.read_writes_full _ _ _ _ _).trans ?_
  have e0 := View.readAt_rep_full (Val := Elt Ideal) arg3.view x0 inb_S512x1024_S512x1024_0_0
  have e2 := View.readAt_rep_full (Val := Elt Ideal) arg5.view x2 inb_S1x1x2048_S1x1x2048_0_0_0
  have e4 := View.readAt_rep_full (Val := Elt Ideal) arg7.view x4 inb_S1x1x1024_S1x1x1024_0_0_0
  have e1 : View.readAt (Elt Ideal) scM0_0.view (Rect.unit ![0, 0] S1024x2048.size inb_S1024x2048_S1024x2048_0_0).toLoadRect a0 = a0 := View.readAt_full scM0_0.view a0 _
  have e3 : View.readAt (Elt Ideal) scM0_1.view (Rect.unit ![0, 0] S1024x1024.size inb_S1024x1024_S1024x1024_0_0).toLoadRect a1 = a1 := View.readAt_full scM0_1.view a1 _
  unfold kernelRun0_B.sl.r_3 tileOut
  rw [e0, e1, e2, e3, e4]

theorem runC_out (f) : arg8.view.read (Elt Ideal) (arg8.view.writes (Elt Ideal) f (runC T c i arg3 harg3 arg4 harg4 arg5 harg5 arg6 harg6 arg7 harg7 arg8 harg8 x0 x1 x2 x3 x4 a0 a1 n1 h3).1)
    = k0_pay2 (F := Ideal) := by
  rw [runC_L]; unfold kernelRun0_C.sl.HO5_1
  exact View.read_writes_full _ _ _ _ _

theorem runB_W : (runB T c i arg3 harg3 arg4 harg4 arg5 harg5 arg6 harg6 arg7 harg7 arg8 harg8 x0 x1 x2 x3 x4 a0 a1 h1 n2 n3).2.1 = a0 := rfl
theorem runB_D : (runB T c i arg3 harg3 arg4 harg4 arg5 harg5 arg6 harg6 arg7 harg7 arg8 harg8 x0 x1 x2 x3 x4 a0 a1 h1 n2 n3).2.2.1 = a1 := rfl
theorem runC_W : (runC T c i arg3 harg3 arg4 harg4 arg5 harg5 arg6 harg6 arg7 harg7 arg8 harg8 x0 x1 x2 x3 x4 a0 a1 n1 h3).2.1 = a0 := rfl
theorem runC_D : (runC T c i arg3 harg3 arg4 harg4 arg5 harg5 arg6 harg6 arg7 harg7 arg8 harg8 x0 x1 x2 x3 x4 a0 a1 n1 h3).2.2.1 = a1 := rfl

end Runs

/-! ## The windows' blocks -/

variable (T : Tables)
variable (m : (ℓ : Loc nD τ sig) → Buf (Elt Ideal) ℓ) (ρ : Dev nD → PrngReg)

/-- Each window's staging buffer at a point, and that it is a whole buffer. -/
abbrev ms0_0 (t : Fin (cfgA T).N) : Memref sig .tc .vmem S512x1024 .f32 := spec0_0.stage ((cfgA T).slots t (0 : Fin 6))
abbrev hs0_0 (t : Fin (cfgA T).N) : (ms0_0 T t).IsWhole := hstage0_0 (((cfgA T).slots t (0 : Fin 6)).cast nbuf0_0)
abbrev ms0_1 (t : Fin (cfgA T).N) : Memref sig .tc .vmem S1x1024x2048 .f32 := spec0_1.stage ((cfgA T).slots t (1 : Fin 6))
abbrev hs0_1 (t : Fin (cfgA T).N) : (ms0_1 T t).IsWhole := hstage0_1 (((cfgA T).slots t (1 : Fin 6)).cast nbuf0_1)
abbrev ms0_2 (t : Fin (cfgA T).N) : Memref sig .tc .vmem S1x1x2048 .f32 := spec0_2.stage ((cfgA T).slots t (2 : Fin 6))
abbrev hs0_2 (t : Fin (cfgA T).N) : (ms0_2 T t).IsWhole := hstage0_2 (((cfgA T).slots t (2 : Fin 6)).cast nbuf0_2)
abbrev ms0_3 (t : Fin (cfgA T).N) : Memref sig .tc .vmem S1x1024x1024 .f32 := spec0_3.stage ((cfgA T).slots t (3 : Fin 6))
abbrev hs0_3 (t : Fin (cfgA T).N) : (ms0_3 T t).IsWhole := hstage0_3 (((cfgA T).slots t (3 : Fin 6)).cast nbuf0_3)
abbrev ms0_4 (t : Fin (cfgA T).N) : Memref sig .tc .vmem S1x1x1024 .f32 := spec0_4.stage ((cfgA T).slots t (4 : Fin 6))
abbrev hs0_4 (t : Fin (cfgA T).N) : (ms0_4 T t).IsWhole := hstage0_4 (((cfgA T).slots t (4 : Fin 6)).cast nbuf0_4)
abbrev ms0_5 (t : Fin (cfgA T).N) : Memref sig .tc .vmem S512x1024 .f32 := spec0_5.stage ((cfgA T).slots t (5 : Fin 6))
abbrev hs0_5 (t : Fin (cfgA T).N) : (ms0_5 T t).IsWhole := hstage0_5 (((cfgA T).slots t (5 : Fin 6)).cast nbuf0_5)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The expert a word names. -/
def expert (w : BitVec 32) : Fin 32 := ⟨w.toNat % 32, Nat.mod_lt _ (by decide)⟩

theorem index1 (t : Fin (cfgA T).N) : ((cfgA T).win (1 : Fin 6)).index t = ![(word T (crd T t)).toNat, 0, 0] := t1_eq T _
theorem index2 (t : Fin (cfgA T).N) : ((cfgA T).win (2 : Fin 6)).index t = ![(word T (crd T t)).toNat, 0, 0] := t2_eq T _
theorem index3 (t : Fin (cfgA T).N) : ((cfgA T).win (3 : Fin 6)).index t = ![(word T (crd T t)).toNat, 0, 0] := t3_eq T _
theorem index4 (t : Fin (cfgA T).N) : ((cfgA T).win (4 : Fin 6)).index t = ![(word T (crd T t)).toNat, 0, 0] := t4_eq T _

theorem iblk1 (c : Dev nD) (t : Fin (cfgA T).N) : iblk T m ρ c (1 : Fin 6) t
    = (fun y : S1x1024x2048.Idx => m ((c : Thread nD τ).loc main_arg3) (ix3 (expert (word T (crd T t))) (y 1 : Fin 1024) (y 2 : Fin 2048))) := by
  funext y
  have hw : (word T (crd T t)).toNat < 32 := T.te_lt _
  have hy : (y 0).val < 1 := (y 0).isLt
  refine congrArg (m ((c : Thread nD τ).loc main_arg3)) (funext fun a => Fin.ext ?_)
  refine (Pipeline.Window.rect_emb_val ((cfgA T).win (1 : Fin 6)) t y a).trans ?_
  rw [index1]
  fin_cases a <;> simp [expert] <;> omega

theorem iblk2 (c : Dev nD) (t : Fin (cfgA T).N) : iblk T m ρ c (2 : Fin 6) t
    = (fun y : S1x1x2048.Idx => m ((c : Thread nD τ).loc main_arg4) (ix3 (expert (word T (crd T t))) (y 1 : Fin 1) (y 2 : Fin 2048))) := by
  funext y
  have hw : (word T (crd T t)).toNat < 32 := T.te_lt _
  have hy : (y 0).val < 1 := (y 0).isLt
  refine congrArg (m ((c : Thread nD τ).loc main_arg4)) (funext fun a => Fin.ext ?_)
  refine (Pipeline.Window.rect_emb_val ((cfgA T).win (2 : Fin 6)) t y a).trans ?_
  rw [index2]
  fin_cases a <;> simp [expert] <;> omega

theorem iblk3 (c : Dev nD) (t : Fin (cfgA T).N) : iblk T m ρ c (3 : Fin 6) t
    = (fun y : S1x1024x1024.Idx => m ((c : Thread nD τ).loc main_arg5) (ix3 (expert (word T (crd T t))) (y 1 : Fin 1024) (y 2 : Fin 1024))) := by
  funext y
  have hw : (word T (crd T t)).toNat < 32 := T.te_lt _
  have hy : (y 0).val < 1 := (y 0).isLt
  refine congrArg (m ((c : Thread nD τ).loc main_arg5)) (funext fun a => Fin.ext ?_)
  refine (Pipeline.Window.rect_emb_val ((cfgA T).win (3 : Fin 6)) t y a).trans ?_
  rw [index3]
  fin_cases a <;> simp [expert] <;> omega

theorem iblk4 (c : Dev nD) (t : Fin (cfgA T).N) : iblk T m ρ c (4 : Fin 6) t
    = (fun y : S1x1x1024.Idx => m ((c : Thread nD τ).loc main_arg6) (ix3 (expert (word T (crd T t))) (y 1 : Fin 1) (y 2 : Fin 1024))) := by
  funext y
  have hw : (word T (crd T t)).toNat < 32 := T.te_lt _
  have hy : (y 0).val < 1 := (y 0).isLt
  refine congrArg (m ((c : Thread nD τ).loc main_arg6)) (funext fun a => Fin.ext ?_)
  refine (Pipeline.Window.rect_emb_val ((cfgA T).win (4 : Fin 6)) t y a).trans ?_
  rw [index4]
  fin_cases a <;> simp [expert] <;> omega

end Cert.Kernel4Ideal.Experts

end
-- ==== Proof.ExpertsDataIdeal.lean ====
/- The experts' call (read over the reals): the pipeline's proof data. -/
module

public import proofs.«01_k».proof.Proof.ExpertsRunIdeal
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Ideal) ℕ (UR sig nD τ) ℕ

variable (T : Tables)
variable (m : (ℓ : Loc nD τ sig) → Buf (Elt Ideal) ℓ) (ρ : Dev nD → PrngReg)

/-- The launch memory's tables are the ones at hand. -/
def Pinned : Prop :=
  (∀ c : Dev nD, m ((c : Thread nD τ).loc main_arg0) = T.te) ∧ (∀ c : Dev nD, m ((c : Thread nD τ).loc main_arg1) = T.nu)

/-- The output window is written at every point. -/
theorem idle5 (t : Fin (cfgA T).N) : (cfgA T).idle (5 : Fin 6) ((cfgA T).grid.coords t) = false := by
  show (!(k0_cond1 (crd T t) ((pf T).atD 1 ![0]) == 1#1) && !(k0_cond3 (crd T t) ((pf T).atD 1 ![0]) == 1#1)) = false
  by_cases h : k0_cond1 (crd T t) ((pf T).atD 1 ![0]) = 1#1
  · simp [h]
  · have h3 := (cond3_iff _ _).mpr h
    simp [h3]

/-! ## The pipeline's proof data -/

/-- What a point leaves in the output's staging buffer: the tile's value, or zeros where the tile is unused. -/
def left (c : Dev nD) (t : Fin (cfgA T).N) : S512x1024.Idx → Elt Ideal .f32 := by
  classical
  exact if Used T (crd T t) then tileOut (iblk T m ρ c (0 : Fin 6) t) (castW (iblk T m ρ c (1 : Fin 6) t)) (iblk T m ρ c (2 : Fin 6) t) (castD (iblk T m ρ c (3 : Fin 6) t)) (iblk T m ρ c (4 : Fin 6) t)
    else k0_pay2 (F := Ideal)

theorem left_used (c : Dev nD) (t : Fin (cfgA T).N) (h : Used T (crd T t)) : left T m ρ c t
    = tileOut (iblk T m ρ c (0 : Fin 6) t) (castW (iblk T m ρ c (1 : Fin 6) t)) (iblk T m ρ c (2 : Fin 6) t) (castD (iblk T m ρ c (3 : Fin 6) t)) (iblk T m ρ c (4 : Fin 6) t) := if_pos h
theorem left_unused (c : Dev nD) (t : Fin (cfgA T).N) (h : ¬ Used T (crd T t)) : left T m ρ c t = k0_pay2 (F := Ideal) := if_neg h

/-- Before position `n`, a used point just behind has left its expert's matrices in the scratch buffers. -/
def Kept0 (c : Dev nD) (n : ℕ) (a : S1024x2048.Idx → Elt Ideal .bf16) : Prop :=
  ∀ s : Fin (cfgA T).N, s.val + 1 = n → Used T (crd T s) → a = castW (iblk T m ρ c (1 : Fin 6) s)
def Kept1 (c : Dev nD) (n : ℕ) (a : S1024x1024.Idx → Elt Ideal .bf16) : Prop :=
  ∀ s : Fin (cfgA T).N, s.val + 1 = n → Used T (crd T s) → a = castD (iblk T m ρ c (3 : Fin 6) s)

theorem kept0_of (c : Dev nD) (t : Fin (cfgA T).N) {a : S1024x2048.Idx → Elt Ideal .bf16} (h : Used T (crd T t) → a = castW (iblk T m ρ c (1 : Fin 6) t)) :
    Kept0 T m ρ c (t.val + 1) a := by
  intro s hs hu
  have e : s = t := Fin.ext (Nat.succ.inj hs)
  rw [e] at hu ⊢
  exact h hu
theorem kept1_of (c : Dev nD) (t : Fin (cfgA T).N) {a : S1024x1024.Idx → Elt Ideal .bf16} (h : Used T (crd T t) → a = castD (iblk T m ρ c (3 : Fin 6) t)) :
    Kept1 T m ρ c (t.val + 1) a := by
  intro s hs hu
  have e : s = t := Fin.ext (Nat.succ.inj hs)
  rw [e] at hu ⊢
  exact h hu

/-- A used point that does not take its expert up anew finds the expert's matrices kept. -/
theorem kept_again (c : Dev nD) (t : Fin (cfgA T).N) (q0 : Used T (crd T t)) (q1 : ¬ Anew T (crd T t)) (a0 : S1024x2048.Idx → Elt Ideal .bf16) (a1 : S1024x1024.Idx → Elt Ideal .bf16)
    (h0 : Kept0 T m ρ c t.val a0) (h1 : Kept1 T m ρ c t.val a1) :
    a0 = castW (iblk T m ρ c (1 : Fin 6) t) ∧ a1 = castD (iblk T m ρ c (3 : Fin 6) t) := by
  obtain ⟨hz, hw⟩ := not_anew T _ q1
  have ht : (crd T t 0).val = t.val := crd_val t
  have ht0 : t.val ≠ 0 := by rw [← ht]; exact hz
  have hlt := t.isLt
  have hs : ((crd T ⟨t.val - 1, Nat.lt_of_le_of_lt (Nat.sub_le _ _) hlt⟩) 0).val = t.val - 1 := crd_val ⟨t.val - 1, Nat.lt_of_le_of_lt (Nat.sub_le _ _) hlt⟩
  have hu : Used T (crd T ⟨t.val - 1, Nat.lt_of_le_of_lt (Nat.sub_le _ _) hlt⟩) := by
    rw [used_iff] at q0 ⊢
    rw [hs]; rw [ht] at q0; omega
  have e : word T (crd T t) = word T (crd T ⟨t.val - 1, Nat.lt_of_le_of_lt (Nat.sub_le _ _) hlt⟩) := hw _ (by rw [hs, ht]; omega)
  have e0 := h0 ⟨t.val - 1, Nat.lt_of_le_of_lt (Nat.sub_le _ _) hlt⟩ (by show t.val - 1 + 1 = t.val; omega) hu
  have e1 := h1 ⟨t.val - 1, Nat.lt_of_le_of_lt (Nat.sub_le _ _) hlt⟩ (by show t.val - 1 + 1 = t.val; omega) hu
  refine ⟨e0.trans (congrArg castW ?_), e1.trans (congrArg castD ?_)⟩
  · exact (iblk1 T m ρ c _).trans ((by rw [e] : _ = _).trans (iblk1 T m ρ c t).symm)
  · exact (iblk3 T m ρ c _).trans ((by rw [e] : _ = _).trans (iblk3 T m ρ c t).symm)

/-- The invariant before point `t`: the scratch buffers, and the body's halves of the tables. -/
def Phi (c : Dev nD) (t : Fin ((cfgA T).N + 1)) : sProp 𝕄 :=
  iprop((∃ a, ⌜Kept0 T m ρ c t.val a⌝ ∗ (scM0_0.view.loc (c : Thread nD τ) ↦{fullShare} a)) ∗ (∃ a, ⌜Kept1 T m ρ c t.val a⌝ ∗ (scM0_1.view.loc (c : Thread nD τ) ↦{fullShare} a)) ∗ (tbM0_0.view.loc (c : Thread nD τ) ↦{fullShare.right} T.te) ∗ (tbM0_1.view.loc (c : Thread nD τ) ↦{fullShare.right} T.nu))

/-- The proof data of the pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => left T m ρ c t
  Φ t := Phi T m ρ c t
  q _ := fullShare
  owed _ := 0

theorem after0_0 (c : Dev nD) (t : Fin (cfgA T).N) : (dats T m ρ 0 c).after (0 : Fin 6) t = iblk T m ρ c (0 : Fin 6) t := rfl
theorem after0_1 (c : Dev nD) (t : Fin (cfgA T).N) : (dats T m ρ 0 c).after (1 : Fin 6) t = iblk T m ρ c (1 : Fin 6) t := rfl
theorem after0_2 (c : Dev nD) (t : Fin (cfgA T).N) : (dats T m ρ 0 c).after (2 : Fin 6) t = iblk T m ρ c (2 : Fin 6) t := rfl
theorem after0_3 (c : Dev nD) (t : Fin (cfgA T).N) : (dats T m ρ 0 c).after (3 : Fin 6) t = iblk T m ρ c (3 : Fin 6) t := rfl
theorem after0_4 (c : Dev nD) (t : Fin (cfgA T).N) : (dats T m ρ 0 c).after (4 : Fin 6) t = iblk T m ρ c (4 : Fin 6) t := rfl
theorem after0_5 (c : Dev nD) (t : Fin (cfgA T).N) : (dats T m ρ 0 c).after (5 : Fin 6) t = left T m ρ c t := rfl

/-- An input window holds its block when the body runs. -/
theorem before0_0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

end Cert.Kernel4Ideal.Experts

end
-- ==== Proof.ExpertsBodyIdeal.lean ====
/- The experts' call (read over the reals): the body at every point. -/
module

public import proofs.«01_k».proof.Proof.ExpertsDataIdeal
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Ideal) ℕ (UR sig nD τ) ℕ

variable (T : Tables)
variable (m : (ℓ : Loc nD τ sig) → Buf (Elt Ideal) ℓ) (ρ : Dev nD → PrngReg)

/-! ## The body at a point -/

/-- The body at point `t` on its staging buffers, as the pipeline calls it. -/
abbrev bodyAt0 (t : Fin (cfgA T).N) : Prog (TpuEff nD τ sig (Elt Ideal) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (Memref.whole cc0_scratch0) (Memref.isWhole_whole _) (Memref.whole cc0_scratch1) (Memref.isWhole_whole _)

set_option maxHeartbeats 400000 in
/-- The body at point `t`, by the way its control takes: the expert taken up anew, the expert kept, the tile unused. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 6) t d))
        ∗ (∃ d, owns (c : Thread nD τ) (ms0_1 T t) fullShare ((dats T m ρ 0 c).before (1 : Fin 6) t d))
        ∗ (∃ d, owns (c : Thread nD τ) (ms0_2 T t) fullShare ((dats T m ρ 0 c).before (2 : Fin 6) t d))
        ∗ (∃ d, owns (c : Thread nD τ) (ms0_3 T t) fullShare ((dats T m ρ 0 c).before (3 : Fin 6) t d))
        ∗ (∃ d, owns (c : Thread nD τ) (ms0_4 T t) fullShare ((dats T m ρ 0 c).before (4 : Fin 6) t d))
        ∗ (∃ d, owns (c : Thread nD τ) (ms0_5 T t) fullShare ((dats T m ρ 0 c).before (5 : Fin 6) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : Used T (crd T t)
  · by_cases q1 : Anew T (crd T t)
    · have n3 : ¬ k0_cond3 (crd T t) (nuW T) = 1#1 := fun h => (cond3_iff _ _).mp h q0
      rewrite [idle5 T t]
      simp only [before0_0, before0_1, before0_2, before0_3, before0_4, after0_0, after0_1, after0_2, after0_3, after0_4, after0_5]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi; simp only [Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply ((runA T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) q0 q1 n3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; exact kept0_of T m ρ c t fun _ => runA_W T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) q0 q1 n3
        isplitl [HS1]
        · iexists _; isplitr; swap
          · iexact HS1
          · ipureintro; exact kept1_of T m ρ c t fun _ => runA_D T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) q0 q1 n3
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        exact (runA_out T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) q0 q1 n3 _).trans (left_used T m ρ c t q0).symm
    · have n3 : ¬ k0_cond3 (crd T t) (nuW T) = 1#1 := fun h => (cond3_iff _ _).mp h q0
      rewrite [idle5 T t]
      simp only [before0_0, before0_1, before0_2, before0_3, before0_4, after0_0, after0_1, after0_2, after0_3, after0_4, after0_5]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi; simp only [Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      obtain ⟨e0, e1⟩ := kept_again T m ρ c t q0 q1 a0 a1 ha0 ha1
      iapply ((runB T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) a0 a1 q0 q1 n3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; exact kept0_of T m ρ c t fun _ => e0
        isplitl [HS1]
        · iexists _; isplitr; swap
          · iexact HS1
          · ipureintro; exact kept1_of T m ρ c t fun _ => e1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        exact (runB_out T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) a0 a1 q0 q1 n3 _).trans ((congrArg₂ (fun p q => tileOut (iblk T m ρ c (0 : Fin 6) t) p (iblk T m ρ c (2 : Fin 6) t) q (iblk T m ρ c (4 : Fin 6) t)) e0 e1).trans (left_used T m ρ c t q0).symm)
  · have h3 : k0_cond3 (crd T t) (nuW T) = 1#1 := (cond3_iff _ _).mpr q0
    rewrite [idle5 T t]
    simp only [before0_0, before0_1, before0_2, before0_3, before0_4, after0_0, after0_1, after0_2, after0_3, after0_4, after0_5]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    unfold Phi; simp only [Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
    iapply ((runC T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) a0 a1 q0 h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · isplitl [HS0]
      · iexists _; isplitr; swap
        · iexact HS0
        · ipureintro; exact kept0_of T m ρ c t fun h => absurd h q0
      isplitl [HS1]
      · iexists _; isplitr; swap
        · iexact HS1
        · ipureintro; exact kept1_of T m ρ c t fun h => absurd h q0
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro
      exact (runC_out T c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (iblk T m ρ c (0 : Fin 6) t) (iblk T m ρ c (1 : Fin 6) t) (iblk T m ρ c (2 : Fin 6) t) (iblk T m ρ c (3 : Fin 6) t) (iblk T m ρ c (4 : Fin 6) t) a0 a1 q0 h3 _).trans (left_unused T m ρ c t q0).symm

/-- The body at every point. -/
theorem body_obligation (hp : Pinned T m) (c : Dev nD) : BodyObligation (dats T m ρ 0 c) (defs₀ (F := Ideal)) Variants.none () Set.univ := fun t => by
  rw [bigSep_W0]
  exact sound_body T m ρ hp c t

end Cert.Kernel4Ideal.Experts

end
-- ==== Proof.ExpertsLaunchIdeal.lean ====
/- The experts' call (read over the reals): the launch. -/
module

public import proofs.«01_k».proof.Proof.ExpertsBodyIdeal
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Ideal) ℕ (UR sig nD τ) ℕ

variable (T : Tables)
variable (m : (ℓ : Loc nD τ sig) → Buf (Elt Ideal) ℓ) (ρ : Dev nD → PrngReg)

/-! ## The launch -/

/-- The launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HT0]
  · iexact HT0
  iexact HT1

/-- at the last point it gives the scratch buffers back. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the run ends with: every array as computed, every table as it was. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a launch memory with these tables every run ends so, with every semaphore at zero. -/
theorem run_main_quiescent (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem unchanged (hp : Pinned T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) ((θ_run defs _ _).mono (fun _ h => h.1) (run_main_quiescent T m ρ hp))

/-- The frame, from a launch memory with these tables. -/
theorem frame_pinned (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Kernel4Ideal.Experts

end
-- ==== Proof.ExpertsFinal.lean ====
/- The experts' call over the reals ends with the tokens' entries, and so does the reference: the value claim, and the
   frames of both. -/
module

public import proofs.«01_k».proof.Proof.ExpertsRef
public import proofs.«01_k».proof.Proof.ExpertsTile
public import proofs.«01_k».proof.Proof.ExpertsPre
public import proofs.«01_k».proof.Proof.ExpertsLaunchIdeal
public import Idealize.ShloMosaic.Lib.Pipeline.ValueKit
public import Idealize.ShloMosaic.Lib.Pipeline.Covers
public import Idealize.ShloMosaic.Lib.Quiescent

@[expose] public section

set_option maxRecDepth 16384

noncomputable section

namespace Cert.Kernel4Ideal.Experts

open Cert.Kernel4Ideal Cert.Kernel4Ideal.Gen Idealize.ShloMosaic Idealize.ShloMosaic.TcCoe Idealize.ShloMosaic.Tactic Cert.Experts
open Idealize.SL Idealize.SL.Sem
open Idealize.ShloMosaic.Pipeline

variable (T : Tables)
variable (m : (ℓ : Loc nD τ sig) → Buf (Elt Ideal) ℓ) (ρ : Dev nD → PrngReg)

theorem crd_lt (t : Fin (cfgA T).N) : t.val < 189 := (crd_val t) ▸ coord_lt (crd T t)

theorem index0 (t : Fin (cfgA T).N) (h : Used T (crd T t)) : ((cfgA T).win (0 : Fin 6)).index t = ![t.val, 0] := by
  have e := min_eq (crd T t) (T.nu o1) (T.nu_pos _) ((used_iff T _).mp h)
  have e' : (crd T t 0).val = t.val := crd_val t
  refine (t0_eq T (crd T t)).trans ?_
  rw [e, e']

theorem index5 (t : Fin (cfgA T).N) : ((cfgA T).win (5 : Fin 6)).index t = ![t.val, 0] := by
  have e' : (crd T t 0).val = t.val := crd_val t
  have hl := crd_lt T t
  show ![(BitVec.ofNat 32 (crd T t 0).val).toNat, 0] = _
  rw [e', BitVec.toNat_ofNat, Nat.mod_eq_of_lt (by omega)]

/-- A used point is handed its own tile's tokens. -/
theorem iblk0 (c : Dev nD) (t : Fin (cfgA T).N) (h : Used T (crd T t)) : iblk T m ρ c (0 : Fin 6) t
    = (fun y : S512x1024.Idx => m ((c : Thread nD τ).loc main_arg2) (ix2 (⟨t.val * 512 + (y 0).val, by have := crd_lt T t; have := (y 0).isLt; simp at this; omega⟩ : Fin 96768) (y 1 : Fin 1024))) := by
  funext y
  refine congrArg (m ((c : Thread nD τ).loc main_arg2)) (funext fun a => Fin.ext ?_)
  refine (Pipeline.Window.rect_emb_val ((cfgA T).win (0 : Fin 6)) t y a).trans ?_
  rw [index0 T t h]
  fin_cases a <;> simp

/-- What the result array is shown to hold. -/
def G (c : Dev nD) : Buf (Elt Ideal) ((c : Thread nD τ).loc main_v0) := fun i : S96768x1024.Idx =>
  moe T.te T.te_lt T.nu (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

theorem expert_eq (t : Fin (cfgA T).N) (h : t.val < 189) : expert (word T (crd T t)) = pick T.te T.te_lt ⟨t.val, h⟩ := by
  have e : (⟨(crd T t 0).val, (crd T t 0).isLt⟩ : Fin 189) = ⟨t.val, h⟩ := Fin.ext (crd_val t)
  refine Fin.ext ?_
  show (T.te (ix1 (⟨(crd T t 0).val, (crd T t 0).isLt⟩ : Fin 189))).toNat % 32 = (T.te (ix1 (⟨t.val, h⟩ : Fin 189))).toNat
  rw [e]
  exact Nat.mod_eq_of_lt (T.te_lt _)

/-- A point leaves its tile's entries. -/
theorem left_apply (c : Dev nD) (t : Fin (cfgA T).N) (r : Fin 512) (j : Fin 1024) (h : t.val * 512 + r.val < 96768) :
    left T m ρ c t (ix2 r j) = G T m c (ix2 (⟨t.val * 512 + r.val, h⟩ : Fin 96768) j) := by
  have hl := crd_lt T t
  have hd : (t.val * 512 + r.val) / 512 = t.val := by omega
  have ht : (crd T t 0).val = t.val := crd_val t
  show _ = moe T.te T.te_lt T.nu _ _ _ _ _ (⟨t.val * 512 + r.val, h⟩ : Fin 96768) j
  unfold moe
  by_cases hu : Used T (crd T t)
  · have hu' := (used_iff T _).mp hu
    rw [ht] at hu'
    rw [left_used T m ρ c t hu, tile_apply, if_pos (by simp only [hd]; exact hu'), iblk0 T m ρ c t hu, iblk1, iblk2, iblk3, iblk4, expert_eq T t hl]
    simp only [hd]
    rfl
  · have hu' := fun e => hu ((used_iff T _).mpr e)
    rw [ht] at hu'
    rw [left_unused T m ρ c t hu, zeros_apply, if_neg (by simp only [hd]; exact hu')]

theorem grid_N : grid0.N = 189 := by decide +kernel

theorem covers : ((cfgA T).win (5 : Fin 6)).Covers :=
  ((cfgA T).win (5 : Fin 6)).covers_of_index_surj rfl ((by decide : ∀ a : Fin S512x1024.rank, 0 < S512x1024.size a)) fun β => by
    have h0 : (β 0).val < 189 := lt_of_lt_of_eq (β 0).isLt (show (96768 + 512 - 1) / 512 = 189 by norm_num)
    have h1 : (β 1).val < 1 := lt_of_lt_of_eq (β 1).isLt (show (1024 + 1024 - 1) / 1024 = 1 by norm_num)
    refine ⟨⟨(β 0).val, lt_of_lt_of_eq h0 grid_N.symm⟩, fun a => ?_⟩
    rw [index5]
    fin_cases a
    · rfl
    · show 0 = (β 1).val
      omega

theorem final (c : Dev nD) : (dats T m ρ 0 c).arrAt (5 : Fin 6) (cfgA T).N = G T m c := by
  refine (dats T m ρ 0 c).arrAt_eq_of_covers (5 : Fin 6) (G T m c) (covers T) fun t hf y => ?_
  have hl := crd_lt T t
  have hy0 : (y 0).val < 512 := (y 0).isLt
  refine (show _ = left T m ρ c t (ix2 (y 0 : Fin 512) (y 1 : Fin 1024)) from ?_).trans ((left_apply T m ρ c t (y 0 : Fin 512) (y 1 : Fin 1024) (by omega)).trans (congrArg (G T m c) (funext fun a => Fin.ext ?_)))
  · refine congrArg (left T m ρ c t) (funext fun a => Fin.ext ?_)
    fin_cases a <;> rfl
  · refine Eq.trans ?_ (Pipeline.Window.rect_emb_val ((cfgA T).win (5 : Fin 6)) t y a).symm
    rw [index5]
    fin_cases a <;> simp

/-! ## The claims -/

/-- The tables a launch memory holds, under the precondition. -/
def tables (h : Cert.Pre_Kernel4Ideal m) : Tables where
  te := m (((0 : Dev nD) : Thread nD τ).loc main_arg0)
  nu := m (((0 : Dev nD) : Thread nD τ).loc main_arg1)
  te_lt := (in_range_tables _ _ _ _ _ _ _ (h 0)).1
  nu_pos := (in_range_tables _ _ _ _ _ _ _ (h 0)).2

theorem pinned (h : Cert.Pre_Kernel4Ideal m) : Pinned (tables m h) m :=
  ⟨fun c => by rw [show c = (0 : Dev nD) from Subsingleton.elim _ _]; rfl, fun c => by rw [show c = (0 : Dev nD) from Subsingleton.elim _ _]; rfl⟩

/-- The kernel's frame. -/
theorem frame : Cert.quiescent_Kernel4Ideal := fun m g h => frame_pinned (tables m h) m g (pinned m h)

/-- The kernel's run, its result named. -/
theorem run (h : Cert.Pre_Kernel4Ideal m) :
    θ_run (defs (F := Ideal)) (onTc (τ := τ) (main (F := Ideal))) ⟨m, fun _ => 0, ρ⟩ (fun r => ∀ c : Dev nD,
      r.2.mem ((c.tc : Thread nD τ).loc main_v0) = G (tables m h) m c) :=
  (θ_run defs _ _).mono (fun _ hr c => ((hr.1 c).1 (5 : Fin 6)).trans (final (tables m h) m ρ c)) (run_main_quiescent (tables m h) m ρ (pinned m h))

/-- The reference's frame, with and without the precondition. -/
theorem frame_reference : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)
theorem frame_reference_pre : Cert.quiescent_Reference4Ideal_pre_in_range := fun m g _ => frame_reference m g trivial

/-- The kernel and the reference end with the same array. -/
theorem algebraic : Cert.algebraic_Kernel4Ideal_Reference4Ideal := by
  intro m g m' g' hpre harg
  refine ⟨fun c => G (tables m hpre) m c, ?_, ?_⟩
  · exact (θ_run defs _ _).mono (fun r h c => ⟨h.1 c, h.2 c⟩)
      (θ_run_and (run m g hpre) (unchanged (tables m hpre) m g (pinned m hpre)))
  · refine (θ_run Cert.Reference4Ideal.defs _ _).mono (fun r h c => ⟨(h c).1.trans ?_, (h c).2⟩) (Cert.Reference4Ideal.Value.run (F := Ideal) m' g')
    rw [lines_eq]
    obtain ⟨e0, e1, e2, e3, e4, e5, e6⟩ := harg c
    obtain rfl : c = (0 : Dev nD) := Subsingleton.elim _ _
    exact lines_moe (tables m hpre).te_lt e0 e1 e2 e3 e4 e5 e6

end Cert.Kernel4Ideal.Experts

end
-- ==== Proof.ExpertsKeptBits.lean ====
/- The experts' call (read at the machine's words): what its body keeps in the scratch buffers, in closed form. -/
module

public import proofs.«01_k».proof.Proof.ExpertsCfgBits
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4.Experts

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## What the body leaves -/

/-- The expert's gate and up matrices as the first scratch buffer keeps them. -/
def castW (x : S1x1024x2048.Idx → Elt Bits .f32) : S1024x2048.Idx → Elt Bits .bf16 :=
  fun y => FloatOps.truncf (F := Bits) (φ := .f32) .bf16 bitsLt_bf16_f32 (x (ix3 (0 : Fin 1) (y 0 : Fin 1024) (y 1 : Fin 2048)))

/-- The expert's down matrix as the second scratch buffer keeps it. -/
def castD (x : S1x1024x1024.Idx → Elt Bits .f32) : S1024x1024.Idx → Elt Bits .bf16 :=
  fun y => FloatOps.truncf (F := Bits) (φ := .f32) .bf16 bitsLt_bf16_f32 (x (ix3 (0 : Fin 1) (y 0 : Fin 1024) (y 1 : Fin 1024)))

/-- What a used tile comes to, from its rows, the kept matrices and the two biases. -/
def tileOut (x0 : S512x1024.Idx → Elt Bits .f32) (w : S1024x2048.Idx → Elt Bits .bf16) (x2 : S1x1x2048.Idx → Elt Bits .f32)
    (d : S1024x1024.Idx → Elt Bits .bf16) (x4 : S1x1x1024.Idx → Elt Bits .f32) : S512x1024.Idx → Elt Bits .f32 :=
  k0_pay1 (F := Bits) (k0_pay19 (F := Bits) x0 w x2 d) x4

set_option maxHeartbeats 600000 in
theorem kept_W (arg4 : Memref sig .tc .vmem S1x1024x2048 .f32) (x1 : S1x1024x2048.Idx → Elt Bits .f32) (f) :
    (View.whole cc0_scratch0).writes (Elt Bits) f (kernelRun0_A.sl.HS0_8 arg4 x1) = castW x1 := by
  funext y
  refine (congrFun (View.read_whole (Val := Elt Bits) cc0_scratch0 _).symm y).trans ?_
  have hc : ∃ p ∈ kernelRun0_A.sl.HS0_8 arg4 x1, y ∈ p.1.set := View.cover_of_tiledL (kernelRun0_A.sl.HS0_8 arg4 x1) S128x2048.size (by sl_kernel_rfl) y
  rw [View.read_writes_apply_eq_canon _ _ _ _ hc]
  unfold kernelRun0_A.sl.HS0_8
  canon_tiles x h <;>
  (pointwise [k0_pay3, k0_pay4, k0_pay5, k0_pay6, k0_pay7, k0_pay8, k0_pay9, k0_pay10]
   rw [View.readAt_rep]
   first
   | refine congrArg x1 (funext fun a => Fin.ext ?_)
   | refine congrArg (FloatOps.truncf (F := Bits) (φ := .f32) .bf16 bitsLt_bf16_f32) (congrArg x1 (funext fun a => Fin.ext ?_))
   have x0_lt := (x 0).isLt
   fin_cases a <;> simp [Rect.unit, LoadRect.idx] at * <;> omega)

set_option maxHeartbeats 600000 in
theorem kept_D (arg6 : Memref sig .tc .vmem S1x1024x1024 .f32) (x3 : S1x1024x1024.Idx → Elt Bits .f32) (f) :
    (View.whole cc0_scratch1).writes (Elt Bits) f (kernelRun0_A.sl.HS1_8 arg6 x3) = castD x3 := by
  funext y
  refine (congrFun (View.read_whole (Val := Elt Bits) cc0_scratch1 _).symm y).trans ?_
  have hc : ∃ p ∈ kernelRun0_A.sl.HS1_8 arg6 x3, y ∈ p.1.set := View.cover_of_tiledL (kernelRun0_A.sl.HS1_8 arg6 x3) S128x1024.size (by sl_kernel_rfl) y
  rw [View.read_writes_apply_eq_canon _ _ _ _ hc]
  unfold kernelRun0_A.sl.HS1_8
  canon_tiles x h <;>
  (pointwise [k0_pay11, k0_pay12, k0_pay13, k0_pay14, k0_pay15, k0_pay16, k0_pay17, k0_pay18]
   rw [View.readAt_rep]
   first
   | refine congrArg x3 (funext fun a => Fin.ext ?_)
   | refine congrArg (FloatOps.truncf (F := Bits) (φ := .f32) .bf16 bitsLt_bf16_f32) (congrArg x3 (funext fun a => Fin.ext ?_))
   have x0_lt := (x 0).isLt
   fin_cases a <;> simp [Rect.unit, LoadRect.idx] at * <;> omega)

end Cert.Kernel4.Experts

end
-- ==== Proof.ExpertsRunBits.lean ====
/- The experts' call (read at the machine's words): what its body leaves at a point and which blocks it is handed, in closed form. -/
module

public import proofs.«01_k».proof.Proof.ExpertsKeptBits
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4.Experts

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Bits) ℕ (UR sig nD τ) ℕ

abbrev EP : Emb (UR sig nD τ) 𝕄 := emb₁

/-! ## What the body leaves -/

section Runs

variable (T : Tables) (c : Dev nD) (i : grid0.Coords)
variable (arg3 : Memref sig .tc .vmem S512x1024 .f32) (harg3 : arg3.IsWhole) (arg4 : Memref sig .tc .vmem S1x1024x2048 .f32) (harg4 : arg4.IsWhole)
variable (arg5 : Memref sig .tc .vmem S1x1x2048 .f32) (harg5 : arg5.IsWhole) (arg6 : Memref sig .tc .vmem S1x1024x1024 .f32) (harg6 : arg6.IsWhole)
variable (arg7 : Memref sig .tc .vmem S1x1x1024 .f32) (harg7 : arg7.IsWhole) (arg8 : Memref sig .tc .vmem S512x1024 .f32) (harg8 : arg8.IsWhole)
variable (x0 : S512x1024.Idx → Elt Bits .f32) (x1 : S1x1024x2048.Idx → Elt Bits .f32) (x2 : S1x1x2048.Idx → Elt Bits .f32)
variable (x3 : S1x1024x1024.Idx → Elt Bits .f32) (x4 : S1x1x1024.Idx → Elt Bits .f32)
variable (a0 : Buf (Elt Bits) ((c : Thread nD τ).loc cc0_scratch0)) (a1 : Buf (Elt Bits) ((c : Thread nD τ).loc cc0_scratch1))
variable (h1 : Used T i) (h2 : Anew T i) (n1 : ¬ Used T i) (n2 : ¬ Anew T i) (h3 : k0_cond3 i (nuW T) = 1#1) (n3 : ¬ k0_cond3 i (nuW T) = 1#1)

abbrev runA := kernelRun0_A c i arg3 harg3 arg4 harg4 arg5 harg5 arg6 harg6 arg7 harg7 arg8 harg8 T.te T.nu x0 x1 x2 x3 x4 h1 h2 n3
abbrev runB := kernelRun0_B c i arg3 harg3 arg4 harg4 arg5 harg5 arg6 harg6 arg7 harg7 arg8 harg8 T.te T.nu x0 x1 x2 x3 x4 a0 a1 h1 n2 n3
abbrev runC := kernelRun0_C c i arg3 harg3 arg4 harg4 arg5 harg5 arg6 harg6 arg7 harg7 arg8 harg8 T.te T.nu x0 x1 x2 x3 x4 a0 a1 n1 h3

theorem runA_L : (runA T c i arg3 harg3 arg4 harg4 arg5 harg5 arg6 harg6 arg7 harg7 arg8 harg8 x0 x1 x2 x3 x4 h1 h2 n3).1 = kernelRun0_A.sl.HO5_1 arg3 arg4 arg5 arg6 arg7 x0 x1 x2 x3 x4 := rfl
theorem runB_L : (runB T c i arg3 harg3 arg4 harg4 arg5 harg5 arg6 harg6 arg7 harg7 arg8 harg8 x0 x1 x2 x3 x4 a0 a1 h1 n2 n3).1 = kernelRun0_B.sl.HO5_1 c arg3 arg5 arg7 x0 x2 x4 a0 a1 := rfl
theorem runC_L : (runC T c i arg3 harg3 arg4 harg4 arg5 harg5 arg6 harg6 arg7 harg7 arg8 harg8 x0 x1 x2 x3 x4 a0 a1 n1 h3).1 = kernelRun0_C.sl.HO5_1 := rfl

theorem runA_W : (runA T c i arg3 harg3 arg4 harg4 arg5 harg5 arg6 harg6 arg7 harg7 arg8 harg8 x0 x1 x2 x3 x4 h1 h2 n3).2.1 = castW x1 := by
  delta runA kernelRun0_A
  dsimp only
  exact kept_W arg4 x1 _
theorem runA_D : (runA T c i arg3 harg3 arg4 harg4 arg5 harg5 arg6 harg6 arg7 harg7 arg8 harg8 x0 x1 x2 x3 x4 h1 h2 n3).2.2.1 = castD x3 := by
  delta runA kernelRun0_A
  dsimp only
  exact kept_D arg6 x3 _
theorem runA_out (f) : arg8.view.read (Elt Bits) (arg8.view.writes (Elt Bits) f (runA T c i arg3 harg3 arg4 harg4 arg5 harg5 arg6 harg6 arg7 harg7 arg8 harg8 x0 x1 x2 x3 x4 h1 h2 n3).1)
    = tileOut x0 (castW x1) x2 (castD x3) x4 := by
  rw [runA_L]; unfold kernelRun0_A.sl.HO5_1
  refine (View.read_writes_full _ _ _ _ _).trans ?_
  have e0 := View.readAt_rep_full (Val := Elt Bits) arg3.view x0 inb_S512x1024_S512x1024_0_0
  have e2 := View.readAt_rep_full (Val := Elt Bits) arg5.view x2 inb_S1x1x2048_S1x1x2048_0_0_0
  have e4 := View.readAt_rep_full (Val := Elt Bits) arg7.view x4 inb_S1x1x1024_S1x1x1024_0_0_0
  have e1 : kernelRun0_A.sl.v20 arg4 x1 = castW x1 := by
    unfold kernelRun0_A.sl.v20 View.readCov; exact (View.readAt_full _ _ _).trans ((View.read_whole (Val := Elt Bits) cc0_scratch0 _).trans (kept_W arg4 x1 _))
  have e3 : kernelRun0_A.sl.v42 arg6 x3 = castD x3 := by
    unfold kernelRun0_A.sl.v42 View.readCov; exact (View.readAt_full _ _ _).trans ((View.read_whole (Val := Elt Bits) cc0_scratch1 _).trans (kept_D arg6 x3 _))
  unfold kernelRun0_A.sl.r_3 tileOut
  rw [e0, e1, e2, e3, e4]

theorem runB_out (f) : arg8.view.read (Elt Bits) (arg8.view.writes (Elt Bits) f (runB T c i arg3 harg3 arg4 harg4 arg5 harg5 arg6 harg6 arg7 harg7 arg8 harg8 x0 x1 x2 x3 x4 a0 a1 h1 n2 n3).1)
    = tileOut x0 a0 x2 a1 x4 := by
  rw [runB_L]; unfold kernelRun0_B.sl.HO5_1
  refine (View.read_writes_full _ _ _ _ _).trans ?_
  have e0 := View.readAt_rep_full (Val := Elt Bits) arg3.view x0 inb_S512x1024_S512x1024_0_0
  have e2 := View.readAt_rep_full (Val := Elt Bits) arg5.view x2 inb_S1x1x2048_S1x1x2048_0_0_0
  have e4 := View.readAt_rep_full (Val := Elt Bits) arg7.view x4 inb_S1x1x1024_S1x1x1024_0_0_0
  have e1 : View.readAt (Elt Bits) scM0_0.view (Rect.unit ![0, 0] S1024x2048.size inb_S1024x2048_S1024x2048_0_0).toLoadRect a0 = a0 := View.readAt_full scM0_0.view a0 _
  have e3 : View.readAt (Elt Bits) scM0_1.view (Rect.unit ![0, 0] S1024x1024.size inb_S1024x1024_S1024x1024_0_0).toLoadRect a1 = a1 := View.readAt_full scM0_1.view a1 _
  unfold kernelRun0_B.sl.r_3 tileOut
  rw [e0, e1, e2, e3, e4]

theorem runC_out (f) : arg8.view.read (Elt Bits) (arg8.view.writes (Elt Bits) f (runC T c i arg3 harg3 arg4 harg4 arg5 harg5 arg6 harg6 arg7 harg7 arg8 harg8 x0 x1 x2 x3 x4 a0 a1 n1 h3).1)
    = k0_pay2 (F := Bits) := by
  rw [runC_L]; unfold kernelRun0_C.sl.HO5_1
  exact View.read_writes_full _ _ _ _ _

theorem runB_W : (runB T c i arg3 harg3 arg4 harg4 arg5 harg5 arg6 harg6 arg7 harg7 arg8 harg8 x0 x1 x2 x3 x4 a0 a1 h1 n2 n3).2.1 = a0 := rfl
theorem runB_D : (runB T c i arg3 harg3 arg4 harg4 arg5 harg5 arg6 harg6 arg7 harg7 arg8 harg8 x0 x1 x2 x3 x4 a0 a1 h1 n2 n3).2.2.1 = a1 := rfl
theorem runC_W : (runC T c i arg3 harg3 arg4 harg4 arg5 harg5 arg6 harg6 arg7 harg7 arg8 harg8 x0 x1 x2 x3 x4 a0 a1 n1 h3).2.1 = a0 := rfl
theorem runC_D : (runC T c i arg3 harg3 arg4 harg4 arg5 harg5 arg6 harg6 arg7 harg7 arg8 harg8 x0 x1 x2 x3 x4 a0 a1 n1 h3).2.2.1 = a1 := rfl

end Runs

/-! ## The windows' blocks -/

variable (T : Tables)
variable (m : (ℓ : Loc nD τ sig) → Buf (Elt Bits) ℓ) (ρ : Dev nD → PrngReg)

/-- Each window's staging buffer at a point, and that it is a whole buffer. -/
abbrev ms0_0 (t : Fin (cfgA T).N) : Memref sig .tc .vmem S512x1024 .f32 := spec0_0.stage ((cfgA T).slots t (0 : Fin 6))
abbrev hs0_0 (t : Fin (cfgA T).N) : (ms0_0 T t).IsWhole := hstage0_0 (((cfgA T).slots t (0 : Fin 6)).cast nbuf0_0)
abbrev ms0_1 (t : Fin (cfgA T).N) : Memref sig .tc .vmem S1x1024x2048 .f32 := spec0_1.stage ((cfgA T).slots t (1 : Fin 6))
abbrev hs0_1 (t : Fin (cfgA T).N) : (ms0_1 T t).IsWhole := hstage0_1 (((cfgA T).slots t (1 : Fin 6)).cast nbuf0_1)
abbrev ms0_2 (t : Fin (cfgA T).N) : Memref sig .tc .vmem S1x1x2048 .f32 := spec0_2.stage ((cfgA T).slots t (2 : Fin 6))
abbrev hs0_2 (t : Fin (cfgA T).N) : (ms0_2 T t).IsWhole := hstage0_2 (((cfgA T).slots t (2 : Fin 6)).cast nbuf0_2)
abbrev ms0_3 (t : Fin (cfgA T).N) : Memref sig .tc .vmem S1x1024x1024 .f32 := spec0_3.stage ((cfgA T).slots t (3 : Fin 6))
abbrev hs0_3 (t : Fin (cfgA T).N) : (ms0_3 T t).IsWhole := hstage0_3 (((cfgA T).slots t (3 : Fin 6)).cast nbuf0_3)
abbrev ms0_4 (t : Fin (cfgA T).N) : Memref sig .tc .vmem S1x1x1024 .f32 := spec0_4.stage ((cfgA T).slots t (4 : Fin 6))
abbrev hs0_4 (t : Fin (cfgA T).N) : (ms0_4 T t).IsWhole := hstage0_4 (((cfgA T).slots t (4 : Fin 6)).cast nbuf0_4)
abbrev ms0_5 (t : Fin (cfgA T).N) : Memref sig .tc .vmem S512x1024 .f32 := spec0_5.stage ((cfgA T).slots t (5 : Fin 6))
abbrev hs0_5 (t : Fin (cfgA T).N) : (ms0_5 T t).IsWhole := hstage0_5 (((cfgA T).slots t (5 : Fin 6)).cast nbuf0_5)

/-- Window `w`'s block at point `t`, read off its array at launch. -/
def iblk (c : Dev nD) (w : Fin (cfgA T).W) (t : Fin (cfgA T).N) : (((cfgA T).win w).xblock (crd T t)).Idx → Elt Bits ((cfgA T).win w).elt :=
  (((cfgA T).win w).blk t).view.read (Elt Bits) ((s₀ m ρ).mem (((cfgA T).win w).arr.view.loc (c : Thread nD τ)))

/-- The expert a word names. -/
def expert (w : BitVec 32) : Fin 32 := ⟨w.toNat % 32, Nat.mod_lt _ (by decide)⟩

theorem index1 (t : Fin (cfgA T).N) : ((cfgA T).win (1 : Fin 6)).index t = ![(word T (crd T t)).toNat, 0, 0] := t1_eq T _
theorem index2 (t : Fin (cfgA T).N) : ((cfgA T).win (2 : Fin 6)).index t = ![(word T (crd T t)).toNat, 0, 0] := t2_eq T _
theorem index3 (t : Fin (cfgA T).N) : ((cfgA T).win (3 : Fin 6)).index t = ![(word T (crd T t)).toNat, 0, 0] := t3_eq T _
theorem index4 (t : Fin (cfgA T).N) : ((cfgA T).win (4 : Fin 6)).index t = ![(word T (crd T t)).toNat, 0, 0] := t4_eq T _

theorem iblk1 (c : Dev nD) (t : Fin (cfgA T).N) : iblk T m ρ c (1 : Fin 6) t
    = (fun y : S1x1024x2048.Idx => m ((c : Thread nD τ).loc main_arg3) (ix3 (expert (word T (crd T t))) (y 1 : Fin 1024) (y 2 : Fin 2048))) := by
  funext y
  have hw : (word T (crd T t)).toNat < 32 := T.te_lt _
  have hy : (y 0).val < 1 := (y 0).isLt
  refine congrArg (m ((c : Thread nD τ).loc main_arg3)) (funext fun a => Fin.ext ?_)
  refine (Pipeline.Window.rect_emb_val ((cfgA T).win (1 : Fin 6)) t y a).trans ?_
  rw [index1]
  fin_cases a <;> simp [expert] <;> omega

theorem iblk2 (c : Dev nD) (t : Fin (cfgA T).N) : iblk T m ρ c (2 : Fin 6) t
    = (fun y : S1x1x2048.Idx => m ((c : Thread nD τ).loc main_arg4) (ix3 (expert (word T (crd T t))) (y 1 : Fin 1) (y 2 : Fin 2048))) := by
  funext y
  have hw : (word T (crd T t)).toNat < 32 := T.te_lt _
  have hy : (y 0).val < 1 := (y 0).isLt
  refine congrArg (m ((c : Thread nD τ).loc main_arg4)) (funext fun a => Fin.ext ?_)
  refine (Pipeline.Window.rect_emb_val ((cfgA T).win (2 : Fin 6)) t y a).trans ?_
  rw [index2]
  fin_cases a <;> simp [expert] <;> omega

theorem iblk3 (c : Dev nD) (t : Fin (cfgA T).N) : iblk T m ρ c (3 : Fin 6) t
    = (fun y : S1x1024x1024.Idx => m ((c : Thread nD τ).loc main_arg5) (ix3 (expert (word T (crd T t))) (y 1 : Fin 1024) (y 2 : Fin 1024))) := by
  funext y
  have hw : (word T (crd T t)).toNat < 32 := T.te_lt _
  have hy : (y 0).val < 1 := (y 0).isLt
  refine congrArg (m ((c : Thread nD τ).loc main_arg5)) (funext fun a => Fin.ext ?_)
  refine (Pipeline.Window.rect_emb_val ((cfgA T).win (3 : Fin 6)) t y a).trans ?_
  rw [index3]
  fin_cases a <;> simp [expert] <;> omega

theorem iblk4 (c : Dev nD) (t : Fin (cfgA T).N) : iblk T m ρ c (4 : Fin 6) t
    = (fun y : S1x1x1024.Idx => m ((c : Thread nD τ).loc main_arg6) (ix3 (expert (word T (crd T t))) (y 1 : Fin 1) (y 2 : Fin 1024))) := by
  funext y
  have hw : (word T (crd T t)).toNat < 32 := T.te_lt _
  have hy : (y 0).val < 1 := (y 0).isLt
  refine congrArg (m ((c : Thread nD τ).loc main_arg6)) (funext fun a => Fin.ext ?_)
  refine (Pipeline.Window.rect_emb_val ((cfgA T).win (4 : Fin 6)) t y a).trans ?_
  rw [index4]
  fin_cases a <;> simp [expert] <;> omega

end Cert.Kernel4.Experts

end
-- ==== Proof.ExpertsDataBits.lean ====
/- The experts' call (read at the machine's words): the pipeline's proof data. -/
module

public import proofs.«01_k».proof.Proof.ExpertsRunBits
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4.Experts

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Bits) ℕ (UR sig nD τ) ℕ

variable (T : Tables)
variable (m : (ℓ : Loc nD τ sig) → Buf (Elt Bits) ℓ) (ρ : Dev nD → PrngReg)

/-- The launch memory's tables are the ones at hand. -/
def Pinned : Prop :=
  (∀ c : Dev nD, m ((c : Thread nD τ).loc main_arg0) = T.te) ∧ (∀ c : Dev nD, m ((c : Thread nD τ).loc main_arg1) = T.nu)

/-- The output window is written at every point. -/
theorem idle5 (t : Fin (cfgA T).N) : (cfgA T).idle (5 : Fin 6) ((cfgA T).grid.coords t) = false := by
  show (!(k0_cond1 (crd T t) ((pf T).atD 1 ![0]) == 1#1) && !(k0_cond3 (crd T t) ((pf T).atD 1 ![0]) == 1#1)) = false
  by_cases h : k0_cond1 (crd T t) ((pf T).atD 1 ![0]) = 1#1
  · simp [h]
  · have h3 := (cond3_iff _ _).mpr h
    simp [h3]

/-! ## The pipeline's proof data -/

/-- What a point leaves in the output's staging buffer: the tile's value, or zeros where the tile is unused. -/
def left (c : Dev nD) (t : Fin (cfgA T).N) : S512x1024.Idx → Elt Bits .f32 := by
  classical
  exact if Used T (crd T t) then tileOut (iblk T m ρ c (0 : Fin 6) t) (castW (iblk T m ρ c (1 : Fin 6) t)) (iblk T m ρ c (2 : Fin 6) t) (castD (iblk T m ρ c (3 : Fin 6) t)) (iblk T m ρ c (4 : Fin 6) t)
    else k0_pay2 (F := Bits)

theorem left_used (c : Dev nD) (t : Fin (cfgA T).N) (h : Used T (crd T t)) : left T m ρ c t
    = tileOut (iblk T m ρ c (0 : Fin 6) t) (castW (iblk T m ρ c (1 : Fin 6) t)) (iblk T m ρ c (2 : Fin 6) t) (castD (iblk T m ρ c (3 : Fin 6) t)) (iblk T m ρ c (4 : Fin 6) t) := if_pos h
theorem left_unused (c : Dev nD) (t : Fin (cfgA T).N) (h : ¬ Used T (crd T t)) : left T m ρ c t = k0_pay2 (F := Bits) := if_neg h

/-- Before position `n`, a used point just behind has left its expert's matrices in the scratch buffers. -/
def Kept0 (c : Dev nD) (n : ℕ) (a : S1024x2048.Idx → Elt Bits .bf16) : Prop :=
  ∀ s : Fin (cfgA T).N, s.val + 1 = n → Used T (crd T s) → a = castW (iblk T m ρ c (1 : Fin 6) s)
def Kept1 (c : Dev nD) (n : ℕ) (a : S1024x1024.Idx → Elt Bits .bf16) : Prop :=
  ∀ s : Fin (cfgA T).N, s.val + 1 = n → Used T (crd T s) → a = castD (iblk T m ρ c (3 : Fin 6) s)

theorem kept0_of (c : Dev nD) (t : Fin (cfgA T).N) {a : S1024x2048.Idx → Elt Bits .bf16} (h : Used T (crd T t) → a = castW (iblk T m ρ c (1 : Fin 6) t)) :
    Kept0 T m ρ c (t.val + 1) a := by
  intro s hs hu
  have e : s = t := Fin.ext (Nat.succ.inj hs)
  rw [e] at hu ⊢
  exact h hu
theorem kept1_of (c : Dev nD) (t : Fin (cfgA T).N) {a : S1024x1024.Idx → Elt Bits .bf16} (h : Used T (crd T t) → a = castD (iblk T m ρ c (3 : Fin 6) t)) :
    Kept1 T m ρ c (t.val + 1) a := by
  intro s hs hu
  have e : s = t := Fin.ext (Nat.succ.inj hs)
  rw [e] at hu ⊢
  exact h hu

/-- A used point that does not take its expert up anew finds the expert's matrices kept. -/
theorem kept_again (c : Dev nD) (t : Fin (cfgA T).N) (q0 : Used T (crd T t)) (q1 : ¬ Anew T (crd T t)) (a0 : S1024x2048.Idx → Elt Bits .bf16) (a1 : S1024x1024.Idx → Elt Bits .bf16)
    (h0 : Kept0 T m ρ c t.val a0) (h1 : Kept1 T m ρ c t.val a1) :
    a0 = castW (iblk T m ρ c (1 : Fin 6) t) ∧ a1 = castD (iblk T m ρ c (3 : Fin 6) t) := by
  obtain ⟨hz, hw⟩ := not_anew T _ q1
  have ht : (crd T t 0).val = t.val := crd_val t
  have ht0 : t.val ≠ 0 := by rw [← ht]; exact hz
  have hlt := t.isLt
  have hs : ((crd T ⟨t.val - 1, Nat.lt_of_le_of_lt (Nat.sub_le _ _) hlt⟩) 0).val = t.val - 1 := crd_val ⟨t.val - 1, Nat.lt_of_le_of_lt (Nat.sub_le _ _) hlt⟩
  have hu : Used T (crd T ⟨t.val - 1, Nat.lt_of_le_of_lt (Nat.sub_le _ _) hlt⟩) := by
    rw [used_iff] at q0 ⊢
    rw [hs]; rw [ht] at q0; omega
  have e : word T (crd T t) = word T (crd T ⟨t.val - 1, Nat.lt_of_le_of_lt (Nat.sub_le _ _) hlt⟩) := hw _ (by rw [hs, ht]; omega)
  have e0 := h0 ⟨t.val - 1, Nat.lt_of_le_of_lt (Nat.sub_le _ _) hlt⟩ (by show t.val - 1 + 1 = t.val; omega) hu
  have e1 := h1 ⟨t.val - 1, Nat.lt_of_le_of_lt (Nat.sub_le _ _) hlt⟩ (by show t.val - 1 + 1 = t.val; omega) hu
  refine ⟨e0.trans (congrArg castW ?_), e1.trans (congrArg castD ?_)⟩
  · exact (iblk1 T m ρ c _).trans ((by rw [e] : _ = _).trans (iblk1 T m ρ c t).symm)
  · exact (iblk3 T m ρ c _).trans ((by rw [e] : _ = _).trans (iblk3 T m ρ c t).symm)

/-- The invariant before point `t`: the scratch buffers, and the body's halves of the tables. -/
def Phi (c : Dev nD) (t : Fin ((cfgA T).N + 1)) : sProp 𝕄 :=
  iprop((∃ a, ⌜Kept0 T m ρ c t.val a⌝ ∗ (scM0_0.view.loc (c : Thread nD τ) ↦{fullShare} a)) ∗ (∃ a, ⌜Kept1 T m ρ c t.val a⌝ ∗ (scM0_1.view.loc (c : Thread nD τ) ↦{fullShare} a)) ∗ (tbM0_0.view.loc (c : Thread nD τ) ↦{fullShare.right} T.te) ∗ (tbM0_1.view.loc (c : Thread nD τ) ↦{fullShare.right} T.nu))

/-- The proof data of the pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => left T m ρ c t
  Φ t := Phi T m ρ c t
  q _ := fullShare
  owed _ := 0

theorem after0_0 (c : Dev nD) (t : Fin (cfgA T).N) : (dats T m ρ 0 c).after (0 : Fin 6) t = iblk T m ρ c (0 : Fin 6) t := rfl
theorem after0_1 (c : Dev nD) (t : Fin (cfgA T).N) : (dats T m ρ 0 c).after (1 : Fin 6) t = iblk T m ρ c (1 : Fin 6) t := rfl
theorem after0_2 (c : Dev nD) (t : Fin (cfgA T).N) : (dats T m ρ 0 c).after (2 : Fin 6) t = iblk T m ρ c (2 : Fin 6) t := rfl
theorem after0_3 (c : Dev nD) (t : Fin (cfgA T).N) : (dats T m ρ 0 c).after (3 : Fin 6) t = iblk T m ρ c (3 : Fin 6) t := rfl
theorem after0_4 (c : Dev nD) (t : Fin (cfgA T).N) : (dats T m ρ 0 c).after (4 : Fin 6) t = iblk T m ρ c (4 : Fin 6) t := rfl
theorem after0_5 (c : Dev nD) (t : Fin (cfgA T).N) : (dats T m ρ 0 c).after (5 : Fin 6) t = left T m ρ c t := rfl

/-- An input window holds its block when the body runs. -/
theorem before0_0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

end Cert.Kernel4.Experts

end
-- ==== Proof.ExpertsLaunchBits.lean ====
/- The experts' call (read at the machine's words): the launch. -/
module

public import proofs.«01_k».proof.Proof.ExpertsBodyBits
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel4.Experts

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The model the run is stated in. -/
local notation "𝕄" => MT nD τ sig Unit (Elt Bits) ℕ (UR sig nD τ) ℕ

variable (T : Tables)
variable (m : (ℓ : Loc nD τ sig) → Buf (Elt Bits) ℓ) (ρ : Dev nD → PrngReg)

/-! ## The launch -/

/-- The launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HT0]
  · iexact HT0
  iexact HT1

/-- at the last point it gives the scratch buffers back. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What the run ends with: every array as computed, every table as it was. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a launch memory with these tables every run ends so, with every semaphore at zero. -/
theorem run_main_quiescent (hp : Pinned T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem unchanged (hp : Pinned T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) ((θ_run defs _ _).mono (fun _ h => h.1) (run_main_quiescent T m ρ hp))

/-- The frame, from a launch memory with these tables. -/
theorem frame_pinned (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Kernel4.Experts

end
-- ==== Proof.ExpertsFrame.lean ====
/- The experts' call as printed: its frame under the precondition. -/
module

public import proofs.«01_k».proof.Proof.ExpertsPre
public import proofs.«01_k».proof.Proof.ExpertsLaunchBits

@[expose] public section

noncomputable section

namespace Cert.Kernel4.Experts

open Cert.Kernel4 Cert.Kernel4.Gen Idealize.ShloMosaic Idealize.ShloMosaic.TcCoe Cert.Experts
open Idealize.SL Idealize.SL.Sem

variable (m : (ℓ : Loc nD τ sig) → Buf (Elt Bits) ℓ)

/-- The tables a launch memory holds, under the precondition. -/
def tables (h : Cert.Pre_Kernel4 m) : Tables where
  te := m (((0 : Dev nD) : Thread nD τ).loc main_arg0)
  nu := m (((0 : Dev nD) : Thread nD τ).loc main_arg1)
  te_lt := (in_range_tables _ _ _ _ _ _ _ (h 0)).1
  nu_pos := (in_range_tables _ _ _ _ _ _ _ (h 0)).2

theorem pinned (h : Cert.Pre_Kernel4 m) : Pinned (tables m h) m :=
  ⟨fun c => by rw [show c = (0 : Dev nD) from Subsingleton.elim _ _]; rfl, fun c => by rw [show c = (0 : Dev nD) from Subsingleton.elim _ _]; rfl⟩

/-- The kernel's frame. -/
theorem frame : Cert.quiescent_Kernel4 := fun m g h => frame_pinned (tables m h) m g (pinned m h)

end Cert.Kernel4.Experts

end
-- ==== Proof.Proj.lean ====
/- The input projection, in plain words: a token's normalised row, its product with one column of the weights, and the
   layout in which the kernel leaves the columns. -/
module

public import Idealize.ShloMosaic.Lib.Pointwise
public import Idealize.ShloMosaic.Lib.StableHlo
public import Idealize.ShloMosaic.PureOps
public import Idealize.ShloMosaic.PureOps.Ideal

@[expose] public section

noncomputable section

namespace Cert.Proj

open Idealize.ShloMosaic

/-- The row's length and the norm's constant, as the programs hold them. -/
abbrev width : EReal := Ideal.ofBits .f32 1149239296#32
abbrev eps : EReal := Ideal.ofBits .f32 925353388#32

/-- The normalised row. -/
def normed (x g : Fin 1024 → EReal) (k : Fin 1024) : EReal :=
  x k * Ideal.rsqrt (Ideal.div (∑ j, x j * x j) width + eps) * g k

/-- The normalised row times a column of weights. -/
def column (x g w : Fin 1024 → EReal) : EReal := ∑ k, normed x g k * w k

/-- The shapes of the tokens, the gain, and the weights. -/
abbrev SX : Shape := ⟨3, ![4, 4096, 1024]⟩
abbrev SG : Shape := ⟨2, ![1, 1024]⟩
abbrev SW : Shape := ⟨3, ![1, 1024, 9744]⟩

/-- Column `c` of token `t` of sequence `b`. -/
def token (X : SX.Idx → EReal) (G : SG.Idx → EReal) (W : SW.Idx → EReal) (b : Fin 4) (t : Fin 4096) (c : Fin 9744) : EReal :=
  column (fun k => X (ix3 b t k)) (fun k => G (ix2 (0 : Fin 1) k)) (fun k => W (ix3 (0 : Fin 1) k c))

/-- The weights' column that sits at place `j` of the wide result; past the last one, none. -/
def place (j : ℕ) : ℕ :=
  if j < 3072 then j else if j < 5120 then j + 4624 else if j < 5632 then j - 2032 else if j < 6144 then j - 1008
  else if j < 6656 then j + 16 else if j < 6672 then j - 3584 else 9744

/-- Entry `j` of a token's row of the wide result. -/
def wide (X : SX.Idx → EReal) (G : SG.Idx → EReal) (W : SW.Idx → EReal) (b : Fin 4) (t : Fin 4096) (j : Fin 7168) : EReal :=
  if h : place j.val < 9744 then token X G W b t ⟨place j.val, h⟩ else 0

/-- Entry `(s, h, e)` of the key and value rows of group `g`: its column. -/
def kvCol (g : Fin 3) (s : Fin 2) (h : Fin 4) (e : Fin 128) : Fin 9744 :=
  ⟨4624 + s.val * 1536 + g.val * 512 + h.val * 128 + e.val, by omega⟩

/-- Entry `j` of the query, key and value rows of group `g`: its column. -/
def groupCol (g : Fin 3) (j : Fin 1536) : Fin 9744 := ⟨3088 + j.val / 512 * 1536 + g.val * 512 + j.val % 512, by omega⟩

/-- Entry `j` of the row of group `g` that is number `u` of those at place `p` modulo the dilation. -/
def spread (X : SX.Idx → EReal) (G : SG.Idx → EReal) (W : SW.Idx → EReal) (dil : ℕ) (n : ℕ) (hn : n * dil ≤ 4096) (g : Fin 3) (b : Fin 4) (p : Fin dil) (u : Fin n)
    (j : Fin 1536) : EReal :=
  token X G W b ⟨u.val * dil + p.val, by have := Nat.mul_le_mul_right dil (Nat.succ_le_of_lt u.isLt); have := p.isLt; rw [Nat.succ_mul] at *; omega⟩ (groupCol g j)

/-- Entry `(s, h, e)` of row `r` of the last `n` tokens' keys and values of group `g`. -/
def keptRows (X : SX.Idx → EReal) (G : SG.Idx → EReal) (W : SW.Idx → EReal) (n : ℕ) (hn : n ≤ 4096) (g : Fin 3) (b : Fin 4) (r : Fin n) (s : Fin 2) (h : Fin 4)
    (e : Fin 128) : EReal :=
  token X G W b ⟨4096 - n + r.val, by omega⟩ (kvCol g s h e)

/-- A row times a column of zeros is zero. -/
theorem column_zero (x g w : Fin 1024 → EReal) (h : ∀ k, w k = 0) : column x g w = 0 := by
  unfold column
  exact Finset.sum_eq_zero fun k _ => by rw [h k, mul_zero]

end Cert.Proj

end
-- ==== Proof.ProjRef5.lean ====
/- The reference's lines of the input projection (wide result), entry by entry. -/
module

public import proofs.«01_k».proof.Proof.Gen.Reference5Ideal.Run
public import proofs.«01_k».proof.Proof.Proj

@[expose] public section

set_option maxRecDepth 16384

noncomputable section

namespace Cert.Proj.Ref5

open Cert.Reference5Ideal Cert.Reference5Ideal.Gen Cert.Proj Idealize.ShloMosaic Idealize.ShloMosaic.TcCoe Idealize.SL.Sem

variable {F : FTy → Type} [FloatOps F]

/-- The projection of every normalised token. -/
def proj (X : (⟨S4x4096x1024, .f32⟩ : BufTy).Contents (Elt F)) (G : (⟨S1x1024, .f32⟩ : BufTy).Contents (Elt F)) (W : (⟨S1x1024x9744, .f32⟩ : BufTy).Contents (Elt F)) : (⟨S4x4096x9744, .f32⟩ : BufTy).Contents (Elt F) :=
  Host.dotGeneral dot_S4x4096x1024_S1024x9744_S4x4096x9744_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ G shapeCasts_S1x1024_S1024)))) (shapeCast _ W shapeCasts_S1x1024x9744_S1024x9744)

section Lines

variable (P : (⟨S4x4096x9744, .f32⟩ : BufTy).Contents (Elt F))

/-- The group's queries, keys and values. -/
def qs : (⟨S4x4096x4x128, .f32⟩ : BufTy).Contents (Elt F) :=
  shapeCast _ (extractStridedSlice S4x4096x1x4x128 ![0, 0, 0, 0, 0] (shapeCast _ (extractStridedSlice S4x4096x1536 ![0, 0, 3088] P slices_S4x4096x9744_S4x4096x1536_0_0_3088) shapeCasts_S4x4096x1536_S4x4096x3x4x128) slices_S4x4096x3x4x128_S4x4096x1x4x128_0_0_0_0_0) shapeCasts_S4x4096x1x4x128_S4x4096x4x128
def ks : (⟨S4x4096x4x128, .f32⟩ : BufTy).Contents (Elt F) :=
  shapeCast _ (extractStridedSlice S4x4096x1x4x128 ![0, 0, 0, 0, 0] (shapeCast _ (extractStridedSlice S4x4096x1536 ![0, 0, 4624] P slices_S4x4096x9744_S4x4096x1536_0_0_4624) shapeCasts_S4x4096x1536_S4x4096x3x4x128) slices_S4x4096x3x4x128_S4x4096x1x4x128_0_0_0_0_0) shapeCasts_S4x4096x1x4x128_S4x4096x4x128
def vs : (⟨S4x4096x4x128, .f32⟩ : BufTy).Contents (Elt F) :=
  shapeCast _ (extractStridedSlice S4x4096x1x4x128 ![0, 0, 0, 0, 0] (shapeCast _ (extractStridedSlice S4x4096x1536 ![0, 0, 6160] P slices_S4x4096x9744_S4x4096x1536_0_0_6160) shapeCasts_S4x4096x1536_S4x4096x3x4x128) slices_S4x4096x3x4x128_S4x4096x1x4x128_0_0_0_0_0) shapeCasts_S4x4096x1x4x128_S4x4096x4x128

/-- The columns of a token's row, joined. -/
def joined : (⟨S4x4096x7168, .f32⟩ : BufTy).Contents (Elt F) :=
  (concatenate S4x4096x7168 2 [⟨S4x4096x512, ((extractStridedSlice S4x4096x512 ![0, 0, 0] P slices_S4x4096x9744_S4x4096x512_0_0_0) : (⟨S4x4096x512, .f32⟩ : BufTy).Contents (Elt F))⟩, ⟨S4x4096x512, ((extractStridedSlice S4x4096x512 ![0, 0, 512] P slices_S4x4096x9744_S4x4096x512_0_0_512) : (⟨S4x4096x512, .f32⟩ : BufTy).Contents (Elt F))⟩, ⟨S4x4096x1024, ((extractStridedSlice S4x4096x1024 ![0, 0, 1024] P slices_S4x4096x9744_S4x4096x1024_0_0_1024) : (⟨S4x4096x1024, .f32⟩ : BufTy).Contents (Elt F))⟩, ⟨S4x4096x1024, ((extractStridedSlice S4x4096x1024 ![0, 0, 2048] P slices_S4x4096x9744_S4x4096x1024_0_0_2048) : (⟨S4x4096x1024, .f32⟩ : BufTy).Contents (Elt F))⟩, ⟨S4x4096x1024, ((extractStridedSlice S4x4096x1024 ![0, 0, 7696] P slices_S4x4096x9744_S4x4096x1024_0_0_7696) : (⟨S4x4096x1024, .f32⟩ : BufTy).Contents (Elt F))⟩, ⟨S4x4096x1024, ((extractStridedSlice S4x4096x1024 ![0, 0, 8720] P slices_S4x4096x9744_S4x4096x1024_0_0_8720) : (⟨S4x4096x1024, .f32⟩ : BufTy).Contents (Elt F))⟩, ⟨S4x4096x512, ((shapeCast _ (qs P) shapeCasts_S4x4096x4x128_S4x4096x512) : (⟨S4x4096x512, .f32⟩ : BufTy).Contents (Elt F))⟩, ⟨S4x4096x512, ((shapeCast _ (ks P) shapeCasts_S4x4096x4x128_S4x4096x512) : (⟨S4x4096x512, .f32⟩ : BufTy).Contents (Elt F))⟩, ⟨S4x4096x512, ((shapeCast _ (vs P) shapeCasts_S4x4096x4x128_S4x4096x512) : (⟨S4x4096x512, .f32⟩ : BufTy).Contents (Elt F))⟩, ⟨S4x4096x16, ((extractStridedSlice S4x4096x16 ![0, 0, 3072] P slices_S4x4096x9744_S4x4096x16_0_0_3072) : (⟨S4x4096x16, .f32⟩ : BufTy).Contents (Elt F))⟩, ⟨S4x4096x496, ((broadcastInDim S4x4096x496 ![] bcast_S_S4x4096x496 (constant S_ .f32 0x00000000#32)) : (⟨S4x4096x496, .f32⟩ : BufTy).Contents (Elt F))⟩] concatenates_S4x4096x512_S4x4096x512_S4x4096x1024_S4x4096x1024_S4x4096x1024_S4x4096x1024_S4x4096x512_S4x4096x512_S4x4096x512_S4x4096x16_S4x4096x496_S4x4096x7168_d2 : (⟨S4x4096x7168, .f32⟩ : BufTy).Contents (Elt F))

/-- The rows laid out by the token's place in its dilation class. -/
def rows : (⟨S4x1x4096x7168, .bf16⟩ : BufTy).Contents (Elt F) :=
  truncf .bf16 (transpose S4x1x4096x7168 [0, 2, 1, 3] (shapeCast _ (joined P) shapeCasts_S4x4096x7168_S4x4096x1x7168) transposes_S4x4096x1x7168_S4x1x4096x7168_0_2_1_3) bitsLt_bf16_f32

/-- The last tokens' key and value rows. -/
def kept : (⟨S4x128x2x4x128, .f32⟩ : BufTy).Contents (Elt F) :=
  extractStridedSlice S4x128x2x4x128 ![0, 3968, 0, 0, 0] (concatenate S4x4096x2x4x128 2 [⟨S4x4096x1x4x128, (broadcastInDim S4x4096x1x4x128 ![0, 1, 3, 4] bcast_S4x4096x4x128_S4x4096x1x4x128_0_1_3_4 (ks P))⟩, ⟨S4x4096x1x4x128, (broadcastInDim S4x4096x1x4x128 ![0, 1, 3, 4] bcast_S4x4096x4x128_S4x4096x1x4x128_0_1_3_4 (vs P))⟩] concatenates_S4x4096x1x4x128_S4x4096x1x4x128_S4x4096x2x4x128_d2) slices_S4x4096x2x4x128_S4x128x2x4x128_0_3968_0_0_0

omit [FloatOps F] in
theorem head_apply (off : ℕ) (ho : off + 1536 ≤ 9744) (wf) (b : Fin 4) (t : Fin 4096) (h : Fin 4) (e : Fin 128) :
    shapeCast S4x4096x4x128 (extractStridedSlice S4x4096x1x4x128 ![0, 0, 0, 0, 0] (shapeCast S4x4096x3x4x128 (extractStridedSlice S4x4096x1536 ![0, 0, off] P wf) shapeCasts_S4x4096x1536_S4x4096x3x4x128) slices_S4x4096x3x4x128_S4x4096x1x4x128_0_0_0_0_0) shapeCasts_S4x4096x1x4x128_S4x4096x4x128 (ix4 b t h e)
      = P (ix3 b t ⟨off + (0 + h.val * 128 + e.val), by omega⟩) := by
  pointwise

omit [FloatOps F] in
theorem heads_apply (x y : (⟨S4x4096x4x128, .f32⟩ : BufTy).Contents (Elt F)) (b : Fin 4) (r : Fin 4096) (s : Fin 2) (h : Fin 4) (e : Fin 128) :
    concatenate S4x4096x2x4x128 2 [⟨S4x4096x1x4x128, (broadcastInDim S4x4096x1x4x128 ![0, 1, 3, 4] bcast_S4x4096x4x128_S4x4096x1x4x128_0_1_3_4 x)⟩, ⟨S4x4096x1x4x128, (broadcastInDim S4x4096x1x4x128 ![0, 1, 3, 4] bcast_S4x4096x4x128_S4x4096x1x4x128_0_1_3_4 y)⟩] concatenates_S4x4096x1x4x128_S4x4096x1x4x128_S4x4096x2x4x128_d2 (ix5 b r s h e)
      = if s.val < 1 then x (ix4 b r h e) else y (ix4 b r h e) := by
  pointwise
  rfl

omit [FloatOps F] in
theorem last_apply (x : (⟨S4x4096x2x4x128, .f32⟩ : BufTy).Contents (Elt F)) (b : Fin 4) (r : Fin 128) (s : Fin 2) (h : Fin 4) (e : Fin 128) :
    extractStridedSlice S4x128x2x4x128 ![0, 3968, 0, 0, 0] x slices_S4x4096x2x4x128_S4x128x2x4x128_0_3968_0_0_0 (ix5 b r s h e) = x (ix5 b ⟨3968 + r.val, by omega⟩ s h e) := by
  pointwise

omit [FloatOps F] in
theorem kept_apply (b : Fin 4) (r : Fin 128) (s : Fin 2) (h : Fin 4) (e : Fin 128) :
    kept P (ix5 b r s h e) = P (ix3 b (⟨3968 + r.val, by omega⟩ : Fin 4096) (kvCol 0 s h e)) := by
  unfold kept ks vs
  rw [last_apply, heads_apply, head_apply P 4624 (by norm_num), head_apply P 6160 (by norm_num)]
  have hs : s.val = 0 ∨ s.val = 1 := by omega
  rcases hs with hs | hs
  · rw [if_pos (by omega)]
    refine congrArg P (congrArg (ix3 b _) (Fin.ext ?_))
    show 4624 + (0 + _ + _) = 4624 + _ * 1536 + 0 * 512 + _ + _
    omega
  · rw [if_neg (by omega)]
    refine congrArg P (congrArg (ix3 b _) (Fin.ext ?_))
    show 6160 + (0 + _ + _) = 4624 + _ * 1536 + 0 * 512 + _ + _
    omega

omit [FloatOps F] in
theorem flat_apply (x : (⟨S4x4096x4x128, .f32⟩ : BufTy).Contents (Elt F)) (b : Fin 4) (t : Fin 4096) (j : Fin 512) :
    shapeCast S4x4096x512 x shapeCasts_S4x4096x4x128_S4x4096x512 (ix3 b t j) = x (ix4 b t ⟨j.val / 128, by omega⟩ ⟨j.val % 128, by omega⟩) := by
  pointwise

theorem place_at (j k : ℕ) (h : place j = k) (hk : k < 9744) (b : Fin 4) (t : Fin 4096) :
    (if h : place j < 9744 then P (ix3 b t ⟨place j, h⟩) else Scalar.ofBits .f32 0#32) = P (ix3 b t ⟨k, hk⟩) := by
  subst h; exact dif_pos hk

omit [FloatOps F] in
theorem eleven_apply (x0 : (⟨S4x4096x512, .f32⟩ : BufTy).Contents (Elt F)) (x1 : (⟨S4x4096x512, .f32⟩ : BufTy).Contents (Elt F)) (x2 : (⟨S4x4096x1024, .f32⟩ : BufTy).Contents (Elt F)) (x3 : (⟨S4x4096x1024, .f32⟩ : BufTy).Contents (Elt F)) (x4 : (⟨S4x4096x1024, .f32⟩ : BufTy).Contents (Elt F)) (x5 : (⟨S4x4096x1024, .f32⟩ : BufTy).Contents (Elt F)) (x6 : (⟨S4x4096x512, .f32⟩ : BufTy).Contents (Elt F)) (x7 : (⟨S4x4096x512, .f32⟩ : BufTy).Contents (Elt F)) (x8 : (⟨S4x4096x512, .f32⟩ : BufTy).Contents (Elt F)) (x9 : (⟨S4x4096x16, .f32⟩ : BufTy).Contents (Elt F)) (x10 : (⟨S4x4096x496, .f32⟩ : BufTy).Contents (Elt F)) (y : Fin 7168 → Elt F .f32) (b : Fin 4) (t : Fin 4096)
    (h0 : ∀ i : Fin 512, x0 (ix3 b t i) = y ⟨0 + i.val, by omega⟩)
    (h1 : ∀ i : Fin 512, x1 (ix3 b t i) = y ⟨512 + i.val, by omega⟩)
    (h2 : ∀ i : Fin 1024, x2 (ix3 b t i) = y ⟨1024 + i.val, by omega⟩)
    (h3 : ∀ i : Fin 1024, x3 (ix3 b t i) = y ⟨2048 + i.val, by omega⟩)
    (h4 : ∀ i : Fin 1024, x4 (ix3 b t i) = y ⟨3072 + i.val, by omega⟩)
    (h5 : ∀ i : Fin 1024, x5 (ix3 b t i) = y ⟨4096 + i.val, by omega⟩)
    (h6 : ∀ i : Fin 512, x6 (ix3 b t i) = y ⟨5120 + i.val, by omega⟩)
    (h7 : ∀ i : Fin 512, x7 (ix3 b t i) = y ⟨5632 + i.val, by omega⟩)
    (h8 : ∀ i : Fin 512, x8 (ix3 b t i) = y ⟨6144 + i.val, by omega⟩)
    (h9 : ∀ i : Fin 16, x9 (ix3 b t i) = y ⟨6656 + i.val, by omega⟩)
    (h10 : ∀ i : Fin 496, x10 (ix3 b t i) = y ⟨6672 + i.val, by omega⟩) (j : Fin 7168) :
    concatenate S4x4096x7168 2 [⟨S4x4096x512, x0⟩, ⟨S4x4096x512, x1⟩, ⟨S4x4096x1024, x2⟩, ⟨S4x4096x1024, x3⟩, ⟨S4x4096x1024, x4⟩, ⟨S4x4096x1024, x5⟩, ⟨S4x4096x512, x6⟩, ⟨S4x4096x512, x7⟩, ⟨S4x4096x512, x8⟩, ⟨S4x4096x16, x9⟩, ⟨S4x4096x496, x10⟩] concatenates_S4x4096x512_S4x4096x512_S4x4096x1024_S4x4096x1024_S4x4096x1024_S4x4096x1024_S4x4096x512_S4x4096x512_S4x4096x512_S4x4096x16_S4x4096x496_S4x4096x7168_d2 (ix3 b t j) = y j := by
  pointwise
  by_cases c0 : j.val < 512
  · refine (dif_pos (by omega)).trans ((h0 _).trans (congrArg y (Fin.ext ?_)))
    simp only []
    omega
  refine (dif_neg (by omega)).trans ?_
  by_cases c1 : j.val < 1024
  · refine (dif_pos (by omega)).trans ((h1 _).trans (congrArg y (Fin.ext ?_)))
    simp only []
    omega
  refine (dif_neg (by omega)).trans ?_
  by_cases c2 : j.val < 2048
  · refine (dif_pos (by omega)).trans ((h2 _).trans (congrArg y (Fin.ext ?_)))
    simp only []
    omega
  refine (dif_neg (by omega)).trans ?_
  by_cases c3 : j.val < 3072
  · refine (dif_pos (by omega)).trans ((h3 _).trans (congrArg y (Fin.ext ?_)))
    simp only []
    omega
  refine (dif_neg (by omega)).trans ?_
  by_cases c4 : j.val < 4096
  · refine (dif_pos (by omega)).trans ((h4 _).trans (congrArg y (Fin.ext ?_)))
    simp only []
    omega
  refine (dif_neg (by omega)).trans ?_
  by_cases c5 : j.val < 5120
  · refine (dif_pos (by omega)).trans ((h5 _).trans (congrArg y (Fin.ext ?_)))
    simp only []
    omega
  refine (dif_neg (by omega)).trans ?_
  by_cases c6 : j.val < 5632
  · refine (dif_pos (by omega)).trans ((h6 _).trans (congrArg y (Fin.ext ?_)))
    simp only []
    omega
  refine (dif_neg (by omega)).trans ?_
  by_cases c7 : j.val < 6144
  · refine (dif_pos (by omega)).trans ((h7 _).trans (congrArg y (Fin.ext ?_)))
    simp only []
    omega
  refine (dif_neg (by omega)).trans ?_
  by_cases c8 : j.val < 6656
  · refine (dif_pos (by omega)).trans ((h8 _).trans (congrArg y (Fin.ext ?_)))
    simp only []
    omega
  refine (dif_neg (by omega)).trans ?_
  by_cases c9 : j.val < 6672
  · refine (dif_pos (by omega)).trans ((h9 _).trans (congrArg y (Fin.ext ?_)))
    simp only []
    omega
  refine (dif_neg (by omega)).trans ?_
  refine (h10 _).trans (congrArg y (Fin.ext ?_))
  simp only []
  omega

omit [FloatOps F] in
theorem cut_apply (w off : ℕ) (hw : off + w ≤ 9744) (wf) (b : Fin 4) (t : Fin 4096) (i : Fin w) :
    extractStridedSlice ⟨3, ![4, 4096, w]⟩ ![0, 0, off] P wf (ix3 b t i) = P (ix3 b t ⟨off + i.val, by omega⟩) := by
  pointwise

theorem joined_apply (b : Fin 4) (t : Fin 4096) (j : Fin 7168) :
    joined P (ix3 b t j) = if h : place j.val < 9744 then P (ix3 b t ⟨place j.val, h⟩) else Scalar.ofBits .f32 0#32 := by
  unfold joined
  refine eleven_apply _ _ _ _ _ _ _ _ _ _ _ (fun j : Fin 7168 => if h : place j.val < 9744 then P (ix3 b t ⟨place j.val, h⟩) else Scalar.ofBits .f32 0#32) b t ?_ ?_ ?_ ?_ ?_ ?_ ?_ ?_ ?_ ?_ ?_ j <;> intro i
  · exact (cut_apply P 512 0 (by norm_num) _ b t i).trans (place_at P (0 + i.val) (0 + i.val) (by unfold place; split_ifs <;> omega) (by omega) b t).symm
  · exact (cut_apply P 512 512 (by norm_num) _ b t i).trans (place_at P (512 + i.val) (512 + i.val) (by unfold place; split_ifs <;> omega) (by omega) b t).symm
  · exact (cut_apply P 1024 1024 (by norm_num) _ b t i).trans (place_at P (1024 + i.val) (1024 + i.val) (by unfold place; split_ifs <;> omega) (by omega) b t).symm
  · exact (cut_apply P 1024 2048 (by norm_num) _ b t i).trans (place_at P (2048 + i.val) (2048 + i.val) (by unfold place; split_ifs <;> omega) (by omega) b t).symm
  · exact (cut_apply P 1024 7696 (by norm_num) _ b t i).trans (place_at P (3072 + i.val) (7696 + i.val) (by unfold place; split_ifs <;> omega) (by omega) b t).symm
  · exact (cut_apply P 1024 8720 (by norm_num) _ b t i).trans (place_at P (4096 + i.val) (8720 + i.val) (by unfold place; split_ifs <;> omega) (by omega) b t).symm
  · refine (flat_apply _ b t i).trans ?_
    unfold qs
    exact (head_apply P 3088 (by norm_num) _ b t _ _).trans (place_at P (5120 + i.val) _ (by unfold place; split_ifs <;> first | omega | (simp only []; omega)) _ b t).symm
  · refine (flat_apply _ b t i).trans ?_
    unfold ks
    exact (head_apply P 4624 (by norm_num) _ b t _ _).trans (place_at P (5632 + i.val) _ (by unfold place; split_ifs <;> first | omega | (simp only []; omega)) _ b t).symm
  · refine (flat_apply _ b t i).trans ?_
    unfold vs
    exact (head_apply P 6160 (by norm_num) _ b t _ _).trans (place_at P (6144 + i.val) _ (by unfold place; split_ifs <;> first | omega | (simp only []; omega)) _ b t).symm
  · exact (cut_apply P 16 3072 (by norm_num) _ b t i).trans (place_at P (6656 + i.val) (3072 + i.val) (by unfold place; split_ifs <;> omega) (by omega) b t).symm
  · have hp : ¬ place (6672 + i.val) < 9744 := by unfold place; split_ifs <;> omega
    refine Eq.trans ?_ (dif_neg hp).symm
    pointwise

theorem laid_apply (x : (⟨S4x4096x7168, .f32⟩ : BufTy).Contents (Elt Ideal)) (b : Fin 4) (p : Fin 1) (u : Fin 4096) (j : Fin 7168) :
    (truncf (F := Ideal) .bf16 (transpose S4x1x4096x7168 [0, 2, 1, 3] (shapeCast _ x shapeCasts_S4x4096x7168_S4x4096x1x7168) transposes_S4x4096x1x7168_S4x1x4096x7168_0_2_1_3) bitsLt_bf16_f32 : (⟨S4x1x4096x7168, .bf16⟩ : BufTy).Contents (Elt Ideal)) (ix4 b p u j)
      = x (ix3 b (⟨u.val * 1 + p.val, by omega⟩ : Fin 4096) j) := by
  pointwise

end Lines

theorem rows_eq (m : (ℓ : Loc nD τ sig) → Buf (Elt F) ℓ) (c : Dev nD) : Cert.Reference5Ideal.Value.res_main_v45 m c
    = rows (proj (m ((c : Thread nD τ).loc main_arg0)) (m ((c : Thread nD τ).loc main_arg1)) (m ((c : Thread nD τ).loc main_arg2))) := rfl

section Real

variable (X : (⟨S4x4096x1024, .f32⟩ : BufTy).Contents (Elt Ideal)) (G : (⟨S1x1024, .f32⟩ : BufTy).Contents (Elt Ideal)) (W : (⟨S1x1024x9744, .f32⟩ : BufTy).Contents (Elt Ideal))

theorem proj_apply (b : Fin 4) (t : Fin 4096) (c : Fin 9744) : proj X G W (ix3 b t c) = token X G W b t c := by
  pointwise [proj, token, column, normed]

/-- What the reference's two results hold. -/
theorem rows_wide : rows (proj X G W) = fun i : S4x1x4096x7168.Idx => wide X G W (i 0) (i 2) (i 3) := by
  funext i
  idx_vars i
  unfold rows
  rw [laid_apply, joined_apply]
  show _ = wide X G W i0 i2 i3
  unfold wide
  by_cases h : place i3.val < 9744
  · rw [dif_pos h, dif_pos h, proj_apply]
    exact congrArg (fun t => token X G W i0 t _) (Fin.ext (by show i2.val * 1 + i1.val = i2.val; omega))
  · rw [dif_neg h, dif_neg h]
    show Ideal.ofBits .f32 0#32 = 0
    simp [Ideal.ofBits, Ideal.ieee]

theorem kept_group : kept (proj X G W) = fun i : S4x128x2x4x128.Idx => keptRows X G W 128 (by norm_num) 0 (i 0) (i 1) (i 2) (i 3) (i 4) := by
  funext i
  idx_vars i
  rw [kept_apply, proj_apply]
  rfl

end Real

end Cert.Proj.Ref5

end
-- ==== Proof.Proj5.lean ====
/- The wide input projection over the reals: what the kernel's two results hold after the run. -/
module

public import proofs.«01_k».proof.Defs
public import proofs.«01_k».proof.Proof.Gen.Kernel5Ideal.Frame
public import proofs.«01_k».proof.Proof.ProjRef5
public import Idealize.ShloMosaic.Lib.Pipeline.ValueKit
public import Idealize.ShloMosaic.Lib.Claim
public import Idealize.ShloMosaic.Lib.Quiescent

@[expose] public section

set_option maxRecDepth 16384

noncomputable section

namespace Cert.Kernel5Ideal.RefValue

open Cert.Kernel5Ideal Cert.Kernel5Ideal.Gen Cert.Proj Idealize.ShloMosaic Idealize.ShloMosaic.TcCoe Idealize.SL.Sem
open Idealize.ShloMosaic.Pipeline (Dat)

section Weights

variable {F : FTy → Type} [FloatOps F]

omit [FloatOps F] in
theorem eleven_apply (x0 : (⟨S1024x512, .bf16⟩ : BufTy).Contents (Elt F)) (x1 : (⟨S1024x512, .bf16⟩ : BufTy).Contents (Elt F)) (x2 : (⟨S1024x1024, .bf16⟩ : BufTy).Contents (Elt F)) (x3 : (⟨S1024x1024, .bf16⟩ : BufTy).Contents (Elt F)) (x4 : (⟨S1024x1024, .bf16⟩ : BufTy).Contents (Elt F)) (x5 : (⟨S1024x1024, .bf16⟩ : BufTy).Contents (Elt F)) (x6 : (⟨S1024x512, .bf16⟩ : BufTy).Contents (Elt F)) (x7 : (⟨S1024x512, .bf16⟩ : BufTy).Contents (Elt F)) (x8 : (⟨S1024x512, .bf16⟩ : BufTy).Contents (Elt F)) (x9 : (⟨S1024x16, .bf16⟩ : BufTy).Contents (Elt F)) (x10 : (⟨S1024x496, .bf16⟩ : BufTy).Contents (Elt F)) (y : Fin 7168 → Elt F .bf16) (k : Fin 1024)
    (h0 : ∀ i : Fin 512, x0 (ix2 k i) = y ⟨0 + i.val, by omega⟩)
    (h1 : ∀ i : Fin 512, x1 (ix2 k i) = y ⟨512 + i.val, by omega⟩)
    (h2 : ∀ i : Fin 1024, x2 (ix2 k i) = y ⟨1024 + i.val, by omega⟩)
    (h3 : ∀ i : Fin 1024, x3 (ix2 k i) = y ⟨2048 + i.val, by omega⟩)
    (h4 : ∀ i : Fin 1024, x4 (ix2 k i) = y ⟨3072 + i.val, by omega⟩)
    (h5 : ∀ i : Fin 1024, x5 (ix2 k i) = y ⟨4096 + i.val, by omega⟩)
    (h6 : ∀ i : Fin 512, x6 (ix2 k i) = y ⟨5120 + i.val, by omega⟩)
    (h7 : ∀ i : Fin 512, x7 (ix2 k i) = y ⟨5632 + i.val, by omega⟩)
    (h8 : ∀ i : Fin 512, x8 (ix2 k i) = y ⟨6144 + i.val, by omega⟩)
    (h9 : ∀ i : Fin 16, x9 (ix2 k i) = y ⟨6656 + i.val, by omega⟩)
    (h10 : ∀ i : Fin 496, x10 (ix2 k i) = y ⟨6672 + i.val, by omega⟩) (j : Fin 7168) :
    concatenate S1024x7168 1 [⟨S1024x512, x0⟩, ⟨S1024x512, x1⟩, ⟨S1024x1024, x2⟩, ⟨S1024x1024, x3⟩, ⟨S1024x1024, x4⟩, ⟨S1024x1024, x5⟩, ⟨S1024x512, x6⟩, ⟨S1024x512, x7⟩, ⟨S1024x512, x8⟩, ⟨S1024x16, x9⟩, ⟨S1024x496, x10⟩] concatenates_S1024x512_S1024x512_S1024x1024_S1024x1024_S1024x1024_S1024x1024_S1024x512_S1024x512_S1024x512_S1024x16_S1024x496_S1024x7168_d1 (ix2 k j) = y j := by
  pointwise
  by_cases c0 : j.val < 512
  · refine (dif_pos (by omega)).trans ((h0 _).trans (congrArg y (Fin.ext ?_)))
    simp only []
    omega
  refine (dif_neg (by omega)).trans ?_
  by_cases c1 : j.val < 1024
  · refine (dif_pos (by omega)).trans ((h1 _).trans (congrArg y (Fin.ext ?_)))
    simp only []
    omega
  refine (dif_neg (by omega)).trans ?_
  by_cases c2 : j.val < 2048
  · refine (dif_pos (by omega)).trans ((h2 _).trans (congrArg y (Fin.ext ?_)))
    simp only []
    omega
  refine (dif_neg (by omega)).trans ?_
  by_cases c3 : j.val < 3072
  · refine (dif_pos (by omega)).trans ((h3 _).trans (congrArg y (Fin.ext ?_)))
    simp only []
    omega
  refine (dif_neg (by omega)).trans ?_
  by_cases c4 : j.val < 4096
  · refine (dif_pos (by omega)).trans ((h4 _).trans (congrArg y (Fin.ext ?_)))
    simp only []
    omega
  refine (dif_neg (by omega)).trans ?_
  by_cases c5 : j.val < 5120
  · refine (dif_pos (by omega)).trans ((h5 _).trans (congrArg y (Fin.ext ?_)))
    simp only []
    omega
  refine (dif_neg (by omega)).trans ?_
  by_cases c6 : j.val < 5632
  · refine (dif_pos (by omega)).trans ((h6 _).trans (congrArg y (Fin.ext ?_)))
    simp only []
    omega
  refine (dif_neg (by omega)).trans ?_
  by_cases c7 : j.val < 6144
  · refine (dif_pos (by omega)).trans ((h7 _).trans (congrArg y (Fin.ext ?_)))
    simp only []
    omega
  refine (dif_neg (by omega)).trans ?_
  by_cases c8 : j.val < 6656
  · refine (dif_pos (by omega)).trans ((h8 _).trans (congrArg y (Fin.ext ?_)))
    simp only []
    omega
  refine (dif_neg (by omega)).trans ?_
  by_cases c9 : j.val < 6672
  · refine (dif_pos (by omega)).trans ((h9 _).trans (congrArg y (Fin.ext ?_)))
    simp only []
    omega
  refine (dif_neg (by omega)).trans ?_
  refine (h10 _).trans (congrArg y (Fin.ext ?_))
  simp only []
  omega

/-- The weights as the host code lays them out for the wide product. -/
def laid (W : (⟨S1x1024x9744, .f32⟩ : BufTy).Contents (Elt F)) : (⟨S1024x7168, .bf16⟩ : BufTy).Contents (Elt F) :=
  (concatenate S1024x7168 1 [⟨S1024x512, ((truncf .bf16 (extractStridedSlice S1024x512 ![0, 0] (shapeCast _ W shapeCasts_S1x1024x9744_S1024x9744) slices_S1024x9744_S1024x512_0_0) bitsLt_bf16_f32) : (⟨S1024x512, .bf16⟩ : BufTy).Contents (Elt F))⟩, ⟨S1024x512, ((truncf .bf16 (extractStridedSlice S1024x512 ![0, 512] (shapeCast _ W shapeCasts_S1x1024x9744_S1024x9744) slices_S1024x9744_S1024x512_0_512) bitsLt_bf16_f32) : (⟨S1024x512, .bf16⟩ : BufTy).Contents (Elt F))⟩, ⟨S1024x1024, ((truncf .bf16 (extractStridedSlice S1024x1024 ![0, 1024] (shapeCast _ W shapeCasts_S1x1024x9744_S1024x9744) slices_S1024x9744_S1024x1024_0_1024) bitsLt_bf16_f32) : (⟨S1024x1024, .bf16⟩ : BufTy).Contents (Elt F))⟩, ⟨S1024x1024, ((truncf .bf16 (extractStridedSlice S1024x1024 ![0, 2048] (shapeCast _ W shapeCasts_S1x1024x9744_S1024x9744) slices_S1024x9744_S1024x1024_0_2048) bitsLt_bf16_f32) : (⟨S1024x1024, .bf16⟩ : BufTy).Contents (Elt F))⟩, ⟨S1024x1024, ((truncf .bf16 (extractStridedSlice S1024x1024 ![0, 7696] (shapeCast _ W shapeCasts_S1x1024x9744_S1024x9744) slices_S1024x9744_S1024x1024_0_7696) bitsLt_bf16_f32) : (⟨S1024x1024, .bf16⟩ : BufTy).Contents (Elt F))⟩, ⟨S1024x1024, ((truncf .bf16 (extractStridedSlice S1024x1024 ![0, 8720] (shapeCast _ W shapeCasts_S1x1024x9744_S1024x9744) slices_S1024x9744_S1024x1024_0_8720) bitsLt_bf16_f32) : (⟨S1024x1024, .bf16⟩ : BufTy).Contents (Elt F))⟩, ⟨S1024x512, ((extractStridedSlice S1024x512 ![0, 0] (truncf .bf16 (extractStridedSlice S1024x1536 ![0, 3088] (shapeCast _ W shapeCasts_S1x1024x9744_S1024x9744) slices_S1024x9744_S1024x1536_0_3088) bitsLt_bf16_f32) slices_S1024x1536_S1024x512_0_0) : (⟨S1024x512, .bf16⟩ : BufTy).Contents (Elt F))⟩, ⟨S1024x512, ((extractStridedSlice S1024x512 ![0, 0] (truncf .bf16 (extractStridedSlice S1024x1536 ![0, 4624] (shapeCast _ W shapeCasts_S1x1024x9744_S1024x9744) slices_S1024x9744_S1024x1536_0_4624) bitsLt_bf16_f32) slices_S1024x1536_S1024x512_0_0) : (⟨S1024x512, .bf16⟩ : BufTy).Contents (Elt F))⟩, ⟨S1024x512, ((extractStridedSlice S1024x512 ![0, 0] (truncf .bf16 (extractStridedSlice S1024x1536 ![0, 6160] (shapeCast _ W shapeCasts_S1x1024x9744_S1024x9744) slices_S1024x9744_S1024x1536_0_6160) bitsLt_bf16_f32) slices_S1024x1536_S1024x512_0_0) : (⟨S1024x512, .bf16⟩ : BufTy).Contents (Elt F))⟩, ⟨S1024x16, ((truncf .bf16 (extractStridedSlice S1024x16 ![0, 3072] (shapeCast _ W shapeCasts_S1x1024x9744_S1024x9744) slices_S1024x9744_S1024x16_0_3072) bitsLt_bf16_f32) : (⟨S1024x16, .bf16⟩ : BufTy).Contents (Elt F))⟩, ⟨S1024x496, ((broadcastInDim S1024x496 ![] bcast_S_S1024x496 (constant S_ .bf16 0x0000#16)) : (⟨S1024x496, .bf16⟩ : BufTy).Contents (Elt F))⟩] concatenates_S1024x512_S1024x512_S1024x1024_S1024x1024_S1024x1024_S1024x1024_S1024x512_S1024x512_S1024x512_S1024x16_S1024x496_S1024x7168_d1 : (⟨S1024x7168, .bf16⟩ : BufTy).Contents (Elt F))

end Weights

variable (m : (ℓ : Loc nD τ sig) → Buf (Elt Ideal) ℓ)

theorem idx0 : ∀ t : Fin cfg0.N, win0_0.index t = ![t.val / 7, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 7] := (by decide +kernel : ∀ t : Fin grid0.N, _)
theorem idx3 : ∀ t : Fin cfg0.N, win0_3.index t = ![t.val / 28, 0, t.val / 7 % 4, t.val % 7] := (by decide +kernel : ∀ t : Fin grid0.N, _)

/-! ## The arrays the region is handed -/

theorem tokens_apply (X : (⟨S4x4096x1024, .f32⟩ : BufTy).Contents (Elt Ideal)) (i : Fin 16384) (k : Fin 1024) :
    shapeCast S16384x1024 X shapeCasts_S4x4096x1024_S16384x1024 (ix2 i k) = X (ix3 (⟨i.val / 4096, by omega⟩ : Fin 4) (⟨i.val % 4096, by omega⟩ : Fin 4096) k) := by
  pointwise

theorem V_tokens (c : Dev nD) (i : Fin 16384) (k : Fin 1024) : V m c main_v36 (ix2 i k)
    = m ((c : Thread nD τ).loc main_arg0) (ix3 (⟨i.val / 4096, by omega⟩ : Fin 4) (⟨i.val % 4096, by omega⟩ : Fin 4096) k) := by
  have e : V m c main_v36 = shapeCast S16384x1024 (m ((c : Thread nD τ).loc main_arg0)) shapeCasts_S4x4096x1024_S16384x1024 := by
    rfl
  rw [e]
  exact tokens_apply _ i k

theorem V_gain (c : Dev nD) (k : Fin 1024) : V m c main_v35 (ix2 (0 : Fin 1) k) = m ((c : Thread nD τ).loc main_arg1) (ix2 (0 : Fin 1) k) := by
  have e : V m c main_v35 = broadcastInDim S1x1024 ![1] bcast_S1024_S1x1024_1 (shapeCast S1024 (m ((c : Thread nD τ).loc main_arg1)) shapeCasts_S1x1024_S1024) := by
    unfold V; after_results <;> rfl
  rw [e]
  pointwise

theorem V_weights (c : Dev nD) : V m c main_v25 = laid (m ((c : Thread nD τ).loc main_arg2)) := by
  unfold V laid
  after_results <;> rfl

/-! ## The body's two values -/

theorem pay1_apply (x : Vec Ideal S1024x1024 .f32) (g : Vec Ideal S1x1024 .f32) (i k : Fin 1024) :
    k0_pay1 x g (ix2 i k) = normed (fun k => x (ix2 i k)) (fun k => g (ix2 (0 : Fin 1) k)) k := by
  pointwise [k0_pay1, normed]

theorem pay2_apply (x w : Vec Ideal S1024x1024 .bf16) (i j : Fin 1024) :
    k0_pay2 x w (ix4 (0 : Fin 1) (0 : Fin 1) i j) = ∑ k, x (ix2 i k) * w (ix2 k j) := by
  pointwise [k0_pay2]

theorem place_at (W : (⟨S1x1024x9744, .f32⟩ : BufTy).Contents (Elt Ideal)) (j c : ℕ) (h : place j = c) (hc : c < 9744) (k : Fin 1024) :
    (if h : place j < 9744 then W (ix3 (0 : Fin 1) k ⟨place j, h⟩) else 0) = W (ix3 (0 : Fin 1) k ⟨c, hc⟩) := by
  subst h; exact dif_pos hc

theorem cut_apply (W : (⟨S1x1024x9744, .f32⟩ : BufTy).Contents (Elt Ideal)) (w off : ℕ) (hw : off + w ≤ 9744) (wf) (k : Fin 1024) (i : Fin w) :
    (truncf (F := Ideal) .bf16 (extractStridedSlice ⟨2, ![1024, w]⟩ ![0, off] (shapeCast S1024x9744 W shapeCasts_S1x1024x9744_S1024x9744) wf) bitsLt_bf16_f32) (ix2 k i)
      = W (ix3 (0 : Fin 1) k ⟨off + i.val, by omega⟩) := by
  pointwise

theorem cut2_apply (W : (⟨S1x1024x9744, .f32⟩ : BufTy).Contents (Elt Ideal)) (off : ℕ) (hw : off + 1536 ≤ 9744) (wf) (k : Fin 1024) (i : Fin 512) :
    (extractStridedSlice S1024x512 ![0, 0] (truncf (F := Ideal) .bf16 (extractStridedSlice S1024x1536 ![0, off] (shapeCast S1024x9744 W shapeCasts_S1x1024x9744_S1024x9744) wf) bitsLt_bf16_f32) slices_S1024x1536_S1024x512_0_0) (ix2 k i)
      = W (ix3 (0 : Fin 1) k ⟨off + i.val, by omega⟩) := by
  pointwise

/-- Entry `j` of row `k` of the laid-out weights. -/
theorem laid_apply (W : (⟨S1x1024x9744, .f32⟩ : BufTy).Contents (Elt Ideal)) (k : Fin 1024) (j : Fin 7168) :
    laid W (ix2 k j) = if h : place j.val < 9744 then W (ix3 (0 : Fin 1) k ⟨place j.val, h⟩) else 0 := by
  unfold laid
  refine eleven_apply (F := Ideal) _ _ _ _ _ _ _ _ _ _ _ (fun j : Fin 7168 => if h : place j.val < 9744 then W (ix3 (0 : Fin 1) k ⟨place j.val, h⟩) else 0) k ?_ ?_ ?_ ?_ ?_ ?_ ?_ ?_ ?_ ?_ ?_ j <;> intro i
  · exact (cut_apply W 512 0 (by norm_num) _ k i).trans (place_at W (0 + i.val) (0 + i.val) (by unfold place; split_ifs <;> omega) (by omega) k).symm
  · exact (cut_apply W 512 512 (by norm_num) _ k i).trans (place_at W (512 + i.val) (512 + i.val) (by unfold place; split_ifs <;> omega) (by omega) k).symm
  · exact (cut_apply W 1024 1024 (by norm_num) _ k i).trans (place_at W (1024 + i.val) (1024 + i.val) (by unfold place; split_ifs <;> omega) (by omega) k).symm
  · exact (cut_apply W 1024 2048 (by norm_num) _ k i).trans (place_at W (2048 + i.val) (2048 + i.val) (by unfold place; split_ifs <;> omega) (by omega) k).symm
  · exact (cut_apply W 1024 7696 (by norm_num) _ k i).trans (place_at W (3072 + i.val) (7696 + i.val) (by unfold place; split_ifs <;> omega) (by omega) k).symm
  · exact (cut_apply W 1024 8720 (by norm_num) _ k i).trans (place_at W (4096 + i.val) (8720 + i.val) (by unfold place; split_ifs <;> omega) (by omega) k).symm
  · exact (cut2_apply W 3088 (by norm_num) _ k i).trans (place_at W (5120 + i.val) (3088 + i.val) (by unfold place; split_ifs <;> omega) (by omega) k).symm
  · exact (cut2_apply W 4624 (by norm_num) _ k i).trans (place_at W (5632 + i.val) (4624 + i.val) (by unfold place; split_ifs <;> omega) (by omega) k).symm
  · exact (cut2_apply W 6160 (by norm_num) _ k i).trans (place_at W (6144 + i.val) (6160 + i.val) (by unfold place; split_ifs <;> omega) (by omega) k).symm
  · exact (cut_apply W 16 3072 (by norm_num) _ k i).trans (place_at W (6656 + i.val) (3072 + i.val) (by unfold place; split_ifs <;> omega) (by omega) k).symm
  · have hp : ¬ place (6672 + i.val) < 9744 := by unfold place; split_ifs <;> omega
    refine Eq.trans ?_ (dif_neg hp).symm
    show Ideal.ofBits .bf16 0#16 = 0
    simp [Ideal.ofBits, Ideal.ieee]

end Cert.Kernel5Ideal.RefValue

end
-- ==== Proof.Proj5Final.lean ====
/- The input projection at dilation one: what the kernel's two results hold after the run, and the claims. -/
module

public import proofs.«01_k».proof.Proof.Proj5
public import proofs.«01_k».proof.Proof.ProjRef5
public import proofs.«01_k».proof.Defs
public import Idealize.ShloMosaic.Lib.Claim
public import Idealize.ShloMosaic.Lib.Quiescent

@[expose] public section

set_option maxRecDepth 16384

noncomputable section

namespace Cert.Kernel5Ideal.RefValue

open Cert.Kernel5Ideal Cert.Kernel5Ideal.Gen Cert.Proj Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The three arguments. -/
abbrev argX (c : Dev nD) : SX.Idx → EReal := m ((c : Thread nD τ).loc main_arg0)
abbrev argG (c : Dev nD) : SG.Idx → EReal := m ((c : Thread nD τ).loc main_arg1)
abbrev argW (c : Dev nD) : SW.Idx → EReal := m ((c : Thread nD τ).loc main_arg2)

theorem lt_N (t : Fin cfg0.N) : t.val < 112 := lt_of_lt_of_eq t.isLt N_0

/-- Row `i` of the point's block of tokens, as a token of a sequence. -/
def seqOf (n : ℕ) (hn : n < 112) : Fin 4 := ⟨n / 28, by omega⟩
def tokOf (n : ℕ) (hn : n < 112) (i : Fin 1024) : Fin 4096 := ⟨n / 7 % 4 * 1024 + i.val, by omega⟩

theorem blk_tokens (c : Dev nD) (t : Fin cfg0.N) (i k : Fin 1024) :
    iblk m c 0 t (ix2 i k) = argX m c (ix3 (seqOf t.val (lt_N t)) (tokOf t.val (lt_N t) i) k) := by
  have hl := lt_N t
  have e : (win0_0.blk t).view.emb (ix2 i k) = (ix2 (⟨t.val / 7 * 1024 + i.val, by omega⟩ : Fin 16384) k) := by
    funext a; apply Fin.ext; revert a
    blk_simp [idx0]
    intro a
    fin_cases a <;> simp
  blk_simp [iblk]
  rw [e, V_tokens]
  refine congrArg (argX m c) ?_
  congr 1 <;> apply Fin.ext <;> simp only [seqOf, tokOf] <;> omega

theorem blk_gain (c : Dev nD) (t : Fin cfg0.N) (k : Fin 1024) : iblk m c 1 t (ix2 (0 : Fin 1) k) = argG m c (ix2 (0 : Fin 1) k) := by
  have e : (win0_1.blk t).view.emb (ix2 (0 : Fin 1) k) = (ix2 (0 : Fin 1) k) := by
    funext a; apply Fin.ext; revert a
    blk_simp [idx1]
    intro a
    fin_cases a <;> simp
  blk_simp [iblk]
  rw [e, V_gain]

theorem blk_weights (c : Dev nD) (t : Fin cfg0.N) (k j : Fin 1024) : iblk m c 2 t (ix2 k j) = laid (argW m c) (ix2 k (⟨t.val % 7 * 1024 + j.val, by omega⟩ : Fin 7168)) := by
  have hl := lt_N t
  have e : (win0_2.blk t).view.emb (ix2 k j) = (ix2 k (⟨t.val % 7 * 1024 + j.val, by omega⟩ : Fin 7168)) := by
    funext a; apply Fin.ext; revert a
    blk_simp [idx2]
    intro a
    fin_cases a <;> simp
  blk_simp [iblk]
  rw [e, V_weights]

/-! ## What the body leaves at a point -/

theorem outs_A (c : Dev nD) (t : Fin cfg0.N) (h : t.val % 7 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  refine Prod.ext ?_ ?_
  · frame_out
  · frame_out

theorem outs_B (c : Dev nD) (t : Fin cfg0.N) (h : ¬ t.val % 7 = 0) :
    outsAt0 m c t.val t.isLt = (k0_pay2 (outsAt0 m c (t.val - 1) (Nat.lt_of_le_of_lt (Nat.sub_le _ _) t.isLt)).2 (iblk m c 2 t), (outsAt0 m c (t.val - 1) (Nat.lt_of_le_of_lt (Nat.sub_le _ _) t.isLt)).2) := by
  rw [outsAt0_B m c t h]
  refine Prod.ext ?_ ?_
  · frame_out
    exact congrArg (k0_pay2 · (iblk m c 2 t)) ((Memref.isWhole_whole cc0_scratch0).read_unread _)
  · rfl

/-- The rows kept in the scratch after a point. -/
theorem kept_rows (c : Dev nD) : ∀ (n : ℕ) (hn : n < cfg0.N) (i k : Fin 1024),
    (outsAt0 m c n hn).2 (ix2 i k)
      = normed (fun k => argX m c (ix3 (seqOf n (lt_N ⟨n, hn⟩)) (tokOf n (lt_N ⟨n, hn⟩) i) k)) (fun k => argG m c (ix2 (0 : Fin 1) k)) k := by
  intro n
  induction n with
  | zero =>
    intro hn i k
    rw [outs_A m c ⟨0, hn⟩ rfl]
    refine (pay1_apply _ _ i k).trans ?_
    simp only [blk_tokens, blk_gain]
  | succ n ih =>
    intro hn i k
    by_cases h : (n + 1) % 7 = 0
    · rw [outs_A m c ⟨n + 1, hn⟩ h]
      refine (pay1_apply _ _ i k).trans ?_
      simp only [blk_tokens, blk_gain]
    · rw [outs_B m c ⟨n + 1, hn⟩ h]
      refine (ih (Nat.lt_of_succ_lt hn) i k).trans ?_
      have e1 : seqOf n (lt_N ⟨n, Nat.lt_of_succ_lt hn⟩) = seqOf (n + 1) (lt_N ⟨n + 1, hn⟩) := Fin.ext (by simp only [seqOf]; omega)
      have e2 : tokOf n (lt_N ⟨n, Nat.lt_of_succ_lt hn⟩) i = tokOf (n + 1) (lt_N ⟨n + 1, hn⟩) i := Fin.ext (by simp only [tokOf]; omega)
      rw [e1, e2]

/-- The block the point leaves: the product of the rows kept after it with the block of weights. -/
theorem left_eq (c : Dev nD) (t : Fin cfg0.N) : (outsAt0 m c t.val t.isLt).1 = k0_pay2 (outsAt0 m c t.val t.isLt).2 (iblk m c 2 t) := by
  by_cases h : t.val % 7 = 0
  · rw [outs_A m c t h]
  · rw [outs_B m c t h]

/-- A row times a laid-out column of the weights. -/
theorem row_laid (X : SX.Idx → EReal) (G : SG.Idx → EReal) (W : SW.Idx → EReal) (b : Fin 4) (s : Fin 4096) (j : Fin 7168) :
    (∑ k : Fin 1024, normed (fun k => X (ix3 b s k)) (fun k => G (ix2 (0 : Fin 1) k)) k * (laid (F := Ideal) W (ix2 k j) : EReal) : EReal) = wide X G W b s j := by
  unfold wide
  by_cases h : place j.val < 9744
  · rw [dif_pos h]
    unfold token column
    apply Finset.sum_congr rfl
    intro k _
    rw [laid_apply, dif_pos h]
  · rw [dif_neg h]
    apply Finset.sum_eq_zero
    intro k _
    rw [laid_apply, dif_neg h, mul_zero]

theorem left_apply (c : Dev nD) (t : Fin cfg0.N) (i j : Fin 1024) :
    (outsAt0 m c t.val t.isLt).1 (ix4 (0 : Fin 1) (0 : Fin 1) i j)
      = wide (argX m c) (argG m c) (argW m c) (seqOf t.val (lt_N t)) (tokOf t.val (lt_N t) i) (⟨t.val % 7 * 1024 + j.val, by omega⟩ : Fin 7168) := by
  rw [left_eq, pay2_apply, ← row_laid]
  refine Finset.sum_congr rfl fun k _ => ?_
  rw [kept_rows, blk_weights]

/-! ## The first result -/

theorem covers : (cfg0.win 3).Covers := (by decide +kernel : win0_3.Covers)

/-- What the result array is shown to hold. -/
abbrev G (c : Dev nD) : Buf (Elt Ideal) ((c : Thread nD τ).loc main_v37) :=
  fun i => wide (argX m c) (argG m c) (argW m c) (i 0) (i 2) (i 3)

theorem final (c : Dev nD) : (dats m 0 c).arrAt 3 cfg0.N = G m c := by
  refine (dats m 0 c).arrAt_eq_of_covers 3 (G m c) covers fun t hf y => ?_
  have hl := lt_N t
  have hz : ∀ y : S1x1x1024x1024.Idx, y = ix4 (0 : Fin 1) (0 : Fin 1) (y 2 : Fin 1024) (y 3 : Fin 1024) := by
    intro y; idx_vars y
    rw [Subsingleton.elim y0 (0 : Fin 1), Subsingleton.elim y1 (0 : Fin 1)]
    rfl
  have e : ∀ i j : Fin 1024, (win0_3.blk t).view.emb (ix4 (0 : Fin 1) (0 : Fin 1) i j)
      = ix4 (seqOf t.val hl) (0 : Fin 1) (tokOf t.val hl i) (⟨t.val % 7 * 1024 + j.val, by omega⟩ : Fin 7168) := by
    intro i j
    funext a; apply Fin.ext; revert a
    blk_simp [idx3]
    intro a
    fin_cases a <;> simp [seqOf, tokOf]
  blk_simp
  rw [after0_3]
  rw [hz y]
  refine (left_apply m c t (y 2) (y 3)).trans ?_
  exact (congrArg (G m c) (e (y 2) (y 3))).symm

/-! ## The second result: the last tokens' keys and values, cut out of the first -/

/-- The host lines after the region, on the first result. -/
def tail (A : (⟨S4x1x4096x7168, .bf16⟩ : BufTy).Contents (Elt Ideal)) : (⟨S4x128x2x4x128, .f32⟩ : BufTy).Contents (Elt Ideal) :=
  shapeCast S4x128x2x4x128 (extf (F := Ideal) .f32 ((transpose S4x128x1x1024 [0, 2, 1, 3] (extractStridedSlice S4x1x128x1024 ![0, 0, 3968, 5632] A slices_S4x1x4096x7168_S4x1x128x1024_0_0_3968_5632)
    transposes_S4x1x128x1024_S4x128x1x1024_0_2_1_3) : (⟨S4x128x1x1024, .bf16⟩ : BufTy).Contents (Elt Ideal)) bitsLt_bf16_f32) shapeCasts_S4x128x1x1024_S4x128x2x4x128

theorem tail_apply (A : (⟨S4x1x4096x7168, .bf16⟩ : BufTy).Contents (Elt Ideal)) (i0 : Fin 4) (i1 : Fin 128) (i2 : Fin 2) (i3 : Fin 4) (i4 : Fin 128) :
    tail A (ix5 i0 i1 i2 i3 i4) = A (ix4 i0 (0 : Fin 1) (⟨3968 + i1.val, by omega⟩ : Fin 4096) (⟨5632 + (i2.val * 512 + i3.val * 128 + i4.val), by omega⟩ : Fin 7168)) := by
  pointwise [tail]

theorem tail_after (U : Valuation τ sig (Elt Ideal)) :
    StableHlo.after ([hostOps1] : List (List (HloOp τ sig (Elt Ideal)))).flatten U (Proc.devRef .tc main_v41) = tail (U (Proc.devRef .tc main_v37)) := by
  unfold tail
  rfl

theorem tail_eq (c : Dev nD) : Pipeline.afterTail₀ cfgs (dats m) 0 (V0 m) [hostOps1] c main_v41 = tail (G m c) := by
  have e : Pipeline.withArrays (cfgs 0).spec c (V0 m c) (fun w => (dats m 0 c).arrAt w (cfgs 0).N) (Proc.devRef .tc main_v37) = G m c :=
    (Pipeline.withArrays_arr (cfgs 0).spec winFacts0.arr_inj c (V0 m c) _ 3).trans (final m c)
  unfold Pipeline.afterTail₀
  exact (tail_after _).trans (congrArg tail e)

/-- The key and value columns of the first group in the wide layout. -/
theorem wide_kept (X : SX.Idx → EReal) (G : SG.Idx → EReal) (W : SW.Idx → EReal) (i0 : Fin 4) (i1 : Fin 128) (i2 : Fin 2) (i3 : Fin 4) (i4 : Fin 128) :
    wide X G W i0 (⟨3968 + i1.val, by omega⟩ : Fin 4096) (⟨5632 + (i2.val * 512 + i3.val * 128 + i4.val), by omega⟩ : Fin 7168) = keptRows X G W 128 (by decide) 0 i0 i1 i2 i3 i4 := by
  have hp : place (5632 + (i2.val * 512 + i3.val * 128 + i4.val)) = 4624 + i2.val * 1536 + (0 : Fin 3).val * 512 + i3.val * 128 + i4.val := by
    have := i2.isLt
    unfold place; simp only [Fin.val_zero]; split_ifs <;> omega
  have hlt : place (5632 + (i2.val * 512 + i3.val * 128 + i4.val)) < 9744 := by rw [hp]; simp only [Fin.val_zero]; omega
  unfold wide keptRows
  refine (dif_pos hlt).trans ?_
  exact congrArg (token X G W i0 _) (Fin.ext hp)

theorem kept_eq (c : Dev nD) : tail (G m c) = fun i => keptRows (argX m c) (argG m c) (argW m c) 128 (by decide) 0 (i 0) (i 1) (i 2) (i 3) (i 4) := by
  funext i
  idx_vars i
  refine (tail_apply _ i0 i1 i2 i3 i4).trans ?_
  exact wide_kept _ _ _ i0 i1 i2 i3 i4

/-! ## The claims -/

/-- The kernel's run, its results named and its arguments unchanged. -/
theorem run : θ_run (defs (F := Ideal)) (onTc (τ := τ) (main (F := Ideal))) ⟨m, fun _ => 0, ρ⟩ (fun r => ∀ c : Dev nD,
      r.2.mem ((c.tc : Thread nD τ).loc main_v37) = G m c
      ∧ r.2.mem ((c.tc : Thread nD τ).loc main_v41) = fun i => keptRows (argX m c) (argG m c) (argW m c) 128 (by decide) 0 (i 0) (i 1) (i 2) (i 3) (i 4)) :=
  (θ_run defs _ _).mono (fun _ h c => ⟨((h c).1 3).trans (final m c),
    ((h c).2 main_v41 (Pipeline.mem_restRefs_of main_v41 (by decide) (by decide))).trans ((tail_eq m c).trans (kept_eq m c))⟩) (run_main m ρ)

/-- The kernel's frame. -/
theorem frame : Cert.quiescent_Kernel5Ideal := fun m g _ => Cert.Kernel5Ideal.Gen.frame m g

/-- The reference's frame. -/
theorem frame_reference : Cert.quiescent_Reference5Ideal := fun m g _ =>
  (θ_run Cert.Reference5Ideal.defs _ _).mono (fun r h => ⟨fun c => (h c).2.2, Idealize.ShloMosaic.sem_eq_zero_of_no_sems (by decide) r.2⟩)
    (Cert.Reference5Ideal.Value.run (F := Ideal) m g)

/-- The kernel and the reference end with the same two arrays. -/
theorem algebraic : Cert.algebraic_Kernel5Ideal_Reference5Ideal := by
  intro m g m' g' hpre harg
  refine ⟨fun c => G m c, fun c => fun i => keptRows (argX m c) (argG m c) (argW m c) 128 (by decide) 0 (i 0) (i 1) (i 2) (i 3) (i 4), ?_, ?_⟩
  · exact (θ_run defs _ _).mono (fun r h c => ⟨(h.1 c).1, (h.1 c).2, h.2 c⟩) (θ_run_and (run m g) (unchanged m g))
  · refine (θ_run Cert.Reference5Ideal.defs _ _).mono (fun r h c => ⟨(h c).1.trans ?_, (h c).2.1.trans ?_, (h c).2.2⟩) (Cert.Reference5Ideal.Value.run (F := Ideal) m' g')
    · obtain ⟨e0, e1, e2⟩ := harg c
      rw [Cert.Proj.Ref5.rows_eq, e0, e1, e2]
      exact Cert.Proj.Ref5.rows_wide _ _ _
    · obtain ⟨e0, e1, e2⟩ := harg c
      refine (show _ = Cert.Proj.Ref5.kept (Cert.Proj.Ref5.proj _ _ _) from rfl).trans ?_
      rw [e0, e1, e2]
      exact Cert.Proj.Ref5.kept_group _ _ _

end Cert.Kernel5Ideal.RefValue

end
-- ==== Proof.ProjRef6.lean ====
/- The reference's lines of the input projection (second group), entry by entry. -/
module

public import proofs.«01_k».proof.Proof.Gen.Reference6Ideal.Run
public import proofs.«01_k».proof.Proof.Proj

@[expose] public section

set_option maxRecDepth 16384

noncomputable section

namespace Cert.Proj.Ref6

open Cert.Reference6Ideal Cert.Reference6Ideal.Gen Cert.Proj Idealize.ShloMosaic Idealize.ShloMosaic.TcCoe Idealize.SL.Sem

variable {F : FTy → Type} [FloatOps F]

/-- The projection of every normalised token. -/
def proj (X : (⟨S4x4096x1024, .f32⟩ : BufTy).Contents (Elt F)) (G : (⟨S1x1024, .f32⟩ : BufTy).Contents (Elt F)) (W : (⟨S1x1024x9744, .f32⟩ : BufTy).Contents (Elt F)) : (⟨S4x4096x9744, .f32⟩ : BufTy).Contents (Elt F) :=
  Host.dotGeneral dot_S4x4096x1024_S1024x9744_S4x4096x9744_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ G shapeCasts_S1x1024_S1024)))) (shapeCast _ W shapeCasts_S1x1024x9744_S1024x9744)

section Lines

variable (P : (⟨S4x4096x9744, .f32⟩ : BufTy).Contents (Elt F))

/-- The group's queries, keys and values. -/
def qs : (⟨S4x4096x4x128, .f32⟩ : BufTy).Contents (Elt F) :=
  shapeCast _ (extractStridedSlice S4x4096x1x4x128 ![0, 0, 1, 0, 0] (shapeCast _ (extractStridedSlice S4x4096x1536 ![0, 0, 3088] P slices_S4x4096x9744_S4x4096x1536_0_0_3088) shapeCasts_S4x4096x1536_S4x4096x3x4x128) slices_S4x4096x3x4x128_S4x4096x1x4x128_0_0_1_0_0) shapeCasts_S4x4096x1x4x128_S4x4096x4x128
def ks : (⟨S4x4096x4x128, .f32⟩ : BufTy).Contents (Elt F) :=
  shapeCast _ (extractStridedSlice S4x4096x1x4x128 ![0, 0, 1, 0, 0] (shapeCast _ (extractStridedSlice S4x4096x1536 ![0, 0, 4624] P slices_S4x4096x9744_S4x4096x1536_0_0_4624) shapeCasts_S4x4096x1536_S4x4096x3x4x128) slices_S4x4096x3x4x128_S4x4096x1x4x128_0_0_1_0_0) shapeCasts_S4x4096x1x4x128_S4x4096x4x128
def vs : (⟨S4x4096x4x128, .f32⟩ : BufTy).Contents (Elt F) :=
  shapeCast _ (extractStridedSlice S4x4096x1x4x128 ![0, 0, 1, 0, 0] (shapeCast _ (extractStridedSlice S4x4096x1536 ![0, 0, 6160] P slices_S4x4096x9744_S4x4096x1536_0_0_6160) shapeCasts_S4x4096x1536_S4x4096x3x4x128) slices_S4x4096x3x4x128_S4x4096x1x4x128_0_0_1_0_0) shapeCasts_S4x4096x1x4x128_S4x4096x4x128

/-- The columns of a token's row, joined. -/
def joined : (⟨S4x4096x1536, .f32⟩ : BufTy).Contents (Elt F) :=
  (concatenate S4x4096x1536 2 [⟨S4x4096x512, ((shapeCast _ (qs P) shapeCasts_S4x4096x4x128_S4x4096x512) : (⟨S4x4096x512, .f32⟩ : BufTy).Contents (Elt F))⟩, ⟨S4x4096x512, ((shapeCast _ (ks P) shapeCasts_S4x4096x4x128_S4x4096x512) : (⟨S4x4096x512, .f32⟩ : BufTy).Contents (Elt F))⟩, ⟨S4x4096x512, ((shapeCast _ (vs P) shapeCasts_S4x4096x4x128_S4x4096x512) : (⟨S4x4096x512, .f32⟩ : BufTy).Contents (Elt F))⟩] concatenates_S4x4096x512_S4x4096x512_S4x4096x512_S4x4096x1536_d2 : (⟨S4x4096x1536, .f32⟩ : BufTy).Contents (Elt F))

/-- The rows laid out by the token's place in its dilation class. -/
def rows : (⟨S4x4x1024x1536, .bf16⟩ : BufTy).Contents (Elt F) :=
  truncf .bf16 (transpose S4x4x1024x1536 [0, 2, 1, 3] (shapeCast _ (joined P) shapeCasts_S4x4096x1536_S4x1024x4x1536) transposes_S4x1024x4x1536_S4x4x1024x1536_0_2_1_3) bitsLt_bf16_f32

/-- The last tokens' key and value rows. -/
def kept : (⟨S4x512x2x4x128, .f32⟩ : BufTy).Contents (Elt F) :=
  extractStridedSlice S4x512x2x4x128 ![0, 3584, 0, 0, 0] (concatenate S4x4096x2x4x128 2 [⟨S4x4096x1x4x128, (broadcastInDim S4x4096x1x4x128 ![0, 1, 3, 4] bcast_S4x4096x4x128_S4x4096x1x4x128_0_1_3_4 (ks P))⟩, ⟨S4x4096x1x4x128, (broadcastInDim S4x4096x1x4x128 ![0, 1, 3, 4] bcast_S4x4096x4x128_S4x4096x1x4x128_0_1_3_4 (vs P))⟩] concatenates_S4x4096x1x4x128_S4x4096x1x4x128_S4x4096x2x4x128_d2) slices_S4x4096x2x4x128_S4x512x2x4x128_0_3584_0_0_0

omit [FloatOps F] in
theorem head_apply (off : ℕ) (ho : off + 1536 ≤ 9744) (wf) (b : Fin 4) (t : Fin 4096) (h : Fin 4) (e : Fin 128) :
    shapeCast S4x4096x4x128 (extractStridedSlice S4x4096x1x4x128 ![0, 0, 1, 0, 0] (shapeCast S4x4096x3x4x128 (extractStridedSlice S4x4096x1536 ![0, 0, off] P wf) shapeCasts_S4x4096x1536_S4x4096x3x4x128) slices_S4x4096x3x4x128_S4x4096x1x4x128_0_0_1_0_0) shapeCasts_S4x4096x1x4x128_S4x4096x4x128 (ix4 b t h e)
      = P (ix3 b t ⟨off + (512 + h.val * 128 + e.val), by omega⟩) := by
  pointwise

omit [FloatOps F] in
theorem heads_apply (x y : (⟨S4x4096x4x128, .f32⟩ : BufTy).Contents (Elt F)) (b : Fin 4) (r : Fin 4096) (s : Fin 2) (h : Fin 4) (e : Fin 128) :
    concatenate S4x4096x2x4x128 2 [⟨S4x4096x1x4x128, (broadcastInDim S4x4096x1x4x128 ![0, 1, 3, 4] bcast_S4x4096x4x128_S4x4096x1x4x128_0_1_3_4 x)⟩, ⟨S4x4096x1x4x128, (broadcastInDim S4x4096x1x4x128 ![0, 1, 3, 4] bcast_S4x4096x4x128_S4x4096x1x4x128_0_1_3_4 y)⟩] concatenates_S4x4096x1x4x128_S4x4096x1x4x128_S4x4096x2x4x128_d2 (ix5 b r s h e)
      = if s.val < 1 then x (ix4 b r h e) else y (ix4 b r h e) := by
  pointwise
  rfl

omit [FloatOps F] in
theorem last_apply (x : (⟨S4x4096x2x4x128, .f32⟩ : BufTy).Contents (Elt F)) (b : Fin 4) (r : Fin 512) (s : Fin 2) (h : Fin 4) (e : Fin 128) :
    extractStridedSlice S4x512x2x4x128 ![0, 3584, 0, 0, 0] x slices_S4x4096x2x4x128_S4x512x2x4x128_0_3584_0_0_0 (ix5 b r s h e) = x (ix5 b ⟨3584 + r.val, by omega⟩ s h e) := by
  pointwise

omit [FloatOps F] in
theorem kept_apply (b : Fin 4) (r : Fin 512) (s : Fin 2) (h : Fin 4) (e : Fin 128) :
    kept P (ix5 b r s h e) = P (ix3 b (⟨3584 + r.val, by omega⟩ : Fin 4096) (kvCol 1 s h e)) := by
  unfold kept ks vs
  rw [last_apply, heads_apply, head_apply P 4624 (by norm_num), head_apply P 6160 (by norm_num)]
  have hs : s.val = 0 ∨ s.val = 1 := by omega
  rcases hs with hs | hs
  · rw [if_pos (by omega)]
    refine congrArg P (congrArg (ix3 b _) (Fin.ext ?_))
    show 4624 + (512 + _ + _) = 4624 + _ * 1536 + 1 * 512 + _ + _
    omega
  · rw [if_neg (by omega)]
    refine congrArg P (congrArg (ix3 b _) (Fin.ext ?_))
    show 6160 + (512 + _ + _) = 4624 + _ * 1536 + 1 * 512 + _ + _
    omega

omit [FloatOps F] in
theorem flat_apply (x : (⟨S4x4096x4x128, .f32⟩ : BufTy).Contents (Elt F)) (b : Fin 4) (t : Fin 4096) (j : Fin 512) :
    shapeCast S4x4096x512 x shapeCasts_S4x4096x4x128_S4x4096x512 (ix3 b t j) = x (ix4 b t ⟨j.val / 128, by omega⟩ ⟨j.val % 128, by omega⟩) := by
  pointwise

omit [FloatOps F] in
theorem three_apply (x y z : (⟨S4x4096x512, .f32⟩ : BufTy).Contents (Elt F)) (b : Fin 4) (t : Fin 4096) (j : Fin 1536) :
    concatenate S4x4096x1536 2 [⟨S4x4096x512, x⟩, ⟨S4x4096x512, y⟩, ⟨S4x4096x512, z⟩] concatenates_S4x4096x512_S4x4096x512_S4x4096x512_S4x4096x1536_d2 (ix3 b t j)
      = if j.val < 512 then x (ix3 b t ⟨j.val % 512, by omega⟩) else if j.val < 1024 then y (ix3 b t ⟨j.val % 512, by omega⟩) else z (ix3 b t ⟨j.val % 512, by omega⟩) := by
  pointwise
  have e : ∀ (u : (⟨S4x4096x512, .f32⟩ : BufTy).Contents (Elt F)) (a a' : Fin 512), a.val = a'.val → u (ix3 b t a) = u (ix3 b t a') := fun u a a' h => by rw [Fin.ext h]
  by_cases h0 : j.val < 512
  · rw [if_pos h0]
    refine (dif_pos h0).trans (e _ _ _ ?_)
    show j.val = j.val % 512
    omega
  · rw [if_neg h0]
    refine (dif_neg h0).trans ?_
    by_cases h1 : j.val < 1024
    · rw [if_pos h1]
      refine (dif_pos (by omega)).trans (e _ _ _ ?_)
      show j.val - 512 = j.val % 512
      omega
    · rw [if_neg h1]
      refine (dif_neg (by omega)).trans (e _ _ _ ?_)
      show j.val - 512 - 512 = j.val % 512
      omega

omit [FloatOps F] in
theorem joined_apply (b : Fin 4) (t : Fin 4096) (j : Fin 1536) :
    joined P (ix3 b t j) = P (ix3 b t (groupCol 1 j)) := by
  unfold joined
  rw [three_apply, flat_apply, flat_apply, flat_apply]
  unfold qs ks vs
  rw [head_apply P 3088 (by norm_num), head_apply P 4624 (by norm_num), head_apply P 6160 (by norm_num)]
  have e : ∀ a a' : Fin 9744, a.val = a'.val → P (ix3 b t a) = P (ix3 b t a') := fun a a' h => by rw [Fin.ext h]
  split_ifs with h0 h1
  · refine e _ _ ?_
    show 3088 + (512 + j.val % 512 / 128 * 128 + j.val % 512 % 128) = 3088 + j.val / 512 * 1536 + 1 * 512 + j.val % 512
    omega
  · refine e _ _ ?_
    show 4624 + (512 + j.val % 512 / 128 * 128 + j.val % 512 % 128) = 3088 + j.val / 512 * 1536 + 1 * 512 + j.val % 512
    omega
  · refine e _ _ ?_
    show 6160 + (512 + j.val % 512 / 128 * 128 + j.val % 512 % 128) = 3088 + j.val / 512 * 1536 + 1 * 512 + j.val % 512
    omega

theorem laid_apply (x : (⟨S4x4096x1536, .f32⟩ : BufTy).Contents (Elt Ideal)) (b : Fin 4) (p : Fin 4) (u : Fin 1024) (j : Fin 1536) :
    (truncf (F := Ideal) .bf16 (transpose S4x4x1024x1536 [0, 2, 1, 3] (shapeCast _ x shapeCasts_S4x4096x1536_S4x1024x4x1536) transposes_S4x1024x4x1536_S4x4x1024x1536_0_2_1_3) bitsLt_bf16_f32 : (⟨S4x4x1024x1536, .bf16⟩ : BufTy).Contents (Elt Ideal)) (ix4 b p u j)
      = x (ix3 b (⟨u.val * 4 + p.val, by omega⟩ : Fin 4096) j) := by
  pointwise

end Lines

theorem rows_eq (m : (ℓ : Loc nD τ sig) → Buf (Elt F) ℓ) (c : Dev nD) : Cert.Reference6Ideal.Value.res_main_v44 m c
    = rows (proj (m ((c : Thread nD τ).loc main_arg0)) (m ((c : Thread nD τ).loc main_arg1)) (m ((c : Thread nD τ).loc main_arg2))) := rfl

section Real

variable (X : (⟨S4x4096x1024, .f32⟩ : BufTy).Contents (Elt Ideal)) (G : (⟨S1x1024, .f32⟩ : BufTy).Contents (Elt Ideal)) (W : (⟨S1x1024x9744, .f32⟩ : BufTy).Contents (Elt Ideal))

theorem proj_apply (b : Fin 4) (t : Fin 4096) (c : Fin 9744) : proj X G W (ix3 b t c) = token X G W b t c := by
  pointwise [proj, token, column, normed]

/-- What the reference's two results hold. -/
theorem rows_group : rows (proj X G W) = fun i : S4x4x1024x1536.Idx => spread X G W 4 1024 (by norm_num) 1 (i 0) (i 1) (i 2) (i 3) := by
  funext i
  idx_vars i
  unfold rows
  rw [laid_apply, joined_apply, proj_apply]
  rfl

theorem kept_group : kept (proj X G W) = fun i : S4x512x2x4x128.Idx => keptRows X G W 512 (by norm_num) 1 (i 0) (i 1) (i 2) (i 3) (i 4) := by
  funext i
  idx_vars i
  rw [kept_apply, proj_apply]
  rfl

end Real

end Cert.Proj.Ref6

end
-- ==== Proof.Proj6.lean ====
/- The input projection of the second attention group over the reals: what the kernel's body leaves. -/
module

public import proofs.«01_k».proof.Defs
public import proofs.«01_k».proof.Proof.Gen.Kernel6Ideal.Frame
public import proofs.«01_k».proof.Proof.ProjRef6
public import Idealize.ShloMosaic.Lib.Pipeline.ValueKit

@[expose] public section

set_option maxRecDepth 16384

noncomputable section

namespace Cert.Kernel6Ideal.RefValue

open Cert.Kernel6Ideal Cert.Kernel6Ideal.Gen Cert.Proj Idealize.ShloMosaic Idealize.ShloMosaic.TcCoe Idealize.SL.Sem
open Idealize.ShloMosaic.Pipeline (Dat)

variable (m : (ℓ : Loc nD τ sig) → Buf (Elt Ideal) ℓ)

/-! ## The body's values -/

theorem pay10_apply (x : Vec Ideal S1024x1024 .f32) (g : Vec Ideal S1x1024 .f32) (i k : Fin 1024) :
    k0_pay10 x g (ix2 i k) = normed (fun k => x (ix2 i k)) (fun k => g (ix2 (0 : Fin 1) k)) k := by
  pointwise [k0_pay10, normed]

theorem pay11_apply (x : Vec Ideal S1024x1024 .bf16) (w : Vec Ideal S1024x1536 .bf16) (i : Fin 1024) (j : Fin 1536) :
    k0_pay11 x w (ix2 i j) = ∑ k, x (ix2 i k) * w (ix2 k j) := by
  pointwise [k0_pay11]

/-! ## The pieces -/

/-- Columns of a product, as they are put into the scratch. -/
theorem plane_apply (A : FVec Ideal S1024x1536 .f32) (o : ℕ) (r : Fin 1024) (e : Fin 128) (ho : o + 128 ≤ 1536) (hs : S1024x1536.Slices ![0, o] S1024x128) :
    shapeCast S1x1024x128 (extractStridedSlice S1024x128 ![0, o] A hs) shapeCasts_S1024x128_S1x1024x128 (ix3 (0 : Fin 1) r e)
      = A (ix2 r (⟨o + e.val, by omega⟩ : Fin 1536)) := by
  pointwise

/-- Rows read out of the scratch, as they are put into the result's block. -/
theorem lift_apply (v : FVec Ideal S1x256x128 .f32) (i : Fin 256) (e : Fin 128) :
    shapeCast S1x1x256x128 (truncf (F := Ideal) .bf16 (shapeCast S256x128 v shapeCasts_S1x256x128_S256x128) bitsLt_bf16_f32) shapeCasts_S256x128_S1x1x256x128 (ix4 (0 : Fin 1) (0 : Fin 1) i e)
      = v (ix3 (0 : Fin 1) i e) := by
  pointwise

/-- Every fourth row of the plane last put into the scratch. -/
theorem strided_apply (v : View sig .tc .vmem S12x1024x128 .f32) (q p : ℕ) (w : S1x1024x128.Idx → Elt Ideal .f32) (L : List (View.Piece (Elt Ideal) S12x1024x128 .f32))
    (i : Fin 256) (e : Fin 128) (hp : p < 4)
    (inb : ∀ a, (![q, 0, 0] : Fin 3 → ℕ) a + S1x1024x128.size a ≤ S12x1024x128.size a)
    (inb' : ∀ a, S1x256x128.size a = 0 ∨ (![q, p, 0] : Fin 3 → ℕ) a + (![1, 4, 1] : Fin 3 → ℕ) a * (S1x256x128.size a - 1) < S12x1024x128.size a) :
    v.readCov (⟨Rect.unit ![q, 0, 0] S1x1024x128.size inb, w⟩ :: L) ⟨![q, p, 0], S1x256x128.size, ![1, 4, 1], inb'⟩ (ix3 (0 : Fin 1) i e)
      = w (ix3 (0 : Fin 1) (⟨i.val * 4 + p, by omega⟩ : Fin 1024) e) := by
  rw [View.readCov_eq_canon']
  refine Eq.trans ?_ (View.canon_cons_emb (Rect.unit (s := S12x1024x128) ![q, 0, 0] S1x1024x128.size inb) w L (ix3 (0 : Fin 1) (⟨i.val * 4 + p, by omega⟩ : Fin 1024) e))
  refine congrArg (View.canon _) ?_
  funext a
  apply Fin.ext
  fin_cases a
  · show q + 1 * 0 = q + 1 * 0; rfl
  · show p + 4 * i.val = 0 + 1 * (i.val * 4 + p); omega
  · show 0 + 1 * e.val = 0 + 1 * e.val; rfl

/-- One piece of the first result's block is what the product holds. -/
theorem piece (v : View sig .tc .vmem S12x1024x128 .f32) (A : FVec Ideal S1024x1536 .f32) (q p o : ℕ) (L : List (View.Piece (Elt Ideal) S12x1024x128 .f32))
    (x : S1x1x256x128.Idx) (r : Fin 1024) (j : Fin 1536) (hr : r.val = (x 2 : ℕ) * 4 + p) (hj : j.val = o + (x 3 : ℕ)) (hp : p < 4) (ho : o + 128 ≤ 1536)
    (hs : S1024x1536.Slices ![0, o] S1024x128)
    (inb : ∀ a, (![q, 0, 0] : Fin 3 → ℕ) a + S1x1024x128.size a ≤ S12x1024x128.size a)
    (inb' : ∀ a, S1x256x128.size a = 0 ∨ (![q, p, 0] : Fin 3 → ℕ) a + (![1, 4, 1] : Fin 3 → ℕ) a * (S1x256x128.size a - 1) < S12x1024x128.size a) :
    shapeCast S1x1x256x128 (truncf (F := Ideal) .bf16 (shapeCast S256x128 (v.readCov (⟨Rect.unit ![q, 0, 0] S1x1024x128.size inb,
        shapeCast S1x1024x128 (extractStridedSlice S1024x128 ![0, o] A hs) shapeCasts_S1024x128_S1x1024x128⟩ :: L) ⟨![q, p, 0], S1x256x128.size, ![1, 4, 1], inb'⟩)
        shapeCasts_S1x256x128_S256x128) bitsLt_bf16_f32) shapeCasts_S256x128_S1x1x256x128 x = A (ix2 r j) := by
  have hx : x = ix4 (0 : Fin 1) (0 : Fin 1) (x 2 : Fin 256) (x 3 : Fin 128) := by
    idx_vars x
    rw [Subsingleton.elim x0 (0 : Fin 1), Subsingleton.elim x1 (0 : Fin 1)]
    rfl
  rw [hx]
  refine (lift_apply _ (x 2) (x 3)).trans ((strided_apply v q p _ L (x 2) (x 3) hp inb inb').trans ((plane_apply A o _ (x 3) ho hs).trans ?_))
  exact congrArg A (congrArg₂ ix2 (Fin.ext hr.symm) (Fin.ext hj.symm))

/-- One piece of the second result's block. -/
theorem last_apply (A : FVec Ideal S1024x1536 .f32) (o : ℕ) (x : S1x512x1x1x128.Idx) (r : Fin 1024) (j : Fin 1536) (hr : r.val = 512 + (x 1 : ℕ)) (hj : j.val = o + (x 4 : ℕ))
    (ho : o + 128 ≤ 1536) (hs : S1024x1536.Slices ![512, o] S512x128) :
    shapeCast S1x512x1x1x128 (extractStridedSlice S512x128 ![512, o] A hs) shapeCasts_S512x128_S1x512x1x1x128 x = A (ix2 r j) := by
  have e : ∀ (i : Fin 512) (e : Fin 128), shapeCast S1x512x1x1x128 (extractStridedSlice S512x128 ![512, o] A hs) shapeCasts_S512x128_S1x512x1x1x128 (ix5 (0 : Fin 1) i (0 : Fin 1) (0 : Fin 1) e)
      = A (ix2 (⟨512 + i.val, by omega⟩ : Fin 1024) (⟨o + e.val, by omega⟩ : Fin 1536)) := by
    intro i e
    pointwise
  have hx : x = ix5 (0 : Fin 1) (x 1 : Fin 512) (0 : Fin 1) (0 : Fin 1) (x 4 : Fin 128) := by
    idx_vars x
    rw [Subsingleton.elim x0 (0 : Fin 1), Subsingleton.elim x2 (0 : Fin 1), Subsingleton.elim x3 (0 : Fin 1)]
    rfl
  rw [hx]
  refine (e (x 1) (x 4)).trans ?_
  exact congrArg A (congrArg₂ ix2 (Fin.ext hr.symm) (Fin.ext hj.symm))

end Cert.Kernel6Ideal.RefValue

end
-- ==== Proof.Proj6Out.lean ====
/- The input projection of the second attention group over the reals: what the kernel's body leaves in the two blocks. -/
module

public import proofs.«01_k».proof.Proof.Proj6

@[expose] public section

set_option maxRecDepth 16384

noncomputable section

namespace Cert.Kernel6Ideal.RefValue

open Cert.Kernel6Ideal Cert.Kernel6Ideal.Gen Cert.Proj Idealize.ShloMosaic Idealize.ShloMosaic.TcCoe Idealize.SL.Sem

variable (m : (ℓ : Loc nD τ sig) → Buf (Elt Ideal) ℓ)

/-- The point's product: its rows, normalised, times the weights. -/
abbrev prod (c : Dev nD) (t : Fin cfg0.N) : FVec Ideal S1024x1536 .f32 := k0_pay11 (k0_pay10 (iblk m c 0 t) (iblk m c 1 t)) (iblk m c 2 t)

theorem row_lt (a : Fin 256) (b : Fin 4) : a.val * 4 + b.val < 1024 := by omega

/-- The first result's block: every fourth row of the product, place by place. -/
def block (A : FVec Ideal S1024x1536 .f32) : FVec Ideal S1x4x256x1536 .bf16 := fun y => A (ix2 (⟨_, row_lt (y 2) (y 1)⟩ : Fin 1024) (y 3 : Fin 1536))

theorem first_A (c : Dev nD) (t : Fin cfg0.N) (h : ¬ t.val % 4 = 3) : (outsAt0 m c t.val t.isLt).1 = block (prod m c t) := by
  rw [outsAt0_A m c t h]
  frame_out
  funext y
  canon_tiles x h
  all_goals (refine piece _ (prod m c t) _ _ _ _ _ _ _ ?_ ?_ ?_ ?_ ?_ ?_ ?_)
  all_goals first | (show (y 2 : ℕ) * 4 + (y 1 : ℕ) = _; omega) | omega | exact (by decide)

theorem first_B (c : Dev nD) (t : Fin cfg0.N) (h : t.val % 4 = 3) : (outsAt0 m c t.val t.isLt).1 = block (prod m c t) := by
  rw [outsAt0_B m c t h]
  frame_out
  funext y
  canon_tiles x h
  all_goals (refine piece _ (prod m c t) _ _ _ _ _ _ _ ?_ ?_ ?_ ?_ ?_ ?_ ?_)
  all_goals first | (show (y 2 : ℕ) * 4 + (y 1 : ℕ) = _; omega) | omega | exact (by decide)

/-- What the body leaves in the first result's block. -/
theorem first_eq (c : Dev nD) (t : Fin cfg0.N) : (outsAt0 m c t.val t.isLt).1 = block (prod m c t) := by
  by_cases h : t.val % 4 = 3
  · exact first_B m c t h
  · exact first_A m c t h

theorem kept_lt (s : Fin 2) (h : Fin 4) (e : Fin 128) : 512 + (s.val * 4 + h.val) * 128 + e.val < 1536 := by omega

/-- The second result's block: the last rows' keys and values. -/
def keptBlock (A : FVec Ideal S1024x1536 .f32) : FVec Ideal S1x512x2x4x128 .f32 := fun y =>
  A (ix2 (⟨512 + (y 1 : Fin 512).val, by have h : (y 1 : Fin 512).val < 512 := (y 1 : Fin 512).isLt; omega⟩ : Fin 1024) (⟨_, kept_lt (y 2) (y 3) (y 4)⟩ : Fin 1536))

/-- What the body leaves in the second result's block, at a sequence's last point. -/
theorem second_eq (c : Dev nD) (t : Fin cfg0.N) (h : t.val % 4 = 3) : (outsAt0 m c t.val t.isLt).2 = keptBlock (prod m c t) := by
  rw [outsAt0_B m c t h]
  frame_out
  funext y
  canon_tiles x h
  all_goals (refine last_apply (prod m c t) _ _ _ _ ?_ ?_ ?_ ?_)
  all_goals first | (show 512 + (y 1 : ℕ) = _; omega) | (show 512 + ((y 2 : ℕ) * 4 + (y 3 : ℕ)) * 128 + (y 4 : ℕ) = _; omega) | omega | exact (by decide)

end Cert.Kernel6Ideal.RefValue

end
-- ==== Proof.Proj6Final.lean ====
/- The input projection of the second attention group over the reals: what the kernel's two results hold after the run, and the claims. -/
module

public import proofs.«01_k».proof.Proof.Proj6Out
public import proofs.«01_k».proof.Proof.ProjRef6
public import proofs.«01_k».proof.Proof.Gen.Kernel6Ideal.Value
public import proofs.«01_k».proof.Defs
public import Idealize.ShloMosaic.Lib.Claim
public import Idealize.ShloMosaic.Lib.Quiescent

@[expose] public section

set_option maxRecDepth 16384

noncomputable section

namespace Cert.Kernel6Ideal.RefValue

open Cert.Kernel6Ideal Cert.Kernel6Ideal.Gen Cert.Proj Idealize.ShloMosaic Idealize.ShloMosaic.TcCoe Idealize.SL.Sem
open Idealize.ShloMosaic.Pipeline (Dat)

/-! ## The weights' columns of the group -/

section Weights

theorem three_apply (x y z : (⟨S1024x512, .bf16⟩ : BufTy).Contents (Elt Ideal)) (k : Fin 1024) (j : Fin 1536) (f : Fin 1536 → EReal)
    (hx : ∀ i : Fin 512, x (ix2 k i) = f ⟨i.val, by omega⟩) (hy : ∀ i : Fin 512, y (ix2 k i) = f ⟨512 + i.val, by omega⟩)
    (hz : ∀ i : Fin 512, z (ix2 k i) = f ⟨1024 + i.val, by omega⟩) :
    concatenate S1024x1536 1 [⟨S1024x512, x⟩, ⟨S1024x512, y⟩, ⟨S1024x512, z⟩] concatenates_S1024x512_S1024x512_S1024x512_S1024x1536_d1 (ix2 k j) = f j := by
  pointwise
  by_cases c0 : j.val < 512
  · refine (dif_pos (by omega)).trans ((hx _).trans (congrArg f (Fin.ext ?_)))
    simp only []
  refine (dif_neg (by omega)).trans ?_
  by_cases c1 : j.val < 1024
  · refine (dif_pos (by omega)).trans ((hy _).trans (congrArg f (Fin.ext ?_)))
    simp only []
    omega
  refine (dif_neg (by omega)).trans ?_
  refine (hz _).trans (congrArg f (Fin.ext ?_))
  simp only []
  omega

/-- The weights as the host code lays them out for the group's product. -/
def laid (W : (⟨S1x1024x9744, .f32⟩ : BufTy).Contents (Elt Ideal)) : (⟨S1024x1536, .bf16⟩ : BufTy).Contents (Elt Ideal) :=
  (concatenate S1024x1536 1 [⟨S1024x512, ((extractStridedSlice S1024x512 ![0, 512] (truncf (F := Ideal) .bf16 (extractStridedSlice S1024x1536 ![0, 3088] (shapeCast _ W shapeCasts_S1x1024x9744_S1024x9744) slices_S1024x9744_S1024x1536_0_3088) bitsLt_bf16_f32) slices_S1024x1536_S1024x512_0_512) : (⟨S1024x512, .bf16⟩ : BufTy).Contents (Elt Ideal))⟩, ⟨S1024x512, ((extractStridedSlice S1024x512 ![0, 512] (truncf (F := Ideal) .bf16 (extractStridedSlice S1024x1536 ![0, 4624] (shapeCast _ W shapeCasts_S1x1024x9744_S1024x9744) slices_S1024x9744_S1024x1536_0_4624) bitsLt_bf16_f32) slices_S1024x1536_S1024x512_0_512) : (⟨S1024x512, .bf16⟩ : BufTy).Contents (Elt Ideal))⟩, ⟨S1024x512, ((extractStridedSlice S1024x512 ![0, 512] (truncf (F := Ideal) .bf16 (extractStridedSlice S1024x1536 ![0, 6160] (shapeCast _ W shapeCasts_S1x1024x9744_S1024x9744) slices_S1024x9744_S1024x1536_0_6160) bitsLt_bf16_f32) slices_S1024x1536_S1024x512_0_512) : (⟨S1024x512, .bf16⟩ : BufTy).Contents (Elt Ideal))⟩] concatenates_S1024x512_S1024x512_S1024x512_S1024x1536_d1 : (⟨S1024x1536, .bf16⟩ : BufTy).Contents (Elt Ideal))

theorem cut_apply (W : (⟨S1x1024x9744, .f32⟩ : BufTy).Contents (Elt Ideal)) (off : ℕ) (hw : off + 1536 ≤ 9744) (wf) (k : Fin 1024) (i : Fin 512) :
    (extractStridedSlice S1024x512 ![0, 512] (truncf (F := Ideal) .bf16 (extractStridedSlice S1024x1536 ![0, off] (shapeCast S1024x9744 W shapeCasts_S1x1024x9744_S1024x9744) wf) bitsLt_bf16_f32) slices_S1024x1536_S1024x512_0_512) (ix2 k i)
      = W (ix3 (0 : Fin 1) k ⟨off + (512 + i.val), by omega⟩) := by
  pointwise

/-- Entry `j` of row `k` of the laid-out weights. -/
theorem laid_apply (W : (⟨S1x1024x9744, .f32⟩ : BufTy).Contents (Elt Ideal)) (k : Fin 1024) (j : Fin 1536) :
    laid W (ix2 k j) = W (ix3 (0 : Fin 1) k (groupCol 1 j)) := by
  unfold laid
  have e : ∀ (a : Fin 9744) (b : Fin 1536), a.val = 3088 + b.val / 512 * 1536 + 512 + b.val % 512 → W (ix3 (0 : Fin 1) k a) = W (ix3 (0 : Fin 1) k (groupCol 1 b)) := by
    intro a b h
    refine congrArg W (congrArg (ix3 (0 : Fin 1) k) (Fin.ext ?_))
    rw [h]; rfl
  refine three_apply _ _ _ k j (fun j : Fin 1536 => W (ix3 (0 : Fin 1) k (groupCol 1 j))) ?_ ?_ ?_ <;> intro i
  · exact (cut_apply W 3088 (by norm_num) _ k i).trans (e _ _ (by simp only []; omega))
  · exact (cut_apply W 4624 (by norm_num) _ k i).trans (e _ _ (by simp only []; omega))
  · exact (cut_apply W 6160 (by norm_num) _ k i).trans (e _ _ (by simp only []; omega))

end Weights

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 4, 0, t.val % 4, 0] := (by decide +kernel : ∀ t : Fin grid0.N, _)
theorem idx4 : ∀ t : Fin cfg0.N, win0_4.index t = ![t.val / 4, 0, 0, 0, 0] := (by decide +kernel : ∀ t : Fin grid0.N, _)

/-- The three arguments. -/
abbrev argX (c : Dev nD) : SX.Idx → EReal := m ((c : Thread nD τ).loc main_arg0)
abbrev argG (c : Dev nD) : SG.Idx → EReal := m ((c : Thread nD τ).loc main_arg1)
abbrev argW (c : Dev nD) : SW.Idx → EReal := m ((c : Thread nD τ).loc main_arg2)

theorem lt_N (t : Fin cfg0.N) : t.val < 16 := lt_of_lt_of_eq t.isLt N_0

/-! ## The arrays the region is handed -/

theorem tokens_apply (X : (⟨S4x4096x1024, .f32⟩ : BufTy).Contents (Elt Ideal)) (i : Fin 16384) (k : Fin 1024) :
    shapeCast S16384x1024 X shapeCasts_S4x4096x1024_S16384x1024 (ix2 i k) = X (ix3 (⟨i.val / 4096, by omega⟩ : Fin 4) (⟨i.val % 4096, by omega⟩ : Fin 4096) k) := by
  pointwise

theorem V_tokens (c : Dev nD) (i : Fin 16384) (k : Fin 1024) : V m c main_v36 (ix2 i k)
    = m ((c : Thread nD τ).loc main_arg0) (ix3 (⟨i.val / 4096, by omega⟩ : Fin 4) (⟨i.val % 4096, by omega⟩ : Fin 4096) k) := by
  have e : V m c main_v36 = shapeCast S16384x1024 (m ((c : Thread nD τ).loc main_arg0)) shapeCasts_S4x4096x1024_S16384x1024 := by
    rfl
  rw [e]
  exact tokens_apply _ i k

theorem V_gain (c : Dev nD) (k : Fin 1024) : V m c main_v35 (ix2 (0 : Fin 1) k) = m ((c : Thread nD τ).loc main_arg1) (ix2 (0 : Fin 1) k) := by
  have e : V m c main_v35 = broadcastInDim S1x1024 ![1] bcast_S1024_S1x1024_1 (shapeCast S1024 (m ((c : Thread nD τ).loc main_arg1)) shapeCasts_S1x1024_S1024) := by
    unfold V; after_results <;> rfl
  rw [e]
  pointwise

theorem V_weights (c : Dev nD) : V m c main_v29 = laid (m ((c : Thread nD τ).loc main_arg2)) := by
  unfold V laid
  after_results <;> rfl

/-- Row `i` of the point's block of tokens, as a token of a sequence. -/
def seqOf (n : ℕ) (hn : n < 16) : Fin 4 := ⟨n / 4, by omega⟩
def tokOf (n : ℕ) (hn : n < 16) (i : Fin 1024) : Fin 4096 := ⟨n % 4 * 1024 + i.val, by omega⟩

theorem blk_tokens (c : Dev nD) (t : Fin cfg0.N) (i k : Fin 1024) :
    iblk m c 0 t (ix2 i k) = argX m c (ix3 (seqOf t.val (lt_N t)) (tokOf t.val (lt_N t) i) k) := by
  have hl := lt_N t
  have e : (win0_0.blk t).view.emb (ix2 i k) = (ix2 (⟨t.val * 1024 + i.val, by omega⟩ : Fin 16384) k) := by
    funext a; apply Fin.ext; revert a
    blk_simp [idx0]
    intro a
    fin_cases a <;> simp
  blk_simp [iblk]
  rw [e, V_tokens]
  refine congrArg (argX m c) ?_
  congr 1 <;> apply Fin.ext <;> simp only [seqOf, tokOf] <;> omega

theorem blk_gain (c : Dev nD) (t : Fin cfg0.N) (k : Fin 1024) : iblk m c 1 t (ix2 (0 : Fin 1) k) = argG m c (ix2 (0 : Fin 1) k) := by
  have e : (win0_1.blk t).view.emb (ix2 (0 : Fin 1) k) = (ix2 (0 : Fin 1) k) := by
    funext a; apply Fin.ext; revert a
    blk_simp [idx1]
    intro a
    fin_cases a <;> simp
  blk_simp [iblk]
  rw [e, V_gain]

theorem blk_weights (c : Dev nD) (t : Fin cfg0.N) (k : Fin 1024) (j : Fin 1536) : iblk m c 2 t (ix2 k j) = laid (argW m c) (ix2 k j) := by
  have e : (win0_2.blk t).view.emb (ix2 k j) = (ix2 k j) := by
    funext a; apply Fin.ext; revert a
    blk_simp [idx2]
    intro a
    fin_cases a <;> simp
  blk_simp [iblk]
  rw [e, V_weights]

/-- An entry of the point's product. -/
theorem prod_apply (c : Dev nD) (t : Fin cfg0.N) (i : Fin 1024) (j : Fin 1536) :
    prod m c t (ix2 i j) = token (argX m c) (argG m c) (argW m c) (seqOf t.val (lt_N t)) (tokOf t.val (lt_N t) i) (groupCol 1 j) := by
  refine (pay11_apply _ _ i j).trans ?_
  unfold token column
  apply Finset.sum_congr rfl
  intro k _
  rw [pay10_apply, blk_weights, laid_apply]
  simp only [blk_tokens, blk_gain]

/-! ## The first result -/

theorem covers : (cfg0.win 3).Covers := (by decide +kernel : win0_3.Covers)

/-- What the first result is shown to hold. -/
abbrev G (c : Dev nD) : Buf (Elt Ideal) ((c : Thread nD τ).loc main_v37_0) :=
  fun i => spread (argX m c) (argG m c) (argW m c) 4 1024 (by norm_num) 1 (i 0) (i 1) (i 2) (i 3)

theorem final (c : Dev nD) : (dats m 0 c).arrAt 3 cfg0.N = G m c := by
  refine (dats m 0 c).arrAt_eq_of_covers 3 (G m c) covers fun t hf y => ?_
  have hl := lt_N t
  have hz : ∀ y : S1x4x256x1536.Idx, y = ix4 (0 : Fin 1) (y 1 : Fin 4) (y 2 : Fin 256) (y 3 : Fin 1536) := by
    intro y; idx_vars y
    rw [Subsingleton.elim y0 (0 : Fin 1)]
    rfl
  have e : ∀ (p : Fin 4) (i : Fin 256) (j : Fin 1536), (win0_3.blk t).view.emb (ix4 (0 : Fin 1) p i j)
      = ix4 (seqOf t.val hl) p (⟨t.val % 4 * 256 + i.val, by omega⟩ : Fin 1024) j := by
    intro p i j
    funext a; apply Fin.ext; revert a
    blk_simp [idx3]
    intro a
    fin_cases a <;> simp [seqOf]
  have hb : ∀ (p : Fin 4) (i : Fin 256) (j : Fin 1536), block (prod m c t) (ix4 (0 : Fin 1) p i j)
      = spread (argX m c) (argG m c) (argW m c) 4 1024 (by norm_num) 1 (seqOf t.val hl) p (⟨t.val % 4 * 256 + i.val, by omega⟩ : Fin 1024) j := by
    intro p i j
    refine (prod_apply m c t (⟨_, row_lt i p⟩ : Fin 1024) j).trans ?_
    unfold spread
    refine congrArg (fun s => token (argX m c) (argG m c) (argW m c) (seqOf t.val hl) s (groupCol 1 j)) (Fin.ext ?_)
    show t.val % 4 * 1024 + (i.val * 4 + p.val) = (t.val % 4 * 256 + i.val) * 4 + p.val
    omega
  blk_simp
  rw [after0_3, first_eq]
  rw [hz y]
  refine (hb (y 1) (y 2) (y 3)).trans ?_
  exact (congrArg (G m c) (e (y 1) (y 2) (y 3))).symm

/-! ## The second result: the last tokens' keys and values -/

theorem covers_kept : (cfg0.win 4).Covers := (by decide +kernel : win0_4.Covers)

/-- What the second result is shown to hold. -/
abbrev K (c : Dev nD) : Buf (Elt Ideal) ((c : Thread nD τ).loc main_v37_1) :=
  fun i => keptRows (argX m c) (argG m c) (argW m c) 512 (by norm_num) 1 (i 0) (i 1) (i 2) (i 3) (i 4)

theorem final_kept (c : Dev nD) : (dats m 0 c).arrAt 4 cfg0.N = K m c := by
  refine (dats m 0 c).arrAt_eq_of_covers 4 (K m c) covers_kept fun t hf y => ?_
  have hl := lt_N t
  have hq : t.val % 4 = 3 := (flush0_4 t).mp hf
  have hz : ∀ y : S1x512x2x4x128.Idx, y = ix5 (0 : Fin 1) (y 1 : Fin 512) (y 2 : Fin 2) (y 3 : Fin 4) (y 4 : Fin 128) := by
    intro y; idx_vars y
    rw [Subsingleton.elim y0 (0 : Fin 1)]
    rfl
  have e : ∀ (r : Fin 512) (s : Fin 2) (h : Fin 4) (e : Fin 128), (win0_4.blk t).view.emb (ix5 (0 : Fin 1) r s h e) = ix5 (seqOf t.val hl) r s h e := by
    intro r s h e
    funext a; apply Fin.ext; revert a
    blk_simp [idx4]
    intro a
    fin_cases a <;> simp [seqOf]
  have hb : ∀ (r : Fin 512) (s : Fin 2) (h : Fin 4) (e : Fin 128), keptBlock (prod m c t) (ix5 (0 : Fin 1) r s h e)
      = keptRows (argX m c) (argG m c) (argW m c) 512 (by norm_num) 1 (seqOf t.val hl) r s h e := by
    intro r s h e
    refine (prod_apply m c t (⟨512 + r.val, by omega⟩ : Fin 1024) (⟨_, kept_lt s h e⟩ : Fin 1536)).trans ?_
    unfold keptRows
    refine congrArg₂ (token (argX m c) (argG m c) (argW m c) (seqOf t.val hl)) (Fin.ext ?_) (Fin.ext ?_)
    · show t.val % 4 * 1024 + (512 + r.val) = 4096 - 512 + r.val
      omega
    · show 3088 + (512 + (s.val * 4 + h.val) * 128 + e.val) / 512 * 1536 + 1 * 512 + (512 + (s.val * 4 + h.val) * 128 + e.val) % 512
        = 4624 + s.val * 1536 + 1 * 512 + h.val * 128 + e.val
      omega
  blk_simp
  rw [after0_4, second_eq m c t hq]
  rw [hz y]
  refine (hb (y 1) (y 2) (y 3) (y 4)).trans ?_
  exact (congrArg (K m c) (e (y 1) (y 2) (y 3) (y 4))).symm

/-! ## The claims -/

/-- The kernel's run, its results named and its arguments unchanged. -/
theorem run : θ_run (defs (F := Ideal)) (onTc (τ := τ) (main (F := Ideal))) ⟨m, fun _ => 0, ρ⟩ (fun r => ∀ c : Dev nD,
      r.2.mem ((c.tc : Thread nD τ).loc main_v37_0) = G m c ∧ r.2.mem ((c.tc : Thread nD τ).loc main_v37_1) = K m c) :=
  (θ_run defs _ _).mono (fun _ h c => ⟨((h c).1 3).trans (final m c), ((h c).1 4).trans (final_kept m c)⟩) (run_main m ρ)

/-- The kernel's frame. -/
theorem frame : Cert.quiescent_Kernel6Ideal := fun m g _ => Cert.Kernel6Ideal.Gen.frame m g

/-- The reference's frame. -/
theorem frame_reference : Cert.quiescent_Reference6Ideal := fun m g _ =>
  (θ_run Cert.Reference6Ideal.defs _ _).mono (fun r h => ⟨fun c => (h c).2.2, Idealize.ShloMosaic.sem_eq_zero_of_no_sems (by decide) r.2⟩)
    (Cert.Reference6Ideal.Value.run (F := Ideal) m g)

/-- The kernel and the reference end with the same two arrays. -/
theorem algebraic : Cert.algebraic_Kernel6Ideal_Reference6Ideal := by
  intro m g m' g' hpre harg
  refine ⟨fun c => G m c, fun c => K m c, ?_, ?_⟩
  · exact (θ_run defs _ _).mono (fun r h c => ⟨(h.1 c).1, (h.1 c).2, h.2 c⟩) (θ_run_and (run m g) (unchanged m g))
  · refine (θ_run Cert.Reference6Ideal.defs _ _).mono (fun r h c => ⟨(h c).1.trans ?_, (h c).2.1.trans ?_, (h c).2.2⟩) (Cert.Reference6Ideal.Value.run (F := Ideal) m' g')
    · obtain ⟨e0, e1, e2⟩ := harg c
      rw [Cert.Proj.Ref6.rows_eq, e0, e1, e2]
      exact Cert.Proj.Ref6.rows_group _ _ _
    · obtain ⟨e0, e1, e2⟩ := harg c
      refine (show _ = Cert.Proj.Ref6.kept (Cert.Proj.Ref6.proj _ _ _) from rfl).trans ?_
      rw [e0, e1, e2]
      exact Cert.Proj.Ref6.kept_group _ _ _

end Cert.Kernel6Ideal.RefValue

end
-- ==== Proof.ProjRef7.lean ====
/- The reference's lines of the input projection (third group), entry by entry. -/
module

public import proofs.«01_k».proof.Proof.Gen.Reference7Ideal.Run
public import proofs.«01_k».proof.Proof.Proj

@[expose] public section

set_option maxRecDepth 16384

noncomputable section

namespace Cert.Proj.Ref7

open Cert.Reference7Ideal Cert.Reference7Ideal.Gen Cert.Proj Idealize.ShloMosaic Idealize.ShloMosaic.TcCoe Idealize.SL.Sem

variable {F : FTy → Type} [FloatOps F]

/-- The projection of every normalised token. -/
def proj (X : (⟨S4x4096x1024, .f32⟩ : BufTy).Contents (Elt F)) (G : (⟨S1x1024, .f32⟩ : BufTy).Contents (Elt F)) (W : (⟨S1x1024x9744, .f32⟩ : BufTy).Contents (Elt F)) : (⟨S4x4096x9744, .f32⟩ : BufTy).Contents (Elt F) :=
  Host.dotGeneral dot_S4x4096x1024_S1024x9744_S4x4096x9744_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ G shapeCasts_S1x1024_S1024)))) (shapeCast _ W shapeCasts_S1x1024x9744_S1024x9744)

section Lines

variable (P : (⟨S4x4096x9744, .f32⟩ : BufTy).Contents (Elt F))

/-- The group's queries, keys and values. -/
def qs : (⟨S4x4096x4x128, .f32⟩ : BufTy).Contents (Elt F) :=
  shapeCast _ (extractStridedSlice S4x4096x1x4x128 ![0, 0, 2, 0, 0] (shapeCast _ (extractStridedSlice S4x4096x1536 ![0, 0, 3088] P slices_S4x4096x9744_S4x4096x1536_0_0_3088) shapeCasts_S4x4096x1536_S4x4096x3x4x128) slices_S4x4096x3x4x128_S4x4096x1x4x128_0_0_2_0_0) shapeCasts_S4x4096x1x4x128_S4x4096x4x128
def ks : (⟨S4x4096x4x128, .f32⟩ : BufTy).Contents (Elt F) :=
  shapeCast _ (extractStridedSlice S4x4096x1x4x128 ![0, 0, 2, 0, 0] (shapeCast _ (extractStridedSlice S4x4096x1536 ![0, 0, 4624] P slices_S4x4096x9744_S4x4096x1536_0_0_4624) shapeCasts_S4x4096x1536_S4x4096x3x4x128) slices_S4x4096x3x4x128_S4x4096x1x4x128_0_0_2_0_0) shapeCasts_S4x4096x1x4x128_S4x4096x4x128
def vs : (⟨S4x4096x4x128, .f32⟩ : BufTy).Contents (Elt F) :=
  shapeCast _ (extractStridedSlice S4x4096x1x4x128 ![0, 0, 2, 0, 0] (shapeCast _ (extractStridedSlice S4x4096x1536 ![0, 0, 6160] P slices_S4x4096x9744_S4x4096x1536_0_0_6160) shapeCasts_S4x4096x1536_S4x4096x3x4x128) slices_S4x4096x3x4x128_S4x4096x1x4x128_0_0_2_0_0) shapeCasts_S4x4096x1x4x128_S4x4096x4x128

/-- The columns of a token's row, joined. -/
def joined : (⟨S4x4096x1536, .f32⟩ : BufTy).Contents (Elt F) :=
  (concatenate S4x4096x1536 2 [⟨S4x4096x512, ((shapeCast _ (qs P) shapeCasts_S4x4096x4x128_S4x4096x512) : (⟨S4x4096x512, .f32⟩ : BufTy).Contents (Elt F))⟩, ⟨S4x4096x512, ((shapeCast _ (ks P) shapeCasts_S4x4096x4x128_S4x4096x512) : (⟨S4x4096x512, .f32⟩ : BufTy).Contents (Elt F))⟩, ⟨S4x4096x512, ((shapeCast _ (vs P) shapeCasts_S4x4096x4x128_S4x4096x512) : (⟨S4x4096x512, .f32⟩ : BufTy).Contents (Elt F))⟩] concatenates_S4x4096x512_S4x4096x512_S4x4096x512_S4x4096x1536_d2 : (⟨S4x4096x1536, .f32⟩ : BufTy).Contents (Elt F))

/-- The rows laid out by the token's place in its dilation class. -/
def rows : (⟨S4x16x256x1536, .bf16⟩ : BufTy).Contents (Elt F) :=
  truncf .bf16 (transpose S4x16x256x1536 [0, 2, 1, 3] (shapeCast _ (joined P) shapeCasts_S4x4096x1536_S4x256x16x1536) transposes_S4x256x16x1536_S4x16x256x1536_0_2_1_3) bitsLt_bf16_f32

/-- The last tokens' key and value rows. -/
def kept : (⟨S4x2048x2x4x128, .f32⟩ : BufTy).Contents (Elt F) :=
  extractStridedSlice S4x2048x2x4x128 ![0, 2048, 0, 0, 0] (concatenate S4x4096x2x4x128 2 [⟨S4x4096x1x4x128, (broadcastInDim S4x4096x1x4x128 ![0, 1, 3, 4] bcast_S4x4096x4x128_S4x4096x1x4x128_0_1_3_4 (ks P))⟩, ⟨S4x4096x1x4x128, (broadcastInDim S4x4096x1x4x128 ![0, 1, 3, 4] bcast_S4x4096x4x128_S4x4096x1x4x128_0_1_3_4 (vs P))⟩] concatenates_S4x4096x1x4x128_S4x4096x1x4x128_S4x4096x2x4x128_d2) slices_S4x4096x2x4x128_S4x2048x2x4x128_0_2048_0_0_0

omit [FloatOps F] in
theorem head_apply (off : ℕ) (ho : off + 1536 ≤ 9744) (wf) (b : Fin 4) (t : Fin 4096) (h : Fin 4) (e : Fin 128) :
    shapeCast S4x4096x4x128 (extractStridedSlice S4x4096x1x4x128 ![0, 0, 2, 0, 0] (shapeCast S4x4096x3x4x128 (extractStridedSlice S4x4096x1536 ![0, 0, off] P wf) shapeCasts_S4x4096x1536_S4x4096x3x4x128) slices_S4x4096x3x4x128_S4x4096x1x4x128_0_0_2_0_0) shapeCasts_S4x4096x1x4x128_S4x4096x4x128 (ix4 b t h e)
      = P (ix3 b t ⟨off + (1024 + h.val * 128 + e.val), by omega⟩) := by
  pointwise

omit [FloatOps F] in
theorem heads_apply (x y : (⟨S4x4096x4x128, .f32⟩ : BufTy).Contents (Elt F)) (b : Fin 4) (r : Fin 4096) (s : Fin 2) (h : Fin 4) (e : Fin 128) :
    concatenate S4x4096x2x4x128 2 [⟨S4x4096x1x4x128, (broadcastInDim S4x4096x1x4x128 ![0, 1, 3, 4] bcast_S4x4096x4x128_S4x4096x1x4x128_0_1_3_4 x)⟩, ⟨S4x4096x1x4x128, (broadcastInDim S4x4096x1x4x128 ![0, 1, 3, 4] bcast_S4x4096x4x128_S4x4096x1x4x128_0_1_3_4 y)⟩] concatenates_S4x4096x1x4x128_S4x4096x1x4x128_S4x4096x2x4x128_d2 (ix5 b r s h e)
      = if s.val < 1 then x (ix4 b r h e) else y (ix4 b r h e) := by
  pointwise
  rfl

omit [FloatOps F] in
theorem last_apply (x : (⟨S4x4096x2x4x128, .f32⟩ : BufTy).Contents (Elt F)) (b : Fin 4) (r : Fin 2048) (s : Fin 2) (h : Fin 4) (e : Fin 128) :
    extractStridedSlice S4x2048x2x4x128 ![0, 2048, 0, 0, 0] x slices_S4x4096x2x4x128_S4x2048x2x4x128_0_2048_0_0_0 (ix5 b r s h e) = x (ix5 b ⟨2048 + r.val, by omega⟩ s h e) := by
  pointwise

omit [FloatOps F] in
theorem kept_apply (b : Fin 4) (r : Fin 2048) (s : Fin 2) (h : Fin 4) (e : Fin 128) :
    kept P (ix5 b r s h e) = P (ix3 b (⟨2048 + r.val, by omega⟩ : Fin 4096) (kvCol 2 s h e)) := by
  unfold kept ks vs
  rw [last_apply, heads_apply, head_apply P 4624 (by norm_num), head_apply P 6160 (by norm_num)]
  have hs : s.val = 0 ∨ s.val = 1 := by omega
  rcases hs with hs | hs
  · rw [if_pos (by omega)]
    refine congrArg P (congrArg (ix3 b _) (Fin.ext ?_))
    show 4624 + (1024 + _ + _) = 4624 + _ * 1536 + 2 * 512 + _ + _
    omega
  · rw [if_neg (by omega)]
    refine congrArg P (congrArg (ix3 b _) (Fin.ext ?_))
    show 6160 + (1024 + _ + _) = 4624 + _ * 1536 + 2 * 512 + _ + _
    omega

omit [FloatOps F] in
theorem flat_apply (x : (⟨S4x4096x4x128, .f32⟩ : BufTy).Contents (Elt F)) (b : Fin 4) (t : Fin 4096) (j : Fin 512) :
    shapeCast S4x4096x512 x shapeCasts_S4x4096x4x128_S4x4096x512 (ix3 b t j) = x (ix4 b t ⟨j.val / 128, by omega⟩ ⟨j.val % 128, by omega⟩) := by
  pointwise

omit [FloatOps F] in
theorem three_apply (x y z : (⟨S4x4096x512, .f32⟩ : BufTy).Contents (Elt F)) (b : Fin 4) (t : Fin 4096) (j : Fin 1536) :
    concatenate S4x4096x1536 2 [⟨S4x4096x512, x⟩, ⟨S4x4096x512, y⟩, ⟨S4x4096x512, z⟩] concatenates_S4x4096x512_S4x4096x512_S4x4096x512_S4x4096x1536_d2 (ix3 b t j)
      = if j.val < 512 then x (ix3 b t ⟨j.val % 512, by omega⟩) else if j.val < 1024 then y (ix3 b t ⟨j.val % 512, by omega⟩) else z (ix3 b t ⟨j.val % 512, by omega⟩) := by
  pointwise
  have e : ∀ (u : (⟨S4x4096x512, .f32⟩ : BufTy).Contents (Elt F)) (a a' : Fin 512), a.val = a'.val → u (ix3 b t a) = u (ix3 b t a') := fun u a a' h => by rw [Fin.ext h]
  by_cases h0 : j.val < 512
  · rw [if_pos h0]
    refine (dif_pos h0).trans (e _ _ _ ?_)
    show j.val = j.val % 512
    omega
  · rw [if_neg h0]
    refine (dif_neg h0).trans ?_
    by_cases h1 : j.val < 1024
    · rw [if_pos h1]
      refine (dif_pos (by omega)).trans (e _ _ _ ?_)
      show j.val - 512 = j.val % 512
      omega
    · rw [if_neg h1]
      refine (dif_neg (by omega)).trans (e _ _ _ ?_)
      show j.val - 512 - 512 = j.val % 512
      omega

omit [FloatOps F] in
theorem joined_apply (b : Fin 4) (t : Fin 4096) (j : Fin 1536) :
    joined P (ix3 b t j) = P (ix3 b t (groupCol 2 j)) := by
  unfold joined
  rw [three_apply, flat_apply, flat_apply, flat_apply]
  unfold qs ks vs
  rw [head_apply P 3088 (by norm_num), head_apply P 4624 (by norm_num), head_apply P 6160 (by norm_num)]
  have e : ∀ a a' : Fin 9744, a.val = a'.val → P (ix3 b t a) = P (ix3 b t a') := fun a a' h => by rw [Fin.ext h]
  split_ifs with h0 h1
  · refine e _ _ ?_
    show 3088 + (1024 + j.val % 512 / 128 * 128 + j.val % 512 % 128) = 3088 + j.val / 512 * 1536 + 2 * 512 + j.val % 512
    omega
  · refine e _ _ ?_
    show 4624 + (1024 + j.val % 512 / 128 * 128 + j.val % 512 % 128) = 3088 + j.val / 512 * 1536 + 2 * 512 + j.val % 512
    omega
  · refine e _ _ ?_
    show 6160 + (1024 + j.val % 512 / 128 * 128 + j.val % 512 % 128) = 3088 + j.val / 512 * 1536 + 2 * 512 + j.val % 512
    omega

theorem laid_apply (x : (⟨S4x4096x1536, .f32⟩ : BufTy).Contents (Elt Ideal)) (b : Fin 4) (p : Fin 16) (u : Fin 256) (j : Fin 1536) :
    (truncf (F := Ideal) .bf16 (transpose S4x16x256x1536 [0, 2, 1, 3] (shapeCast _ x shapeCasts_S4x4096x1536_S4x256x16x1536) transposes_S4x256x16x1536_S4x16x256x1536_0_2_1_3) bitsLt_bf16_f32 : (⟨S4x16x256x1536, .bf16⟩ : BufTy).Contents (Elt Ideal)) (ix4 b p u j)
      = x (ix3 b (⟨u.val * 16 + p.val, by omega⟩ : Fin 4096) j) := by
  pointwise

end Lines

theorem rows_eq (m : (ℓ : Loc nD τ sig) → Buf (Elt F) ℓ) (c : Dev nD) : Cert.Reference7Ideal.Value.res_main_v44 m c
    = rows (proj (m ((c : Thread nD τ).loc main_arg0)) (m ((c : Thread nD τ).loc main_arg1)) (m ((c : Thread nD τ).loc main_arg2))) := rfl

section Real

variable (X : (⟨S4x4096x1024, .f32⟩ : BufTy).Contents (Elt Ideal)) (G : (⟨S1x1024, .f32⟩ : BufTy).Contents (Elt Ideal)) (W : (⟨S1x1024x9744, .f32⟩ : BufTy).Contents (Elt Ideal))

theorem proj_apply (b : Fin 4) (t : Fin 4096) (c : Fin 9744) : proj X G W (ix3 b t c) = token X G W b t c := by
  pointwise [proj, token, column, normed]

/-- What the reference's two results hold. -/
theorem rows_group : rows (proj X G W) = fun i : S4x16x256x1536.Idx => spread X G W 16 256 (by norm_num) 2 (i 0) (i 1) (i 2) (i 3) := by
  funext i
  idx_vars i
  unfold rows
  rw [laid_apply, joined_apply, proj_apply]
  rfl

theorem kept_group : kept (proj X G W) = fun i : S4x2048x2x4x128.Idx => keptRows X G W 2048 (by norm_num) 2 (i 0) (i 1) (i 2) (i 3) (i 4) := by
  funext i
  idx_vars i
  rw [kept_apply, proj_apply]
  rfl

end Real

end Cert.Proj.Ref7

end
-- ==== Proof.Proj7.lean ====
/- The input projection of the third attention group over the reals: what the kernel's body leaves. -/
module

public import proofs.«01_k».proof.Defs
public import proofs.«01_k».proof.Proof.Gen.Kernel7Ideal.Frame
public import proofs.«01_k».proof.Proof.ProjRef7
public import Idealize.ShloMosaic.Lib.Pipeline.ValueKit

@[expose] public section

set_option maxRecDepth 16384

noncomputable section

namespace Cert.Kernel7Ideal.RefValue

open Cert.Kernel7Ideal Cert.Kernel7Ideal.Gen Cert.Proj Idealize.ShloMosaic Idealize.ShloMosaic.TcCoe Idealize.SL.Sem
open Idealize.ShloMosaic.Pipeline (Dat)

variable (m : (ℓ : Loc nD τ sig) → Buf (Elt Ideal) ℓ)

/-! ## The body's values -/

theorem pay9_apply (x : Vec Ideal S1024x1024 .f32) (g : Vec Ideal S1x1024 .f32) (i k : Fin 1024) :
    k0_pay9 x g (ix2 i k) = normed (fun k => x (ix2 i k)) (fun k => g (ix2 (0 : Fin 1) k)) k := by
  pointwise [k0_pay9, normed]

theorem pay10_apply (x : Vec Ideal S1024x1024 .bf16) (w : Vec Ideal S1024x1536 .bf16) (i : Fin 1024) (j : Fin 1536) :
    k0_pay10 x w (ix2 i j) = ∑ k, x (ix2 i k) * w (ix2 k j) := by
  pointwise [k0_pay10]

/-! ## The pieces -/

/-- Columns of a product, as they are put into the scratch. -/
theorem plane_apply (A : FVec Ideal S1024x1536 .f32) (o : ℕ) (r : Fin 1024) (e : Fin 128) (ho : o + 128 ≤ 1536) (hs : S1024x1536.Slices ![0, o] S1024x128) :
    shapeCast S1x1024x128 (extractStridedSlice S1024x128 ![0, o] A hs) shapeCasts_S1024x128_S1x1024x128 (ix3 (0 : Fin 1) r e)
      = A (ix2 r (⟨o + e.val, by omega⟩ : Fin 1536)) := by
  pointwise

/-- Rows read out of the scratch, as they are put into the result's block. -/
theorem lift_apply (v : FVec Ideal S1x64x128 .f32) (i : Fin 64) (e : Fin 128) :
    shapeCast S1x1x64x128 (truncf (F := Ideal) .bf16 (shapeCast S64x128 v shapeCasts_S1x64x128_S64x128) bitsLt_bf16_f32) shapeCasts_S64x128_S1x1x64x128 (ix4 (0 : Fin 1) (0 : Fin 1) i e)
      = v (ix3 (0 : Fin 1) i e) := by
  pointwise

/-- Every sixteenth row of the plane last put into the scratch. -/
theorem strided_apply (v : View sig .tc .vmem S12x1024x128 .f32) (q p : ℕ) (w : S1x1024x128.Idx → Elt Ideal .f32) (L : List (View.Piece (Elt Ideal) S12x1024x128 .f32))
    (i : Fin 64) (e : Fin 128) (hp : p < 16)
    (inb : ∀ a, (![q, 0, 0] : Fin 3 → ℕ) a + S1x1024x128.size a ≤ S12x1024x128.size a)
    (inb' : ∀ a, S1x64x128.size a = 0 ∨ (![q, p, 0] : Fin 3 → ℕ) a + (![1, 16, 1] : Fin 3 → ℕ) a * (S1x64x128.size a - 1) < S12x1024x128.size a) :
    v.readCov (⟨Rect.unit ![q, 0, 0] S1x1024x128.size inb, w⟩ :: L) ⟨![q, p, 0], S1x64x128.size, ![1, 16, 1], inb'⟩ (ix3 (0 : Fin 1) i e)
      = w (ix3 (0 : Fin 1) (⟨i.val * 16 + p, by omega⟩ : Fin 1024) e) := by
  rw [View.readCov_eq_canon']
  refine Eq.trans ?_ (View.canon_cons_emb (Rect.unit (s := S12x1024x128) ![q, 0, 0] S1x1024x128.size inb) w L (ix3 (0 : Fin 1) (⟨i.val * 16 + p, by omega⟩ : Fin 1024) e))
  refine congrArg (View.canon _) ?_
  funext a
  apply Fin.ext
  fin_cases a
  · show q + 1 * 0 = q + 1 * 0; rfl
  · show p + 16 * i.val = 0 + 1 * (i.val * 16 + p); omega
  · show 0 + 1 * e.val = 0 + 1 * e.val; rfl

/-- One piece of the first result's block is what the product holds. -/
theorem piece (v : View sig .tc .vmem S12x1024x128 .f32) (A : FVec Ideal S1024x1536 .f32) (q p o : ℕ) (L : List (View.Piece (Elt Ideal) S12x1024x128 .f32))
    (x : S1x1x64x128.Idx) (r : Fin 1024) (j : Fin 1536) (hr : r.val = (x 2 : ℕ) * 16 + p) (hj : j.val = o + (x 3 : ℕ)) (hp : p < 16) (ho : o + 128 ≤ 1536)
    (hs : S1024x1536.Slices ![0, o] S1024x128)
    (inb : ∀ a, (![q, 0, 0] : Fin 3 → ℕ) a + S1x1024x128.size a ≤ S12x1024x128.size a)
    (inb' : ∀ a, S1x64x128.size a = 0 ∨ (![q, p, 0] : Fin 3 → ℕ) a + (![1, 16, 1] : Fin 3 → ℕ) a * (S1x64x128.size a - 1) < S12x1024x128.size a) :
    shapeCast S1x1x64x128 (truncf (F := Ideal) .bf16 (shapeCast S64x128 (v.readCov (⟨Rect.unit ![q, 0, 0] S1x1024x128.size inb,
        shapeCast S1x1024x128 (extractStridedSlice S1024x128 ![0, o] A hs) shapeCasts_S1024x128_S1x1024x128⟩ :: L) ⟨![q, p, 0], S1x64x128.size, ![1, 16, 1], inb'⟩)
        shapeCasts_S1x64x128_S64x128) bitsLt_bf16_f32) shapeCasts_S64x128_S1x1x64x128 x = A (ix2 r j) := by
  have hx : x = ix4 (0 : Fin 1) (0 : Fin 1) (x 2 : Fin 64) (x 3 : Fin 128) := by
    idx_vars x
    rw [Subsingleton.elim x0 (0 : Fin 1), Subsingleton.elim x1 (0 : Fin 1)]
    rfl
  rw [hx]
  refine (lift_apply _ (x 2) (x 3)).trans ((strided_apply v q p _ L (x 2) (x 3) hp inb inb').trans ((plane_apply A o _ (x 3) ho hs).trans ?_))
  exact congrArg A (congrArg₂ ix2 (Fin.ext hr.symm) (Fin.ext hj.symm))

/-- One piece of the second result's block. -/
theorem last_apply (A : FVec Ideal S1024x1536 .f32) (o : ℕ) (x : S1x1024x1x1x128.Idx) (r : Fin 1024) (j : Fin 1536) (hr : r.val = (x 1 : ℕ)) (hj : j.val = o + (x 4 : ℕ))
    (ho : o + 128 ≤ 1536) (hs : S1024x1536.Slices ![0, o] S1024x128) :
    shapeCast S1x1024x1x1x128 (extractStridedSlice S1024x128 ![0, o] A hs) shapeCasts_S1024x128_S1x1024x1x1x128 x = A (ix2 r j) := by
  have e : ∀ (i : Fin 1024) (e : Fin 128), shapeCast S1x1024x1x1x128 (extractStridedSlice S1024x128 ![0, o] A hs) shapeCasts_S1024x128_S1x1024x1x1x128 (ix5 (0 : Fin 1) i (0 : Fin 1) (0 : Fin 1) e)
      = A (ix2 (⟨i.val, by omega⟩ : Fin 1024) (⟨o + e.val, by omega⟩ : Fin 1536)) := by
    intro i e
    pointwise
  have hx : x = ix5 (0 : Fin 1) (x 1 : Fin 1024) (0 : Fin 1) (0 : Fin 1) (x 4 : Fin 128) := by
    idx_vars x
    rw [Subsingleton.elim x0 (0 : Fin 1), Subsingleton.elim x2 (0 : Fin 1), Subsingleton.elim x3 (0 : Fin 1)]
    rfl
  rw [hx]
  refine (e (x 1) (x 4)).trans ?_
  exact congrArg A (congrArg₂ ix2 (Fin.ext hr.symm) (Fin.ext hj.symm))

end Cert.Kernel7Ideal.RefValue

end
-- ==== Proof.Proj7Out.lean ====
/- The input projection of the third attention group over the reals: what the kernel's body leaves in the two blocks. -/
module

public import proofs.«01_k».proof.Proof.Proj7

@[expose] public section

set_option maxRecDepth 16384

noncomputable section

namespace Cert.Kernel7Ideal.RefValue

open Cert.Kernel7Ideal Cert.Kernel7Ideal.Gen Cert.Proj Idealize.ShloMosaic Idealize.ShloMosaic.TcCoe Idealize.SL.Sem

variable (m : (ℓ : Loc nD τ sig) → Buf (Elt Ideal) ℓ)

/-- The point's product: its rows, normalised, times the weights. -/
abbrev prod (c : Dev nD) (t : Fin cfg0.N) : FVec Ideal S1024x1536 .f32 := k0_pay10 (k0_pay9 (iblk m c 0 t) (iblk m c 1 t)) (iblk m c 2 t)

theorem row_lt (a : Fin 64) (b : Fin 16) : a.val * 16 + b.val < 1024 := by omega

/-- The first result's block: every sixteenth row of the product, place by place. -/
def block (A : FVec Ideal S1024x1536 .f32) : FVec Ideal S1x16x64x1536 .bf16 := fun y => A (ix2 (⟨_, row_lt (y 2) (y 1)⟩ : Fin 1024) (y 3 : Fin 1536))

set_option maxHeartbeats 1000000 in
theorem first_A (c : Dev nD) (t : Fin cfg0.N) (h : ¬ (t.val % 4 = 2 ∨ t.val % 4 = 3)) : (outsAt0 m c t.val t.isLt).1 = block (prod m c t) := by
  rw [outsAt0_A m c t h]
  frame_out
  funext y
  canon_tiles x h
  all_goals (refine piece _ (prod m c t) _ _ _ _ _ _ _ ?_ ?_ ?_ ?_ ?_ ?_ ?_)
  all_goals first | (show (y 2 : ℕ) * 16 + (y 1 : ℕ) = _; omega) | omega | exact (by decide)

set_option maxHeartbeats 1000000 in
theorem first_B (c : Dev nD) (t : Fin cfg0.N) (h : t.val % 4 = 2 ∨ t.val % 4 = 3) : (outsAt0 m c t.val t.isLt).1 = block (prod m c t) := by
  rw [outsAt0_B m c t h]
  frame_out
  funext y
  canon_tiles x h
  all_goals (refine piece _ (prod m c t) _ _ _ _ _ _ _ ?_ ?_ ?_ ?_ ?_ ?_ ?_)
  all_goals first | (show (y 2 : ℕ) * 16 + (y 1 : ℕ) = _; omega) | omega | exact (by decide)

/-- What the body leaves in the first result's block. -/
theorem first_eq (c : Dev nD) (t : Fin cfg0.N) : (outsAt0 m c t.val t.isLt).1 = block (prod m c t) := by
  by_cases h : t.val % 4 = 2 ∨ t.val % 4 = 3
  · exact first_B m c t h
  · exact first_A m c t h

theorem kept_lt (s : Fin 2) (h : Fin 4) (e : Fin 128) : 512 + (s.val * 4 + h.val) * 128 + e.val < 1536 := by omega

/-- The second result's block: the rows' keys and values. -/
def keptBlock (A : FVec Ideal S1024x1536 .f32) : FVec Ideal S1x1024x2x4x128 .f32 := fun y =>
  A (ix2 (⟨(y 1 : Fin 1024).val, (y 1 : Fin 1024).isLt⟩ : Fin 1024) (⟨_, kept_lt (y 2) (y 3) (y 4)⟩ : Fin 1536))

/-- What the body leaves in the second result's block, at a sequence's last two points. -/
theorem second_eq (c : Dev nD) (t : Fin cfg0.N) (h : t.val % 4 = 2 ∨ t.val % 4 = 3) : (outsAt0 m c t.val t.isLt).2 = keptBlock (prod m c t) := by
  rw [outsAt0_B m c t h]
  frame_out
  funext y
  canon_tiles x h
  all_goals (refine last_apply (prod m c t) _ _ _ _ ?_ ?_ ?_ ?_)
  all_goals first | (show (y 1 : ℕ) = _; exact h1) | (show 512 + ((y 2 : ℕ) * 4 + (y 3 : ℕ)) * 128 + (y 4 : ℕ) = _; omega) | omega | exact (by decide)

end Cert.Kernel7Ideal.RefValue

end
-- ==== Proof.Proj7Final.lean ====
/- The input projection of the third attention group over the reals: what the kernel's two results hold after the run, and the claims. -/
module

public import proofs.«01_k».proof.Proof.Proj7Out
public import proofs.«01_k».proof.Proof.ProjRef7
public import proofs.«01_k».proof.Proof.Gen.Kernel7Ideal.Value
public import proofs.«01_k».proof.Defs
public import Idealize.ShloMosaic.Lib.Claim
public import Idealize.ShloMosaic.Lib.Quiescent

@[expose] public section

set_option maxRecDepth 16384

noncomputable section

namespace Cert.Kernel7Ideal.RefValue

open Cert.Kernel7Ideal Cert.Kernel7Ideal.Gen Cert.Proj Idealize.ShloMosaic Idealize.ShloMosaic.TcCoe Idealize.SL.Sem
open Idealize.ShloMosaic.Pipeline (Dat)

/-! ## The weights' columns of the group -/

section Weights

theorem three_apply (x y z : (⟨S1024x512, .bf16⟩ : BufTy).Contents (Elt Ideal)) (k : Fin 1024) (j : Fin 1536) (f : Fin 1536 → EReal)
    (hx : ∀ i : Fin 512, x (ix2 k i) = f ⟨i.val, by omega⟩) (hy : ∀ i : Fin 512, y (ix2 k i) = f ⟨512 + i.val, by omega⟩)
    (hz : ∀ i : Fin 512, z (ix2 k i) = f ⟨1024 + i.val, by omega⟩) :
    concatenate S1024x1536 1 [⟨S1024x512, x⟩, ⟨S1024x512, y⟩, ⟨S1024x512, z⟩] concatenates_S1024x512_S1024x512_S1024x512_S1024x1536_d1 (ix2 k j) = f j := by
  pointwise
  by_cases c0 : j.val < 512
  · refine (dif_pos (by omega)).trans ((hx _).trans (congrArg f (Fin.ext ?_)))
    simp only []
  refine (dif_neg (by omega)).trans ?_
  by_cases c1 : j.val < 1024
  · refine (dif_pos (by omega)).trans ((hy _).trans (congrArg f (Fin.ext ?_)))
    simp only []
    omega
  refine (dif_neg (by omega)).trans ?_
  refine (hz _).trans (congrArg f (Fin.ext ?_))
  simp only []
  omega

/-- The weights as the host code lays them out for the group's product. -/
def laid (W : (⟨S1x1024x9744, .f32⟩ : BufTy).Contents (Elt Ideal)) : (⟨S1024x1536, .bf16⟩ : BufTy).Contents (Elt Ideal) :=
  (concatenate S1024x1536 1 [⟨S1024x512, ((extractStridedSlice S1024x512 ![0, 1024] (truncf (F := Ideal) .bf16 (extractStridedSlice S1024x1536 ![0, 3088] (shapeCast _ W shapeCasts_S1x1024x9744_S1024x9744) slices_S1024x9744_S1024x1536_0_3088) bitsLt_bf16_f32) slices_S1024x1536_S1024x512_0_1024) : (⟨S1024x512, .bf16⟩ : BufTy).Contents (Elt Ideal))⟩, ⟨S1024x512, ((extractStridedSlice S1024x512 ![0, 1024] (truncf (F := Ideal) .bf16 (extractStridedSlice S1024x1536 ![0, 4624] (shapeCast _ W shapeCasts_S1x1024x9744_S1024x9744) slices_S1024x9744_S1024x1536_0_4624) bitsLt_bf16_f32) slices_S1024x1536_S1024x512_0_1024) : (⟨S1024x512, .bf16⟩ : BufTy).Contents (Elt Ideal))⟩, ⟨S1024x512, ((extractStridedSlice S1024x512 ![0, 1024] (truncf (F := Ideal) .bf16 (extractStridedSlice S1024x1536 ![0, 6160] (shapeCast _ W shapeCasts_S1x1024x9744_S1024x9744) slices_S1024x9744_S1024x1536_0_6160) bitsLt_bf16_f32) slices_S1024x1536_S1024x512_0_1024) : (⟨S1024x512, .bf16⟩ : BufTy).Contents (Elt Ideal))⟩] concatenates_S1024x512_S1024x512_S1024x512_S1024x1536_d1 : (⟨S1024x1536, .bf16⟩ : BufTy).Contents (Elt Ideal))

theorem cut_apply (W : (⟨S1x1024x9744, .f32⟩ : BufTy).Contents (Elt Ideal)) (off : ℕ) (hw : off + 1536 ≤ 9744) (wf) (k : Fin 1024) (i : Fin 512) :
    (extractStridedSlice S1024x512 ![0, 1024] (truncf (F := Ideal) .bf16 (extractStridedSlice S1024x1536 ![0, off] (shapeCast S1024x9744 W shapeCasts_S1x1024x9744_S1024x9744) wf) bitsLt_bf16_f32) slices_S1024x1536_S1024x512_0_1024) (ix2 k i)
      = W (ix3 (0 : Fin 1) k ⟨off + (1024 + i.val), by omega⟩) := by
  pointwise

/-- Entry `j` of row `k` of the laid-out weights. -/
theorem laid_apply (W : (⟨S1x1024x9744, .f32⟩ : BufTy).Contents (Elt Ideal)) (k : Fin 1024) (j : Fin 1536) :
    laid W (ix2 k j) = W (ix3 (0 : Fin 1) k (groupCol 2 j)) := by
  unfold laid
  have e : ∀ (a : Fin 9744) (b : Fin 1536), a.val = 3088 + b.val / 512 * 1536 + 1024 + b.val % 512 → W (ix3 (0 : Fin 1) k a) = W (ix3 (0 : Fin 1) k (groupCol 2 b)) := by
    intro a b h
    refine congrArg W (congrArg (ix3 (0 : Fin 1) k) (Fin.ext ?_))
    rw [h]; rfl
  refine three_apply _ _ _ k j (fun j : Fin 1536 => W (ix3 (0 : Fin 1) k (groupCol 2 j))) ?_ ?_ ?_ <;> intro i
  · exact (cut_apply W 3088 (by norm_num) _ k i).trans (e _ _ (by simp only []; omega))
  · exact (cut_apply W 4624 (by norm_num) _ k i).trans (e _ _ (by simp only []; omega))
  · exact (cut_apply W 6160 (by norm_num) _ k i).trans (e _ _ (by simp only []; omega))

end Weights

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 4, 0, t.val % 4, 0] := (by decide +kernel : ∀ t : Fin grid0.N, _)
theorem idx4 : ∀ t : Fin cfg0.N, win0_4.index t = ![t.val / 4, t.val % 4 - 2, 0, 0, 0] := (by decide +kernel : ∀ t : Fin grid0.N, _)

/-- The three arguments. -/
abbrev argX (c : Dev nD) : SX.Idx → EReal := m ((c : Thread nD τ).loc main_arg0)
abbrev argG (c : Dev nD) : SG.Idx → EReal := m ((c : Thread nD τ).loc main_arg1)
abbrev argW (c : Dev nD) : SW.Idx → EReal := m ((c : Thread nD τ).loc main_arg2)

theorem lt_N (t : Fin cfg0.N) : t.val < 16 := lt_of_lt_of_eq t.isLt N_0

/-! ## The arrays the region is handed -/

theorem tokens_apply (X : (⟨S4x4096x1024, .f32⟩ : BufTy).Contents (Elt Ideal)) (i : Fin 16384) (k : Fin 1024) :
    shapeCast S16384x1024 X shapeCasts_S4x4096x1024_S16384x1024 (ix2 i k) = X (ix3 (⟨i.val / 4096, by omega⟩ : Fin 4) (⟨i.val % 4096, by omega⟩ : Fin 4096) k) := by
  pointwise

theorem V_tokens (c : Dev nD) (i : Fin 16384) (k : Fin 1024) : V m c main_v36 (ix2 i k)
    = m ((c : Thread nD τ).loc main_arg0) (ix3 (⟨i.val / 4096, by omega⟩ : Fin 4) (⟨i.val % 4096, by omega⟩ : Fin 4096) k) := by
  have e : V m c main_v36 = shapeCast S16384x1024 (m ((c : Thread nD τ).loc main_arg0)) shapeCasts_S4x4096x1024_S16384x1024 := by
    rfl
  rw [e]
  exact tokens_apply _ i k

theorem V_gain (c : Dev nD) (k : Fin 1024) : V m c main_v35 (ix2 (0 : Fin 1) k) = m ((c : Thread nD τ).loc main_arg1) (ix2 (0 : Fin 1) k) := by
  have e : V m c main_v35 = broadcastInDim S1x1024 ![1] bcast_S1024_S1x1024_1 (shapeCast S1024 (m ((c : Thread nD τ).loc main_arg1)) shapeCasts_S1x1024_S1024) := by
    unfold V; after_results <;> rfl
  rw [e]
  pointwise

theorem V_weights (c : Dev nD) : V m c main_v33 = laid (m ((c : Thread nD τ).loc main_arg2)) := by
  unfold V laid
  after_results <;> rfl

/-- Row `i` of the point's block of tokens, as a token of a sequence. -/
def seqOf (n : ℕ) (hn : n < 16) : Fin 4 := ⟨n / 4, by omega⟩
def tokOf (n : ℕ) (hn : n < 16) (i : Fin 1024) : Fin 4096 := ⟨n % 4 * 1024 + i.val, by omega⟩

theorem blk_tokens (c : Dev nD) (t : Fin cfg0.N) (i k : Fin 1024) :
    iblk m c 0 t (ix2 i k) = argX m c (ix3 (seqOf t.val (lt_N t)) (tokOf t.val (lt_N t) i) k) := by
  have hl := lt_N t
  have e : (win0_0.blk t).view.emb (ix2 i k) = (ix2 (⟨t.val * 1024 + i.val, by omega⟩ : Fin 16384) k) := by
    funext a; apply Fin.ext; revert a
    blk_simp [idx0]
    intro a
    fin_cases a <;> simp
  blk_simp [iblk]
  rw [e, V_tokens]
  refine congrArg (argX m c) ?_
  congr 1 <;> apply Fin.ext <;> simp only [seqOf, tokOf] <;> omega

theorem blk_gain (c : Dev nD) (t : Fin cfg0.N) (k : Fin 1024) : iblk m c 1 t (ix2 (0 : Fin 1) k) = argG m c (ix2 (0 : Fin 1) k) := by
  have e : (win0_1.blk t).view.emb (ix2 (0 : Fin 1) k) = (ix2 (0 : Fin 1) k) := by
    funext a; apply Fin.ext; revert a
    blk_simp [idx1]
    intro a
    fin_cases a <;> simp
  blk_simp [iblk]
  rw [e, V_gain]

theorem blk_weights (c : Dev nD) (t : Fin cfg0.N) (k : Fin 1024) (j : Fin 1536) : iblk m c 2 t (ix2 k j) = laid (argW m c) (ix2 k j) := by
  have e : (win0_2.blk t).view.emb (ix2 k j) = (ix2 k j) := by
    funext a; apply Fin.ext; revert a
    blk_simp [idx2]
    intro a
    fin_cases a <;> simp
  blk_simp [iblk]
  rw [e, V_weights]

/-- An entry of the point's product. -/
theorem prod_apply (c : Dev nD) (t : Fin cfg0.N) (i : Fin 1024) (j : Fin 1536) :
    prod m c t (ix2 i j) = token (argX m c) (argG m c) (argW m c) (seqOf t.val (lt_N t)) (tokOf t.val (lt_N t) i) (groupCol 2 j) := by
  refine (pay10_apply _ _ i j).trans ?_
  unfold token column
  apply Finset.sum_congr rfl
  intro k _
  rw [pay9_apply, blk_weights, laid_apply]
  simp only [blk_tokens, blk_gain]

/-! ## The first result -/

theorem covers : (cfg0.win 3).Covers := (by decide +kernel : win0_3.Covers)

/-- What the first result is shown to hold. -/
abbrev G (c : Dev nD) : Buf (Elt Ideal) ((c : Thread nD τ).loc main_v37_0) :=
  fun i => spread (argX m c) (argG m c) (argW m c) 16 256 (by norm_num) 2 (i 0) (i 1) (i 2) (i 3)

theorem final (c : Dev nD) : (dats m 0 c).arrAt 3 cfg0.N = G m c := by
  refine (dats m 0 c).arrAt_eq_of_covers 3 (G m c) covers fun t hf y => ?_
  have hl := lt_N t
  have hz : ∀ y : S1x16x64x1536.Idx, y = ix4 (0 : Fin 1) (y 1 : Fin 16) (y 2 : Fin 64) (y 3 : Fin 1536) := by
    intro y; idx_vars y
    rw [Subsingleton.elim y0 (0 : Fin 1)]
    rfl
  have e : ∀ (p : Fin 16) (i : Fin 64) (j : Fin 1536), (win0_3.blk t).view.emb (ix4 (0 : Fin 1) p i j)
      = ix4 (seqOf t.val hl) p (⟨t.val % 4 * 64 + i.val, by omega⟩ : Fin 256) j := by
    intro p i j
    funext a; apply Fin.ext; revert a
    blk_simp [idx3]
    intro a
    fin_cases a <;> simp [seqOf]
  have hb : ∀ (p : Fin 16) (i : Fin 64) (j : Fin 1536), block (prod m c t) (ix4 (0 : Fin 1) p i j)
      = spread (argX m c) (argG m c) (argW m c) 16 256 (by norm_num) 2 (seqOf t.val hl) p (⟨t.val % 4 * 64 + i.val, by omega⟩ : Fin 256) j := by
    intro p i j
    refine (prod_apply m c t (⟨_, row_lt i p⟩ : Fin 1024) j).trans ?_
    unfold spread
    refine congrArg (fun s => token (argX m c) (argG m c) (argW m c) (seqOf t.val hl) s (groupCol 2 j)) (Fin.ext ?_)
    show t.val % 4 * 1024 + (i.val * 16 + p.val) = (t.val % 4 * 64 + i.val) * 16 + p.val
    omega
  blk_simp
  rw [after0_3, first_eq]
  rw [hz y]
  refine (hb (y 1) (y 2) (y 3)).trans ?_
  exact (congrArg (G m c) (e (y 1) (y 2) (y 3))).symm

/-! ## The second result: the last tokens' keys and values -/

theorem covers_kept : (cfg0.win 4).Covers := (by decide +kernel : win0_4.Covers)

theorem flushed_kept : ∀ t : Fin cfg0.N, (cfg0.win 4).flush t = true → t.val % 4 = 2 ∨ t.val % 4 = 3 :=
  (by decide +kernel : ∀ t : Fin grid0.N, win0_4.flush t = true → t.val % 4 = 2 ∨ t.val % 4 = 3)

/-- What the second result is shown to hold. -/
abbrev K (c : Dev nD) : Buf (Elt Ideal) ((c : Thread nD τ).loc main_v37_1) :=
  fun i => keptRows (argX m c) (argG m c) (argW m c) 2048 (by norm_num) 2 (i 0) (i 1) (i 2) (i 3) (i 4)

theorem final_kept (c : Dev nD) : (dats m 0 c).arrAt 4 cfg0.N = K m c := by
  refine (dats m 0 c).arrAt_eq_of_covers 4 (K m c) covers_kept fun t hf y => ?_
  have hl := lt_N t
  have hq : t.val % 4 = 2 ∨ t.val % 4 = 3 := flushed_kept t hf
  have hz : ∀ y : S1x1024x2x4x128.Idx, y = ix5 (0 : Fin 1) (y 1 : Fin 1024) (y 2 : Fin 2) (y 3 : Fin 4) (y 4 : Fin 128) := by
    intro y; idx_vars y
    rw [Subsingleton.elim y0 (0 : Fin 1)]
    rfl
  have e : ∀ (r : Fin 1024) (s : Fin 2) (h : Fin 4) (e : Fin 128), (win0_4.blk t).view.emb (ix5 (0 : Fin 1) r s h e)
      = ix5 (seqOf t.val hl) (⟨(t.val % 4 - 2) * 1024 + r.val, by omega⟩ : Fin 2048) s h e := by
    intro r s h e
    funext a; apply Fin.ext; revert a
    blk_simp [idx4]
    intro a
    fin_cases a <;> simp [seqOf]
  have hb : ∀ (r : Fin 1024) (s : Fin 2) (h : Fin 4) (e : Fin 128), keptBlock (prod m c t) (ix5 (0 : Fin 1) r s h e)
      = keptRows (argX m c) (argG m c) (argW m c) 2048 (by norm_num) 2 (seqOf t.val hl) (⟨(t.val % 4 - 2) * 1024 + r.val, by omega⟩ : Fin 2048) s h e := by
    intro r s h e
    refine (prod_apply m c t r (⟨_, kept_lt s h e⟩ : Fin 1536)).trans ?_
    unfold keptRows
    refine congrArg₂ (token (argX m c) (argG m c) (argW m c) (seqOf t.val hl)) (Fin.ext ?_) (Fin.ext ?_)
    · show t.val % 4 * 1024 + r.val = 4096 - 2048 + ((t.val % 4 - 2) * 1024 + r.val)
      omega
    · show 3088 + (512 + (s.val * 4 + h.val) * 128 + e.val) / 512 * 1536 + 2 * 512 + (512 + (s.val * 4 + h.val) * 128 + e.val) % 512
        = 4624 + s.val * 1536 + 2 * 512 + h.val * 128 + e.val
      omega
  blk_simp
  rw [after0_4, second_eq m c t hq]
  rw [hz y]
  refine (hb (y 1) (y 2) (y 3) (y 4)).trans ?_
  exact (congrArg (K m c) (e (y 1) (y 2) (y 3) (y 4))).symm

/-! ## The claims -/

/-- The kernel's run, its results named and its arguments unchanged. -/
theorem run : θ_run (defs (F := Ideal)) (onTc (τ := τ) (main (F := Ideal))) ⟨m, fun _ => 0, ρ⟩ (fun r => ∀ c : Dev nD,
      r.2.mem ((c.tc : Thread nD τ).loc main_v37_0) = G m c ∧ r.2.mem ((c.tc : Thread nD τ).loc main_v37_1) = K m c) :=
  (θ_run defs _ _).mono (fun _ h c => ⟨((h c).1 3).trans (final m c), ((h c).1 4).trans (final_kept m c)⟩) (run_main m ρ)

/-- The kernel's frame. -/
theorem frame : Cert.quiescent_Kernel7Ideal := fun m g _ => Cert.Kernel7Ideal.Gen.frame m g

/-- The reference's frame. -/
theorem frame_reference : Cert.quiescent_Reference7Ideal := fun m g _ =>
  (θ_run Cert.Reference7Ideal.defs _ _).mono (fun r h => ⟨fun c => (h c).2.2, Idealize.ShloMosaic.sem_eq_zero_of_no_sems (by decide) r.2⟩)
    (Cert.Reference7Ideal.Value.run (F := Ideal) m g)

/-- The kernel and the reference end with the same two arrays. -/
theorem algebraic : Cert.algebraic_Kernel7Ideal_Reference7Ideal := by
  intro m g m' g' hpre harg
  refine ⟨fun c => G m c, fun c => K m c, ?_, ?_⟩
  · exact (θ_run defs _ _).mono (fun r h c => ⟨(h.1 c).1, (h.1 c).2, h.2 c⟩) (θ_run_and (run m g) (unchanged m g))
  · refine (θ_run Cert.Reference7Ideal.defs _ _).mono (fun r h c => ⟨(h c).1.trans ?_, (h c).2.1.trans ?_, (h c).2.2⟩) (Cert.Reference7Ideal.Value.run (F := Ideal) m' g')
    · obtain ⟨e0, e1, e2⟩ := harg c
      rw [Cert.Proj.Ref7.rows_eq, e0, e1, e2]
      exact Cert.Proj.Ref7.rows_group _ _ _
    · obtain ⟨e0, e1, e2⟩ := harg c
      refine (show _ = Cert.Proj.Ref7.kept (Cert.Proj.Ref7.proj _ _ _) from rfl).trans ?_
      rw [e0, e1, e2]
      exact Cert.Proj.Ref7.kept_group _ _ _

end Cert.Kernel7Ideal.RefValue

end
-- ==== Proof.Gla.lean ====
/- One step of the gated linear attention over the extended reals: the forget gate, its logarithm in the kernel's and in the
   reference's way of writing it, and the new state. -/
module

public import Idealize.ShloMosaic.Lib.Pipeline.ValueKit
public import Idealize.ShloMosaic.Lib.Pointwise
public import Idealize.ShloMosaic.Lib.IdealHost

@[expose] public section

set_option maxRecDepth 16384

noncomputable section

namespace Cert.Gla

open Idealize.ShloMosaic

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ k, IsReal (f k)) : IsReal (∑ k, f k) :=
  Finset.sum_induction f IsReal (fun _ _ => IsReal.add) ⟨0, rfl⟩ fun k _ => h k

/-- A value whose absolute value is below infinity is real. -/
theorem isReal_of_abs_lt {x : EReal} (h : max x (-x) < ⊤) : IsReal x := by
  induction x using EReal.rec with
  | bot => simp at h
  | top => simp at h
  | coe r => exact ⟨r, rfl⟩

/-- Sixteen, and its inverse, as the programs write them. -/
theorem bits_sixteen : Ideal.ofBits .f32 0x41800000#32 = ((16 : ℝ) : EReal) := by
  simp [Ideal.ofBits, Ideal.ieee]
  rw [← EReal.coe_mul]
  norm_num
theorem bits_sixteenth : Ideal.ofBits .f32 0x3D800000#32 = ((1 / 16 : ℝ) : EReal) := by
  simp [Ideal.ofBits, Ideal.ieee]
  rw [← EReal.coe_mul]
  norm_num

/-- The logarithm of the gate, as the kernel writes it, and as the reference's library function does. -/
def logGate (x : EReal) : EReal := (min x 0 - Ideal.log1p (Ideal.exp (0 - max x (-x)))) * Ideal.ofBits .f32 0x3D800000#32
def logGateRef (x : EReal) : EReal :=
  Ideal.div (-(max (-x) 0 + Ideal.log1p (Ideal.exp (-(max (-x - 0) (-(-x - 0))))))) (Ideal.ofBits .f32 0x41800000#32)

theorem log1p_exp (y : ℝ) : Ideal.log1p (Ideal.exp (y : EReal)) = (Real.log (1 + Real.exp y) : EReal) := by
  have e : (1 : EReal) + ((Real.exp y : ℝ) : EReal) = ((1 + Real.exp y : ℝ) : EReal) := by norm_cast
  have p : ¬ (1 + Real.exp y ≤ 0) := by have := Real.exp_pos y; linarith
  show Ideal.log (1 + ((Real.exp y : ℝ) : EReal)) = _
  rw [e]
  exact if_neg p

theorem logGate_coe (r : ℝ) : logGate (r : EReal) = (((min r 0 - Real.log (1 + Real.exp (-|r|))) / 16 : ℝ) : EReal) := by
  have a : max (r : EReal) (-(r : EReal)) = ((|r| : ℝ) : EReal) := by rw [abs_eq_max_neg]; norm_cast
  have b : (0 : EReal) - ((|r| : ℝ) : EReal) = ((-|r| : ℝ) : EReal) := by norm_cast; simp
  have d : min (r : EReal) 0 = ((min r 0 : ℝ) : EReal) := by norm_cast
  rw [logGate, a, b, log1p_exp, d, bits_sixteenth]
  norm_cast
  ring_nf

theorem logGateRef_coe (r : ℝ) : logGateRef (r : EReal) = (((min r 0 - Real.log (1 + Real.exp (-|r|))) / 16 : ℝ) : EReal) := by
  have z : -(r : EReal) - 0 = ((-r : ℝ) : EReal) := by simp
  have a : max ((-r : ℝ) : EReal) (-((-r : ℝ) : EReal)) = ((|r| : ℝ) : EReal) := by rw [← abs_neg r, abs_eq_max_neg]; norm_cast
  have d : max (-(r : EReal)) 0 = ((max (-r) 0 : ℝ) : EReal) := by norm_cast
  have n : ((16 : ℝ) : EReal) ≠ 0 := by norm_cast
  have f : max (-r) 0 = -(min r 0) := by rw [← max_neg_neg, neg_zero]
  have q : -((|r| : ℝ) : EReal) = ((-|r| : ℝ) : EReal) := by norm_cast
  rw [logGateRef, z, a, q, log1p_exp, d, bits_sixteen, Ideal.div, if_neg n, f, ← EReal.coe_inv]
  norm_cast
  ring_nf

theorem logGateRef_eq {x : EReal} (h : IsReal x) : logGateRef x = logGate x := by
  obtain ⟨r, rfl⟩ := h; rw [logGateRef_coe, logGate_coe]

/-- A real logarithm less itself has the exponential one. -/
theorem exp_self {x : EReal} (h : IsReal x) : Ideal.exp (logGate x - logGate x) = 1 := by
  obtain ⟨r, rfl⟩ := h
  rw [logGate_coe, ← EReal.coe_sub, sub_self, EReal.coe_zero]
  show ((Real.exp 0 : ℝ) : EReal) = 1
  rw [Real.exp_zero]; rfl

/-! ## The new state -/

abbrev SP : Shape := ⟨2, ![32, 9744]⟩
abbrev SX : Shape := ⟨5, ![1, 32, 4, 128, 256]⟩
abbrev SW : Shape := ⟨3, ![1, 16, 512]⟩
abbrev SB : Shape := ⟨2, ![1, 512]⟩
abbrev SO : Shape := ⟨4, ![32, 4, 128, 256]⟩

theorem gateCol_lt (h : Fin 4) (k : Fin 128) : h.val * 128 + k.val < 512 := by omega
theorem keyCol_lt (h : Fin 4) (k : Fin 128) : 512 + (h.val * 128 + k.val) < 9744 := by omega
theorem valCol_lt (h : Fin 4) (v : Fin 256) : 1024 + (h.val * 256 + v.val) < 9744 := by omega
theorem lowCol_lt (r : Fin 16) : 3072 + r.val < 9744 := by omega

/-- A token's gate in a column, before the logistic function: the low-rank product and the bias. -/
def gate (P : SP.Idx → EReal) (W : SW.Idx → EReal) (B : SB.Idx → EReal) (b : Fin 32) (n : Fin 512) : EReal :=
  (∑ r : Fin 16, P (ix2 b (⟨3072 + r.val, lowCol_lt r⟩ : Fin 9744)) * W (ix3 (0 : Fin 1) r n)) + B (ix2 (0 : Fin 1) n)

/-- The state after the step: the old one, decayed, and the key times the value. -/
def state (P : SP.Idx → EReal) (X : SX.Idx → EReal) (W : SW.Idx → EReal) (B : SB.Idx → EReal) : SO.Idx → EReal := fun i =>
  X (ix5 (0 : Fin 1) (i 0 : Fin 32) (i 1 : Fin 4) (i 2 : Fin 128) (i 3 : Fin 256)) * Ideal.exp (logGate (gate P W B (i 0) ⟨_, gateCol_lt (i 1) (i 2)⟩))
    + P (ix2 (i 0 : Fin 32) (⟨_, keyCol_lt (i 1) (i 2)⟩ : Fin 9744)) * P (ix2 (i 0 : Fin 32) (⟨_, valCol_lt (i 1) (i 3)⟩ : Fin 9744))

end Cert.Gla

end
-- ==== Proof.Gla8.lean ====
/- One step of the gated linear attention over the reals: what the kernel is handed, and what its body leaves in the state. -/
module

public import proofs.«01_k».proof.Defs
public import proofs.«01_k».proof.Proof.Gen.Kernel8Ideal.Frame
public import proofs.«01_k».proof.Proof.Gla
public import Idealize.ShloMosaic.Lib.Pipeline.ValueKit
public import Idealize.ShloMosaic.Lib.Claim
public import Idealize.ShloMosaic.Lib.Quiescent

@[expose] public section

set_option maxRecDepth 16384

noncomputable section

namespace Cert.Kernel8Ideal.RefValue

open Cert.Kernel8Ideal Cert.Kernel8Ideal.Gen Cert.Gla Idealize.ShloMosaic Idealize.ShloMosaic.TcCoe Idealize.SL.Sem
open Idealize.ShloMosaic.Pipeline (Dat)

section Handed
variable {F : FTy → Type} [FloatOps F]

/-- The reordered projection. -/
def row (P : (⟨S32x9744, .f32⟩ : BufTy).Contents (Elt F)) : (⟨S32x1x10240, .f32⟩ : BufTy).Contents (Elt F) :=
  shapeCast S32x1x10240 (concatenate S32x10240 1 [⟨S32x7168, (concatenate S32x7168 1 [⟨S32x512, (extractStridedSlice S32x512 ![0, 0] P slices_S32x9744_S32x512_0_0)⟩, ⟨S32x512, (extractStridedSlice S32x512 ![0, 512] P slices_S32x9744_S32x512_0_512)⟩, ⟨S32x1024, (extractStridedSlice S32x1024 ![0, 1024] P slices_S32x9744_S32x1024_0_1024)⟩, ⟨S32x1024, (extractStridedSlice S32x1024 ![0, 2048] P slices_S32x9744_S32x1024_0_2048)⟩, ⟨S32x1024, (extractStridedSlice S32x1024 ![0, 7696] P slices_S32x9744_S32x1024_0_7696)⟩, ⟨S32x1024, (extractStridedSlice S32x1024 ![0, 8720] P slices_S32x9744_S32x1024_0_8720)⟩, ⟨S32x512, (extractStridedSlice S32x512 ![0, 0] (extractStridedSlice S32x1536 ![0, 3088] P slices_S32x9744_S32x1536_0_3088) slices_S32x1536_S32x512_0_0)⟩, ⟨S32x512, (extractStridedSlice S32x512 ![0, 0] (extractStridedSlice S32x1536 ![0, 4624] P slices_S32x9744_S32x1536_0_4624) slices_S32x1536_S32x512_0_0)⟩, ⟨S32x512, (extractStridedSlice S32x512 ![0, 0] (extractStridedSlice S32x1536 ![0, 6160] P slices_S32x9744_S32x1536_0_6160) slices_S32x1536_S32x512_0_0)⟩, ⟨S32x16, (extractStridedSlice S32x16 ![0, 3072] P slices_S32x9744_S32x16_0_3072)⟩, ⟨S32x496, (broadcastInDim S32x496 ![] bcast_S_S32x496 (constant S_ .f32 0x00000000#32))⟩] concatenates_S32x512_S32x512_S32x1024_S32x1024_S32x1024_S32x1024_S32x512_S32x512_S32x512_S32x16_S32x496_S32x7168_d1 : (⟨S32x7168, .f32⟩ : BufTy).Contents (Elt F))⟩, ⟨S32x1536, (concatenate S32x1536 1 [⟨S32x512, (extractStridedSlice S32x512 ![0, 512] (extractStridedSlice S32x1536 ![0, 3088] P slices_S32x9744_S32x1536_0_3088) slices_S32x1536_S32x512_0_512)⟩, ⟨S32x512, (extractStridedSlice S32x512 ![0, 512] (extractStridedSlice S32x1536 ![0, 4624] P slices_S32x9744_S32x1536_0_4624) slices_S32x1536_S32x512_0_512)⟩, ⟨S32x512, (extractStridedSlice S32x512 ![0, 512] (extractStridedSlice S32x1536 ![0, 6160] P slices_S32x9744_S32x1536_0_6160) slices_S32x1536_S32x512_0_512)⟩] concatenates_S32x512_S32x512_S32x512_S32x1536_d1 : (⟨S32x1536, .f32⟩ : BufTy).Contents (Elt F))⟩, ⟨S32x1536, (concatenate S32x1536 1 [⟨S32x512, (extractStridedSlice S32x512 ![0, 1024] (extractStridedSlice S32x1536 ![0, 3088] P slices_S32x9744_S32x1536_0_3088) slices_S32x1536_S32x512_0_1024)⟩, ⟨S32x512, (extractStridedSlice S32x512 ![0, 1024] (extractStridedSlice S32x1536 ![0, 4624] P slices_S32x9744_S32x1536_0_4624) slices_S32x1536_S32x512_0_1024)⟩, ⟨S32x512, (extractStridedSlice S32x512 ![0, 1024] (extractStridedSlice S32x1536 ![0, 6160] P slices_S32x9744_S32x1536_0_6160) slices_S32x1536_S32x512_0_1024)⟩] concatenates_S32x512_S32x512_S32x512_S32x1536_d1 : (⟨S32x1536, .f32⟩ : BufTy).Contents (Elt F))⟩] concatenates_S32x7168_S32x1536_S32x1536_S32x10240_d1 : (⟨S32x10240, .f32⟩ : BufTy).Contents (Elt F)) shapeCasts_S32x10240_S32x1x10240

/-- The gate's weights, widened with rows of zeros. -/
def wide (W : (⟨S1x16x512, .f32⟩ : BufTy).Contents (Elt F)) : (⟨S128x512, .f32⟩ : BufTy).Contents (Elt F) :=
  Host.scatter scatter_S128x512_S1_S16x512_01_n_0_0 (fun _ b => b) (broadcastInDim S128x512 ![] bcast_S_S128x512 (constant S_ .f32 0x00000000#32))
    (broadcastInDim S1 ![] bcast_S_S1 (constantI S_ 32 0#32)) (shapeCast S16x512 W shapeCasts_S1x16x512_S16x512)

end Handed

set_option maxHeartbeats 2000000 in
/-- The first columns of the row stay in place. -/
theorem row_low (P : (⟨S32x9744, .f32⟩ : BufTy).Contents (Elt Ideal)) (b : Fin 32) (j : ℕ) (hj : j < 3072) :
    row P (ix3 b (0 : Fin 1) (⟨j, by omega⟩ : Fin 10240)) = P (ix2 b (⟨j, by omega⟩ : Fin 9744)) := by
  pointwise [row]
  rcases (by omega : j < 512 ∨ (512 ≤ j ∧ j < 1024) ∨ (1024 ≤ j ∧ j < 2048) ∨ 2048 ≤ j) with h | h | h | h <;>
    (repeat first | refine (dif_pos (by omega)).trans ?_ | refine (dif_neg (by omega)).trans ?_) <;>
    (refine congrArg P (congrArg (ix2 b) (Fin.ext ?_)); (simp only []) <;> omega)

/-- The gate's low-rank columns. -/
theorem row_gate (P : (⟨S32x9744, .f32⟩ : BufTy).Contents (Elt Ideal)) (b : Fin 32) (r : ℕ) (hr : r < 16) :
    row P (ix3 b (0 : Fin 1) (⟨6656 + r, by omega⟩ : Fin 10240)) = P (ix2 b (⟨3072 + r, by omega⟩ : Fin 9744)) := by
  pointwise [row]
  (repeat first | refine (dif_pos (by omega)).trans ?_ | refine (dif_neg (by omega)).trans ?_) <;>
    (refine congrArg P (congrArg (ix2 b) (Fin.ext ?_)); simp only []; omega)

/-- After them, zeros. -/
theorem row_zero (P : (⟨S32x9744, .f32⟩ : BufTy).Contents (Elt Ideal)) (b : Fin 32) (r : ℕ) (hr : 16 ≤ r) (hr' : r < 128) :
    row P (ix3 b (0 : Fin 1) (⟨6656 + r, by omega⟩ : Fin 10240)) = (0 : EReal) := by
  pointwise [row]
  (repeat first | refine (dif_pos (by omega)).trans ?_ | refine (dif_neg (by omega)).trans ?_) <;>
  rfl

/-! ## The scatter that widens the weights -/

section Fold
variable {I : Type} [DecidableEq I]

theorem fold_miss {N : ℕ} (g : Fin N → Option I) (u : Fin N → EReal) (i : I) (l : List (Fin N)) (h : ∀ n ∈ l, g n ≠ some i) (x : I → EReal) :
    l.foldl (fun r n => match g n with | some k => fun k' => if k' = k then u n else r k' | none => r) x i = x i := by
  induction l generalizing x with
  | nil => rfl
  | cons a l ih =>
    rw [List.foldl_cons, ih (fun n hn => h n (List.mem_cons_of_mem _ hn))]
    have ha := h a List.mem_cons_self
    rcases hk : g a with _ | k
    · rfl
    · exact if_neg fun e => ha (by rw [hk, e])

theorem fold_hit {N : ℕ} (g : Fin N → Option I) (u : Fin N → EReal) (i : I) (n0 : Fin N) (h0 : g n0 = some i) (hu : ∀ n, g n = some i → n = n0)
    (l : List (Fin N)) (hl : n0 ∈ l) (x : I → EReal) :
    l.foldl (fun r n => match g n with | some k => fun k' => if k' = k then u n else r k' | none => r) x i = u n0 := by
  induction l generalizing x with
  | nil => exact absurd hl List.not_mem_nil
  | cons a l ih =>
    rw [List.foldl_cons]
    by_cases hm : n0 ∈ l
    · exact ih hm _
    · have ha : n0 = a := (List.mem_cons.1 hl).resolve_right hm
      subst ha
      rw [fold_miss g u i l (fun n hn e => hm (hu n e ▸ hn)), h0]
      exact if_pos rfl

/-- A place that one update alone lands at holds that update. -/
theorem scatter_hit {s si u : Shape} (d : ScatterDims s si u) (x : s.Idx → EReal) (idx : IVec si 32) (upd : u.Idx → EReal) (i : s.Idx) (j : u.Idx)
    (h0 : d.resultIdx? j idx = some i) (hu : ∀ k, d.resultIdx? k idx = some i → k = j) : Host.scatter d (fun _ b => b) x idx upd i = upd j := by
  have key := fold_hit (fun k => d.resultIdx? (u.rowMajor.symm k) idx) (fun k => upd (u.rowMajor.symm k)) i (u.rowMajor j)
    (by simp only [Equiv.symm_apply_apply]; exact h0) (fun k hk => by rw [← hu _ hk, Equiv.apply_symm_apply]) (List.finRange _) (List.mem_finRange _) x
  simp only [Equiv.symm_apply_apply] at key
  unfold Host.scatter
  refine Eq.trans (congrFun (congrArg (fun f => List.foldl f x (List.finRange u.numel)) ?_) i) key
  funext r n
  cases d.resultIdx? (u.rowMajor.symm n) idx with
  | none => rfl
  | some k =>
    funext k'
    by_cases e : k' = k
    · simp [e]
    · simp [e]

end Fold

/-- Where an update lands: at its own row and column. -/
theorem lands (idx : IVec S1 32) (hi : ∀ x, idx x = 0#32) (r : Fin 16) (n : Fin 512) :
    scatter_S128x512_S1_S16x512_01_n_0_0.resultIdx? (ix2 r n) idx = some (ix2 (⟨r.val, by omega⟩ : Fin 128) n) := by
  have hs : ∀ a, scatter_S128x512_S1_S16x512_01_n_0_0.start (ix2 r n) idx a = 0 := fun a => by
    unfold ScatterDims.start
    split
    · rw [hi]; rfl
    · rfl
  have h0 : scatter_S128x512_S1_S16x512_01_n_0_0.window (ix2 r n) 0 = r.val := by rfl
  have h1 : scatter_S128x512_S1_S16x512_01_n_0_0.window (ix2 r n) 1 = n.val := by rfl
  unfold ScatterDims.resultIdx?
  rw [dif_pos]
  · congr 1
    funext a; apply Fin.ext
    simp only [hs]
    match a with
    | 0 => simp only [h0]; simp
    | 1 => simp only [h1]; simp
  · intro a
    rw [hs]
    match a with
    | 0 => rw [h0]; exact ⟨by omega, by show (0 : ℤ) + (r.val : ℤ) < 128; omega⟩
    | 1 => rw [h1]; exact ⟨by omega, by show (0 : ℤ) + (n.val : ℤ) < 512; omega⟩

theorem wide_low (W : (⟨S1x16x512, .f32⟩ : BufTy).Contents (Elt Ideal)) (r : Fin 16) (n : Fin 512) :
    wide W (ix2 (⟨r.val, by omega⟩ : Fin 128) n) = W (ix3 (0 : Fin 1) r n) := by
  have hi : ∀ x, (broadcastInDim S1 ![] bcast_S_S1 (constantI S_ 32 0#32) : IVec S1 32) x = 0#32 := fun x => by rfl
  unfold wide
  refine (scatter_hit _ _ _ _ _ (ix2 r n) (lands _ hi r n) fun j hk => ?_).trans ?_
  · idx_vars j
    rw [lands _ hi] at hk
    have e := Option.some.inj hk
    have e0 := congrArg Fin.val (congrFun e 0)
    have e1 := congrFun e 1
    exact congrArg₂ ix2 (Fin.ext e0) e1
  · pointwise

end Cert.Kernel8Ideal.RefValue

end
-- ==== Proof.Gla8Body.lean ====
/- One step of the gated linear attention over the reals: what the body leaves in a token's state. -/
module

public import proofs.«01_k».proof.Proof.Gla8

@[expose] public section

set_option maxRecDepth 16384

noncomputable section

namespace Cert.Kernel8Ideal.RefValue

open Cert.Kernel8Ideal Cert.Kernel8Ideal.Gen Cert.Gla Idealize.ShloMosaic Idealize.ShloMosaic.TcCoe Idealize.SL.Sem
open Idealize.ShloMosaic.Pipeline (Dat)

theorem keyPlace_lt (h : Fin 4) (k : Fin 128) : 512 + (h.val * 128 + k.val) < 10240 := by omega
theorem valPlace_lt (h : Fin 4) (v : Fin 256) : 1024 + (h.val * 256 + v.val) < 10240 := by omega

/-- A block's gate. -/
def blkGate (x0 : Vec Ideal S1x1x10240 .f32) (x2 : Vec Ideal S128x512 .f32) (x3 : Vec Ideal S1x512 .f32) (n : Fin 512) : EReal :=
  (∑ r : Fin 128, x0 (ix3 (0 : Fin 1) (0 : Fin 1) (⟨6656 + r.val, by omega⟩ : Fin 10240)) * x2 (ix2 r n)) + x3 (ix2 (0 : Fin 1) n)

theorem pay3_apply (x0 : Vec Ideal S1x1x10240 .f32) (x2 : Vec Ideal S128x512 .f32) (x3 : Vec Ideal S1x512 .f32) (n : Fin 512) :
    k0_pay3 x0 x2 x3 (ix2 (0 : Fin 1) n) = Ideal.exp (logGate (blkGate x0 x2 x3 n)) := by
  pointwise [k0_pay3, k0_pay2, logGate, blkGate]
  rfl

theorem pay6_apply (x0 : Vec Ideal S1x1x10240 .f32) (x2 : Vec Ideal S128x512 .f32) (x3 : Vec Ideal S1x512 .f32) (s : Vec Ideal S1x1x128x256 .f32) (k : Fin 128) (v : Fin 256) :
    k0_pay6 x0 x2 x3 s (ix2 k v) = s (ix4 (0 : Fin 1) (0 : Fin 1) k v) * k0_pay3 x0 x2 x3 (ix2 (0 : Fin 1) (⟨k.val, by omega⟩ : Fin 512)) := by
  unfold k0_pay6
  generalize k0_pay3 x0 x2 x3 = d
  pointwise
  by_cases hv : v.val < 128
  · simp only [dif_pos hv]
  · simp only [dif_neg hv]

theorem pay7_apply (x0 : Vec Ideal S1x1x10240 .f32) (k : Fin 128) (v : Fin 256) :
    k0_pay7 x0 (ix2 k v) = x0 (ix3 (0 : Fin 1) (0 : Fin 1) (⟨512 + k.val, by omega⟩ : Fin 10240)) := by
  pointwise [k0_pay7, k0_pay5, k0_pay4, k0_pay2]
  by_cases hv : v.val < 128
  · simp only [dif_pos hv]
  · simp only [dif_neg hv]

theorem pay8_apply (x0 : Vec Ideal S1x1x10240 .f32) (k : Fin 128) (v : Fin 256) :
    k0_pay8 x0 (ix2 k v) = x0 (ix3 (0 : Fin 1) (0 : Fin 1) (⟨1024 + v.val, by omega⟩ : Fin 10240)) := by
  pointwise [k0_pay8, k0_pay5, k0_pay4, k0_pay2]

theorem pay10_apply (A B C : FVec Ideal S128x256 .f32) (k : Fin 128) (v : Fin 256) :
    k0_pay10 A B C (ix4 (0 : Fin 1) (0 : Fin 1) k v) = A (ix2 k v) + B (ix2 k v) * C (ix2 k v) := by
  pointwise [k0_pay10, k0_pay9]

theorem piece0 (x0 : Vec Ideal S1x1x10240 .f32) (x2 : Vec Ideal S128x512 .f32) (x3 : Vec Ideal S1x512 .f32) (s : Vec Ideal S1x1x128x256 .f32) (k : Fin 128) (v : Fin 256) :
    k0_pay10 (k0_pay6 x0 x2 x3 s) (k0_pay7 x0) (k0_pay8 x0) (ix4 (0 : Fin 1) (0 : Fin 1) k v)
      = s (ix4 (0 : Fin 1) (0 : Fin 1) k v) * k0_pay3 x0 x2 x3 (ix2 (0 : Fin 1) (⟨k.val, by omega⟩ : Fin 512))
        + x0 (ix3 (0 : Fin 1) (0 : Fin 1) (⟨512 + k.val, by omega⟩ : Fin 10240)) * x0 (ix3 (0 : Fin 1) (0 : Fin 1) (⟨1024 + v.val, by omega⟩ : Fin 10240)) := by
  rw [pay10_apply, pay6_apply, pay7_apply, pay8_apply]

theorem piece1 (x0 : Vec Ideal S1x1x10240 .f32) (d : Vec Ideal S1x512 .f32) (s : Vec Ideal S1x1x128x256 .f32) (k : Fin 128) (v : Fin 256) :
    k0_pay19 (k0_pay13 (k0_pay2 x0)) (k0_pay14 (k0_pay2 x0)) (k0_pay16 s) (k0_pay17 d) (ix4 (0 : Fin 1) (0 : Fin 1) k v)
      = s (ix4 (0 : Fin 1) (0 : Fin 1) k v) * d (ix2 (0 : Fin 1) (⟨128 + k.val, by omega⟩ : Fin 512))
        + x0 (ix3 (0 : Fin 1) (0 : Fin 1) (⟨640 + k.val, by omega⟩ : Fin 10240)) * x0 (ix3 (0 : Fin 1) (0 : Fin 1) (⟨1280 + v.val, by omega⟩ : Fin 10240)) := by
  pointwise [k0_pay19, k0_pay18, k0_pay13, k0_pay14, k0_pay16, k0_pay17, k0_pay2]
  by_cases hv : v.val < 128
  · simp only [dif_pos hv]
  · simp only [dif_neg hv]

theorem piece2 (x0 : Vec Ideal S1x1x10240 .f32) (d : Vec Ideal S1x512 .f32) (s : Vec Ideal S1x1x128x256 .f32) (k : Fin 128) (v : Fin 256) :
    k0_pay23 (k0_pay2 x0) d s (ix4 (0 : Fin 1) (0 : Fin 1) k v)
      = s (ix4 (0 : Fin 1) (0 : Fin 1) k v) * d (ix2 (0 : Fin 1) (⟨256 + k.val, by omega⟩ : Fin 512))
        + x0 (ix3 (0 : Fin 1) (0 : Fin 1) (⟨768 + k.val, by omega⟩ : Fin 10240)) * x0 (ix3 (0 : Fin 1) (0 : Fin 1) (⟨1536 + v.val, by omega⟩ : Fin 10240)) := by
  pointwise [k0_pay23, k0_pay22, k0_pay2]
  by_cases hv : v.val < 128
  · simp only [dif_pos hv]
  · simp only [dif_neg hv]

theorem piece3 (x0 : Vec Ideal S1x1x10240 .f32) (d : Vec Ideal S1x512 .f32) (s : Vec Ideal S1x1x128x256 .f32) (k : Fin 128) (v : Fin 256) :
    k0_pay28 (k0_pay2 x0) d s (ix4 (0 : Fin 1) (0 : Fin 1) k v)
      = s (ix4 (0 : Fin 1) (0 : Fin 1) k v) * d (ix2 (0 : Fin 1) (⟨384 + k.val, by omega⟩ : Fin 512))
        + x0 (ix3 (0 : Fin 1) (0 : Fin 1) (⟨896 + k.val, by omega⟩ : Fin 10240)) * x0 (ix3 (0 : Fin 1) (0 : Fin 1) (⟨1792 + v.val, by omega⟩ : Fin 10240)) := by
  pointwise [k0_pay28, k0_pay27, k0_pay26, k0_pay21, k0_pay2]
  by_cases hv : v.val < 128
  · simp only [dif_pos hv]
  · simp only [dif_neg hv]

/-- The state a block is left with. -/
def blkState (x0 : Vec Ideal S1x1x10240 .f32) (x1 : Vec Ideal S1x4x128x256 .f32) (x2 : Vec Ideal S128x512 .f32) (x3 : Vec Ideal S1x512 .f32)
    (h : Fin 4) (k : Fin 128) (v : Fin 256) : EReal :=
  x1 (ix4 (0 : Fin 1) h k v) * Ideal.exp (logGate (blkGate x0 x2 x3 ⟨h.val * 128 + k.val, gateCol_lt h k⟩))
    + x0 (ix3 (0 : Fin 1) (0 : Fin 1) (⟨512 + (h.val * 128 + k.val), by omega⟩ : Fin 10240))
      * x0 (ix3 (0 : Fin 1) (0 : Fin 1) (⟨1024 + (h.val * 256 + v.val), by omega⟩ : Fin 10240))

theorem st_0 (x : Vec Ideal S1x4x128x256 .f32) (k : Fin 128) (v : Fin 256) : View.ld x r0_3 (ix4 (0 : Fin 1) (0 : Fin 1) k v) = x (ix4 (0 : Fin 1) (0 : Fin 4) k v) := by
  refine congrArg x (funext fun a => Fin.ext ?_)
  fin_cases a <;> simp [Rect.unit]

theorem st_1 (x : Vec Ideal S1x4x128x256 .f32) (k : Fin 128) (v : Fin 256) : View.ld x r0_6 (ix4 (0 : Fin 1) (0 : Fin 1) k v) = x (ix4 (0 : Fin 1) (1 : Fin 4) k v) := by
  refine congrArg x (funext fun a => Fin.ext ?_)
  fin_cases a <;> simp [Rect.unit]

theorem st_2 (x : Vec Ideal S1x4x128x256 .f32) (k : Fin 128) (v : Fin 256) : View.ld x r0_8 (ix4 (0 : Fin 1) (0 : Fin 1) k v) = x (ix4 (0 : Fin 1) (2 : Fin 4) k v) := by
  refine congrArg x (funext fun a => Fin.ext ?_)
  fin_cases a <;> simp [Rect.unit]

theorem st_3 (x : Vec Ideal S1x4x128x256 .f32) (k : Fin 128) (v : Fin 256) : View.ld x r0_10 (ix4 (0 : Fin 1) (0 : Fin 1) k v) = x (ix4 (0 : Fin 1) (3 : Fin 4) k v) := by
  refine congrArg x (funext fun a => Fin.ext ?_)
  fin_cases a <;> simp [Rect.unit]

theorem ld0 (x : Vec Ideal S1x1x10240 .f32) : View.ld x r0_0 = x := by
  funext i
  refine congrArg x (funext fun a => Fin.ext ?_)
  fin_cases a <;> simp
theorem ld1 (x : Vec Ideal S128x512 .f32) : View.ld x r0_1 = x := by
  funext i
  refine congrArg x (funext fun a => Fin.ext ?_)
  fin_cases a <;> simp
theorem ld2 (x : Vec Ideal S1x512 .f32) : View.ld x r0_2 = x := by
  funext i
  refine congrArg x (funext fun a => Fin.ext ?_)
  fin_cases a <;> simp

theorem piece_done (x0 : Vec Ideal S1x1x10240 .f32) (x1 : Vec Ideal S1x4x128x256 .f32) (x2 : Vec Ideal S128x512 .f32) (x3 : Vec Ideal S1x512 .f32)
    (h : Fin 4) (k : Fin 128) (v : Fin 256) (s : EReal) (a : Fin 512) (b d : Fin 10240) (hs : s = x1 (ix4 (0 : Fin 1) h k v)) (ha : a.val = h.val * 128 + k.val)
    (hb : b.val = 512 + (h.val * 128 + k.val)) (hd : d.val = 1024 + (h.val * 256 + v.val)) :
    s * Ideal.exp (logGate (blkGate x0 x2 x3 a)) + x0 (ix3 (0 : Fin 1) (0 : Fin 1) b) * x0 (ix3 (0 : Fin 1) (0 : Fin 1) d) = blkState x0 x1 x2 x3 h k v := by
  obtain rfl : a = ⟨_, gateCol_lt h k⟩ := Fin.ext ha
  obtain rfl : b = ⟨_, keyPlace_lt h k⟩ := Fin.ext hb
  obtain rfl : d = ⟨_, valPlace_lt h v⟩ := Fin.ext hd
  rw [hs]
  rfl

theorem out_apply (x0 : Vec Ideal S1x1x10240 .f32) (x1 : Vec Ideal S1x4x128x256 .f32) (x2 : Vec Ideal S128x512 .f32) (x3 : Vec Ideal S1x512 .f32) (x4 : Vec Ideal S1x256 .f32)
    (y : S1x4x128x256.Idx) : out0_6 x0 x1 x2 x3 x4 y = blkState x0 x1 x2 x3 (y 1) (y 2) (y 3) := by
  unfold_out out0_6
  canon_tiles z h
  · idx_vars z
    obtain rfl : z0 = 0 := Subsingleton.elim _ _
    obtain rfl : z1 = 0 := Subsingleton.elim _ _
    have e1 : (y 1 : Fin 4) = (3 : Fin 4) := Fin.ext h1
    have e2 : (y 2 : Fin 128) = z2 := Fin.ext h2
    have e3 : (y 3 : Fin 256) = z3 := Fin.ext h3
    refine (piece3 _ _ _ z2 z3).trans ?_
    rw [ld0, ld1, ld2, pay3_apply, e1, e2, e3]
    exact piece_done x0 x1 x2 x3 3 z2 z3 _ _ _ _ (st_3 x1 z2 z3) (by simp) (by simp <;> omega) (by simp <;> omega)
  · idx_vars z
    obtain rfl : z0 = 0 := Subsingleton.elim _ _
    obtain rfl : z1 = 0 := Subsingleton.elim _ _
    have e1 : (y 1 : Fin 4) = (2 : Fin 4) := Fin.ext h1
    have e2 : (y 2 : Fin 128) = z2 := Fin.ext h2
    have e3 : (y 3 : Fin 256) = z3 := Fin.ext h3
    refine (piece2 _ _ _ z2 z3).trans ?_
    rw [ld0, ld1, ld2, pay3_apply, e1, e2, e3]
    exact piece_done x0 x1 x2 x3 2 z2 z3 _ _ _ _ (st_2 x1 z2 z3) (by simp) (by simp <;> omega) (by simp <;> omega)
  · idx_vars z
    obtain rfl : z0 = 0 := Subsingleton.elim _ _
    obtain rfl : z1 = 0 := Subsingleton.elim _ _
    have e1 : (y 1 : Fin 4) = (1 : Fin 4) := Fin.ext h1
    have e2 : (y 2 : Fin 128) = z2 := Fin.ext h2
    have e3 : (y 3 : Fin 256) = z3 := Fin.ext h3
    refine (piece1 _ _ _ z2 z3).trans ?_
    rw [ld0, ld1, ld2, pay3_apply, e1, e2, e3]
    exact piece_done x0 x1 x2 x3 1 z2 z3 _ _ _ _ (st_1 x1 z2 z3) (by simp) (by simp <;> omega) (by simp <;> omega)
  · idx_vars z
    obtain rfl : z0 = 0 := Subsingleton.elim _ _
    obtain rfl : z1 = 0 := Subsingleton.elim _ _
    have e1 : (y 1 : Fin 4) = (0 : Fin 4) := Fin.ext h1
    have e2 : (y 2 : Fin 128) = z2 := Fin.ext h2
    have e3 : (y 3 : Fin 256) = z3 := Fin.ext h3
    refine (piece0 _ _ _ _ z2 z3).trans ?_
    rw [ld0, ld1, ld2, pay3_apply, e1, e2, e3]
    exact piece_done x0 x1 x2 x3 0 z2 z3 _ _ _ _ (st_0 x1 z2 z3) (by simp) (by simp <;> omega) (by simp <;> omega)

end Cert.Kernel8Ideal.RefValue

end
-- ==== Proof.Gla8Ref.lean ====
/- What the reference's one step leaves in the state, element by element. -/
module

public import proofs.«01_k».proof.Proof.Gen.Reference8Ideal.Run
public import proofs.«01_k».proof.Proof.Gla

@[expose] public section

set_option maxRecDepth 16384

noncomputable section

namespace Cert.Gla.Ref8

open Cert.Reference8Ideal Cert.Reference8Ideal.Gen Cert.Reference8Ideal.Value Cert.Gla Idealize.ShloMosaic Idealize.ShloMosaic.TcCoe Idealize.SL.Sem

section Terms
variable {F : FTy → Type} [FloatOps F]

def gateT (P : (⟨S32x9744, .f32⟩ : BufTy).Contents (Elt F)) (W : (⟨S1x16x512, .f32⟩ : BufTy).Contents (Elt F)) (B : (⟨S1x512, .f32⟩ : BufTy).Contents (Elt F)) : (⟨S32x1x512, .f32⟩ : BufTy).Contents (Elt F) :=
  addf (Host.dotGeneral dot_S32x1x16_S16x512_S32x1x512_2_0_01_1_n_n none (extractStridedSlice S32x1x16 ![0, 0, 3072] (broadcastInDim S32x1x9744 ![0, 2] bcast_S32x9744_S32x1x9744_0_2 P) slices_S32x1x9744_S32x1x16_0_0_3072) (shapeCast _ W shapeCasts_S1x16x512_S16x512)) (broadcastInDim S32x1x512 ![0, 1, 2] bcast_S1x1x512_S32x1x512_0_1_2 (broadcastInDim S1x1x512 ![2] bcast_S512_S1x1x512_2 (shapeCast _ B shapeCasts_S1x512_S512)))

def logT (g : (⟨S32x1x512, .f32⟩ : BufTy).Contents (Elt F)) : (⟨S32x1x512, .f32⟩ : BufTy).Contents (Elt F) :=
  Host.divf (Host.negf (select (cmpf .une (subf (Host.negf (g)) (broadcastInDim S32x1x512 ![] bcast_S_S32x1x512 (constant S_ .f32 0x00000000#32))) (subf (Host.negf (g)) (broadcastInDim S32x1x512 ![] bcast_S_S32x1x512 (constant S_ .f32 0x00000000#32)))) (addf (Host.negf (g)) (broadcastInDim S32x1x512 ![] bcast_S_S32x1x512 (constant S_ .f32 0x00000000#32))) (addf (maximumf (Host.negf (g)) (broadcastInDim S32x1x512 ![] bcast_S_S32x1x512 (constant S_ .f32 0x00000000#32))) (Host.log1p (Host.exp (Host.negf (Host.absf (subf (Host.negf (g)) (broadcastInDim S32x1x512 ![] bcast_S_S32x1x512 (constant S_ .f32 0x00000000#32)))))))))) (broadcastInDim S32x1x512 ![] bcast_S_S32x1x512 (constant S_ .f32 0x41800000#32))

def sumT (l : (⟨S32x1x512, .f32⟩ : BufTy).Contents (Elt F)) : (⟨S32x4x1x128, .f32⟩ : BufTy).Contents (Elt F) :=
  Host.reduceWindowAdd ![1, 1, 1, 1] ![1, 1, 1, 1] ![0, 0, 0, 0] ![0, 0, 0, 0] (transpose S32x4x1x128 [0, 2, 1, 3] (shapeCast _ (l) shapeCasts_S32x1x512_S32x1x4x128) transposes_S32x1x4x128_S32x4x1x128_0_2_1_3) (broadcastInDim S_ ![] bcast_S_S_ (constant S_ .f32 0x00000000#32)) reduceWindows_S32x4x1x128_S32x4x1x128_w1s1p0_0_w1s1p0_0_w1s1p0_0_w1s1p0_0 h_S_

def keyT (P : (⟨S32x9744, .f32⟩ : BufTy).Contents (Elt F)) : (⟨S32x4x1x128, .f32⟩ : BufTy).Contents (Elt F) :=
  transpose S32x4x1x128 [0, 2, 1, 3] (shapeCast _ (extractStridedSlice S32x1x512 ![0, 0, 512] (broadcastInDim S32x1x9744 ![0, 2] bcast_S32x9744_S32x1x9744_0_2 P) slices_S32x1x9744_S32x1x512_0_0_512) shapeCasts_S32x1x512_S32x1x4x128) transposes_S32x1x4x128_S32x4x1x128_0_2_1_3

def valT (P : (⟨S32x9744, .f32⟩ : BufTy).Contents (Elt F)) : (⟨S32x4x1x256, .f32⟩ : BufTy).Contents (Elt F) :=
  transpose S32x4x1x256 [0, 2, 1, 3] (shapeCast _ (extractStridedSlice S32x1x1024 ![0, 0, 1024] (broadcastInDim S32x1x9744 ![0, 2] bcast_S32x9744_S32x1x9744_0_2 P) slices_S32x1x9744_S32x1x1024_0_0_1024) shapeCasts_S32x1x1024_S32x1x4x256) transposes_S32x1x4x256_S32x4x1x256_0_2_1_3

def stateT (y k : (⟨S32x4x1x128, .f32⟩ : BufTy).Contents (Elt F)) (v : (⟨S32x4x1x256, .f32⟩ : BufTy).Contents (Elt F)) (X : (⟨S1x32x4x128x256, .f32⟩ : BufTy).Contents (Elt F)) : (⟨S32x4x128x256, .f32⟩ : BufTy).Contents (Elt F) :=
  addf (mulf (broadcastInDim S32x4x128x256 ![0, 1, 2, 3] bcast_S32x4x128x1_S32x4x128x256_0_1_2_3 (broadcastInDim S32x4x128x1 ![0, 1, 2] bcast_S32x4x128_S32x4x128x1_0_1_2 (shapeCast _ (Host.exp (y)) shapeCasts_S32x4x1x128_S32x4x128))) (shapeCast _ X shapeCasts_S1x32x4x128x256_S32x4x128x256)) (Host.dotGeneral dot_S32x4x1x128_S32x4x1x256_S32x4x128x256_2_2_3_3_01_01 none (mulf (k) (Host.exp (subf (y) (y)))) (v))

theorem res_eq (m : (ℓ : Loc nD τ sig) → Buf (Elt F) ℓ) (c : Dev nD) : res_out0 m c
    = stateT (sumT (logT (gateT (m ((c.tc : Thread nD τ).loc main_arg0)) (m ((c.tc : Thread nD τ).loc main_arg2)) (m ((c.tc : Thread nD τ).loc main_arg3)))))
      (keyT (m ((c.tc : Thread nD τ).loc main_arg0))) (valT (m ((c.tc : Thread nD τ).loc main_arg0))) (m ((c.tc : Thread nD τ).loc main_arg1)) := by
  unfold res_out0 res_main_v37 stateT sumT logT gateT keyT valT
  rfl

end Terms

theorem gateT_apply (P : (⟨S32x9744, .f32⟩ : BufTy).Contents (Elt Ideal)) (W : (⟨S1x16x512, .f32⟩ : BufTy).Contents (Elt Ideal)) (B : (⟨S1x512, .f32⟩ : BufTy).Contents (Elt Ideal))
    (b : Fin 32) (n : Fin 512) : gateT P W B (ix3 b (0 : Fin 1) n) = gate P W B b n := by
  pointwise [gateT, gate]

theorem logT_apply (g : (⟨S32x1x512, .f32⟩ : BufTy).Contents (Elt Ideal)) (i : S32x1x512.Idx) : logT g i = logGateRef (g i) := by
  have z : Ideal.ofBits .f32 0x00000000#32 = 0 := by simp [Ideal.ofBits, Ideal.ieee]
  pointwise [logT, logGateRef]
  rw [if_neg (not_not.2 rfl)]
  rfl

theorem keyT_apply (P : (⟨S32x9744, .f32⟩ : BufTy).Contents (Elt Ideal)) (b : Fin 32) (h : Fin 4) (k : Fin 128) :
    keyT P (ix4 b h (0 : Fin 1) k) = P (ix2 b (⟨_, keyCol_lt h k⟩ : Fin 9744)) := by
  pointwise [keyT]

theorem valT_apply (P : (⟨S32x9744, .f32⟩ : BufTy).Contents (Elt Ideal)) (b : Fin 32) (h : Fin 4) (v : Fin 256) :
    valT P (ix4 b h (0 : Fin 1) v) = P (ix2 b (⟨_, valCol_lt h v⟩ : Fin 9744)) := by
  pointwise [valT]

theorem stateT_apply (y k : (⟨S32x4x1x128, .f32⟩ : BufTy).Contents (Elt Ideal)) (v : (⟨S32x4x1x256, .f32⟩ : BufTy).Contents (Elt Ideal))
    (X : (⟨S1x32x4x128x256, .f32⟩ : BufTy).Contents (Elt Ideal)) (b : Fin 32) (h : Fin 4) (i : Fin 128) (j : Fin 256) :
    stateT y k v X (ix4 b h i j) = Ideal.exp (y (ix4 b h (0 : Fin 1) i)) * X (ix5 (0 : Fin 1) b h i j)
      + k (ix4 b h (0 : Fin 1) i) * Ideal.exp (y (ix4 b h (0 : Fin 1) i) - y (ix4 b h (0 : Fin 1) i)) * v (ix4 b h (0 : Fin 1) j) := by
  pointwise [stateT]
  rw [Fin.sum_univ_one]

theorem foldl_one {N : ℕ} (hN : N = 1) (g : EReal → Fin N → EReal) (v : EReal) : (List.finRange N).foldl g v = g v ⟨0, by omega⟩ := by
  subst hN; rfl

/-- A window of one element has that element as its sum. -/
theorem window_one (x : S32x4x1x128.Idx → EReal) (v : EReal) (h : S32x4x1x128.ReduceWindows ![1, 1, 1, 1] ![1, 1, 1, 1] ![0, 0, 0, 0] ![0, 0, 0, 0] S32x4x1x128) (j : S32x4x1x128.Idx) :
    Ideal.hostReduceWindowAdd ![1, 1, 1, 1] ![1, 1, 1, 1] ![0, 0, 0, 0] ![0, 0, 0, 0] h x v j = v + x j := by
  unfold Ideal.hostReduceWindowAdd Host.reduceWindow
  refine (foldl_one (by decide) _ _).trans ?_
  have hz : ∀ (n : Fin (⟨4, ![1, 1, 1, 1]⟩ : Shape).numel) (a : Fin 4), ((⟨4, ![1, 1, 1, 1]⟩ : Shape).rowMajor.symm n a).val = 0 := fun n a => by
    have := ((⟨4, ![1, 1, 1, 1]⟩ : Shape).rowMajor.symm n a).isLt
    fin_cases a <;> exact Nat.lt_one_iff.1 this
  have hp : ∀ n (a : Fin 4), (j a).val * (![1, 1, 1, 1] : Fin 4 → ℕ) a + ((⟨4, ![1, 1, 1, 1]⟩ : Shape).rowMajor.symm n a).val = (j a).val := fun n a => by
    rw [hz n a]; fin_cases a <;> simp
  have hl : ∀ a : Fin 4, (![0, 0, 0, 0] : Fin 4 → ℕ) a = 0 := by decide
  refine congrArg (v + ·) ?_
  split
  · refine congrArg x (funext fun a => Fin.ext ?_)
    show (j a).val * (![1, 1, 1, 1] : Fin 4 → ℕ) a + ((⟨4, ![1, 1, 1, 1]⟩ : Shape).rowMajor.symm _ a).val - (![0, 0, 0, 0] : Fin 4 → ℕ) a = (j a).val
    rw [hp, hl, Nat.sub_zero]
  · next hn =>
    refine absurd (fun a => ?_) hn
    show (![0, 0, 0, 0] : Fin 4 → ℕ) a ≤ (j a).val * (![1, 1, 1, 1] : Fin 4 → ℕ) a + ((⟨4, ![1, 1, 1, 1]⟩ : Shape).rowMajor.symm _ a).val
      ∧ (j a).val * (![1, 1, 1, 1] : Fin 4 → ℕ) a + ((⟨4, ![1, 1, 1, 1]⟩ : Shape).rowMajor.symm _ a).val - (![0, 0, 0, 0] : Fin 4 → ℕ) a < S32x4x1x128.size a
    rw [hp, hl, Nat.sub_zero]
    exact ⟨Nat.zero_le _, (j a).isLt⟩

theorem sumT_apply (l : (⟨S32x1x512, .f32⟩ : BufTy).Contents (Elt Ideal)) (b : Fin 32) (h : Fin 4) (k : Fin 128) :
    sumT l (ix4 b h (0 : Fin 1) k) = l (ix3 b (0 : Fin 1) (⟨_, gateCol_lt h k⟩ : Fin 512)) := by
  unfold sumT
  refine (window_one _ _ reduceWindows_S32x4x1x128_S32x4x1x128_w1s1p0_0_w1s1p0_0_w1s1p0_0_w1s1p0_0 _).trans ?_
  have z : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  rw [z, zero_add]
  pointwise

/-- The reference's new state is the mathematical one where the gates are real. -/
theorem state_eq (P : (⟨S32x9744, .f32⟩ : BufTy).Contents (Elt Ideal)) (X : (⟨S1x32x4x128x256, .f32⟩ : BufTy).Contents (Elt Ideal))
    (W : (⟨S1x16x512, .f32⟩ : BufTy).Contents (Elt Ideal)) (B : (⟨S1x512, .f32⟩ : BufTy).Contents (Elt Ideal))
    (hr : ∀ b n, IsReal (gate P W B b n)) : stateT (sumT (logT (gateT P W B))) (keyT P) (valT P) X = state P X W B := by
  funext i
  idx_vars i
  refine (stateT_apply _ _ _ _ i0 i1 i2 i3).trans ?_
  rw [sumT_apply, logT_apply, gateT_apply, logGateRef_eq (hr i0 _), exp_self (hr i0 _), keyT_apply, valT_apply, mul_one, mul_comm (Ideal.exp _)]
  rfl

end Cert.Gla.Ref8

end
-- ==== Proof.Gla8Pre.lean ====
/- What the precondition says of the projection, the gate's weights and its bias. -/
module

public import proofs.«01_k».proof.Proof.Gen.Pre_finite
public import proofs.«01_k».proof.Proof.Gla
public import Idealize.ShloMosaic.Lib.Pointwise
public import Idealize.ShloMosaic.Lib.ReduceAll

@[expose] public section

set_option maxRecDepth 16384

noncomputable section

namespace Cert.Gla

open Cert.Pre_finite Cert.Pre_finite.Gen Idealize.ShloMosaic

theorem andi_one {a b : BitVec 1} (h : IntOp.andi a b = 1#1) : a = 1#1 ∧ b = 1#1 := by
  revert a b; decide

instance : Subsingleton S_.Idx := ⟨fun a b => funext fun k => k.elim0⟩

theorem bits_top : Ideal.ofBits .f32 0x7F800000#32 = ⊤ := by
  simp [Ideal.ofBits, Ideal.ieee]

theorem isReal_of_cmp {x : EReal} (h : Ideal.cmp .olt (max x (-x)) (Ideal.ofBits .f32 0x7F800000#32) = 1#1) : IsReal x := by
  rw [bits_top] at h
  refine isReal_of_abs_lt ?_
  by_contra hn
  simp [Ideal.cmp, hn] at h

/-- The precondition makes every entry a real number. -/
theorem finite_real (P : FVec Ideal S32x9744 .f32) (X : FVec Ideal S1x32x4x128x256 .f32) (W : FVec Ideal S1x16x512 .f32) (B : FVec Ideal S1x512 .f32) (G : FVec Ideal S1x256 .f32)
    (h : Cert.Pre_finite.fn (F := Ideal) P X W B G = fun _ => 1#1) : (∀ x, IsReal (P x)) ∧ (∀ x, IsReal (W x)) ∧ (∀ x, IsReal (B x)) := by
  have h0 := andi_one (congrFun h ix0)
  have h1 := andi_one h0.1
  exact ⟨fun x => isReal_of_cmp (Host.reduce_andi_all _ _ _ _ _ h1.1 x), fun x => isReal_of_cmp (Host.reduce_andi_all _ _ _ _ _ h1.2 x),
    fun x => isReal_of_cmp (Host.reduce_andi_all _ _ _ _ _ h0.2 x)⟩

theorem gate_real {P : SP.Idx → EReal} {W : SW.Idx → EReal} {B : SB.Idx → EReal} (hP : ∀ x, IsReal (P x)) (hW : ∀ x, IsReal (W x)) (hB : ∀ x, IsReal (B x))
    (b : Fin 32) (n : Fin 512) : IsReal (gate P W B b n) :=
  (IsReal.sum fun _ => (hP _).mul (hW _)).add (hB _)

end Cert.Gla

end
-- ==== Proof.Gla8Final.lean ====
/- One step of the gated linear attention over the reals: what the kernel's state holds after the run, and the claims. -/
module

public import proofs.«01_k».proof.Proof.Gla8Body
public import proofs.«01_k».proof.Proof.Gla8Ref
public import proofs.«01_k».proof.Proof.Gla8Pre
public import proofs.«01_k».proof.Proof.Gen.Kernel8Ideal.Value
public import Idealize.ShloMosaic.Lib.Claim
public import Idealize.ShloMosaic.Lib.Quiescent

@[expose] public section

set_option maxRecDepth 16384

noncomputable section

namespace Cert.Kernel8Ideal.RefValue

open Cert.Kernel8Ideal Cert.Kernel8Ideal.Gen Cert.Gla Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four arguments the state depends on. -/
abbrev argP (c : Dev nD) : SP.Idx → EReal := m ((c : Thread nD τ).loc main_arg0)
abbrev argX (c : Dev nD) : SX.Idx → EReal := m ((c : Thread nD τ).loc main_arg1)
abbrev argW (c : Dev nD) : SW.Idx → EReal := m ((c : Thread nD τ).loc main_arg2)
abbrev argB (c : Dev nD) : SB.Idx → EReal := m ((c : Thread nD τ).loc main_arg3)

theorem idx0 : ∀ t : Fin cfg0.N, win0_0.index t = ![t.val, 0, 0] := (by decide +kernel : ∀ t : Fin grid0.N, _)
theorem idx1 : ∀ t : Fin cfg0.N, win0_1.index t = ![t.val, 0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx6 : ∀ t : Fin cfg0.N, win0_6.index t = ![t.val, 0, 0, 0] := (by decide +kernel : ∀ t : Fin grid0.N, _)

theorem lt_N (t : Fin cfg0.N) : t.val < 32 := lt_of_lt_of_eq t.isLt N_0

/-! ## The arrays the region is handed -/

theorem V_row (c : Dev nD) : V m c main_v32 = row (m ((c : Thread nD τ).loc main_arg0)) := by
  unfold V row
  after_results <;> rfl

theorem V_wide (c : Dev nD) : V m c main_v27 = wide (m ((c : Thread nD τ).loc main_arg2)) := by
  unfold V wide
  after_results <;> rfl

/-- Dropping the leading axis of the state. -/
theorem drop_state (X : (⟨S1x32x4x128x256, .f32⟩ : BufTy).Contents (Elt Ideal)) (b : Fin 32) (h : Fin 4) (k : Fin 128) (v : Fin 256) :
    shapeCast S32x4x128x256 X shapeCasts_S1x32x4x128x256_S32x4x128x256 (ix4 b h k v) = X (ix5 (0 : Fin 1) b h k v) := by
  pointwise

/-- The gate's bias as a row. -/
theorem bias_row (B : (⟨S1x512, .f32⟩ : BufTy).Contents (Elt Ideal)) (n : Fin 512) :
    broadcastInDim S1x512 ![1] bcast_S512_S1x512_1 (shapeCast S512 B shapeCasts_S1x512_S512) (ix2 (0 : Fin 1) n) = B (ix2 (0 : Fin 1) n) := by
  pointwise

theorem V_state (c : Dev nD) (b : Fin 32) (h : Fin 4) (k : Fin 128) (v : Fin 256) : V m c main_v33 (ix4 b h k v) = argX m c (ix5 (0 : Fin 1) b h k v) := by
  have e : V m c main_v33 = shapeCast S32x4x128x256 (m ((c : Thread nD τ).loc main_arg1)) shapeCasts_S1x32x4x128x256_S32x4x128x256 := by
    unfold V; after_results <;> rfl
  rw [e]
  exact drop_state _ b h k v

theorem V_bias (c : Dev nD) (n : Fin 512) : V m c main_v29 (ix2 (0 : Fin 1) n) = argB m c (ix2 (0 : Fin 1) n) := by
  have e : V m c main_v29 = broadcastInDim S1x512 ![1] bcast_S512_S1x512_1 (shapeCast S512 (m ((c : Thread nD τ).loc main_arg3)) shapeCasts_S1x512_S512) := by
    unfold V; after_results <;> rfl
  rw [e]
  exact bias_row _ n

/-! ## The blocks of a grid point -/

theorem blk_row (c : Dev nD) (t : Fin cfg0.N) (j : Fin 10240) :
    iblk m c 0 t (ix3 (0 : Fin 1) (0 : Fin 1) j) = row (m ((c : Thread nD τ).loc main_arg0)) (ix3 (⟨t.val, lt_N t⟩ : Fin 32) (0 : Fin 1) j) := by
  have e : (win0_0.blk t).view.emb (ix3 (0 : Fin 1) (0 : Fin 1) j) = ix3 (⟨t.val, lt_N t⟩ : Fin 32) (0 : Fin 1) j := by
    funext a; apply Fin.ext; revert a
    blk_simp [idx0]
    intro a
    fin_cases a <;> simp
  blk_simp [iblk]
  rw [e, V_row]

theorem blk_state (c : Dev nD) (t : Fin cfg0.N) (h : Fin 4) (k : Fin 128) (v : Fin 256) :
    iblk m c 1 t (ix4 (0 : Fin 1) h k v) = argX m c (ix5 (0 : Fin 1) (⟨t.val, lt_N t⟩ : Fin 32) h k v) := by
  have e : (win0_1.blk t).view.emb (ix4 (0 : Fin 1) h k v) = ix4 (⟨t.val, lt_N t⟩ : Fin 32) h k v := by
    funext a; apply Fin.ext; revert a
    blk_simp [idx1]
    intro a
    fin_cases a <;> simp
  blk_simp [iblk]
  rw [e, V_state]

theorem blk_wide (c : Dev nD) (t : Fin cfg0.N) (r : Fin 128) (n : Fin 512) :
    iblk m c 2 t (ix2 r n) = wide (m ((c : Thread nD τ).loc main_arg2)) (ix2 r n) := by
  have e : (win0_2.blk t).view.emb (ix2 r n) = ix2 r n := by
    funext a; apply Fin.ext; revert a
    blk_simp [idx2]
    intro a
    fin_cases a <;> simp
  blk_simp [iblk]
  rw [e, V_wide]

theorem blk_bias (c : Dev nD) (t : Fin cfg0.N) (n : Fin 512) : iblk m c 3 t (ix2 (0 : Fin 1) n) = argB m c (ix2 (0 : Fin 1) n) := by
  have e : (win0_3.blk t).view.emb (ix2 (0 : Fin 1) n) = ix2 (0 : Fin 1) n := by
    funext a; apply Fin.ext; revert a
    blk_simp [idx3]
    intro a
    fin_cases a <;> simp
  blk_simp [iblk]
  rw [e, V_bias]

/-- A sum whose terms vanish from the sixteenth on is the sum of the first sixteen. -/
theorem sum_low (f : Fin 128 → EReal) (hf : ∀ r : Fin 112, f (Fin.natAdd 16 r) = 0) : ∑ r, f r = ∑ r : Fin 16, f (Fin.castAdd 112 r) := by
  refine (Fin.sum_univ_add (a := 16) (b := 112) f).trans ?_
  rw [Finset.sum_eq_zero fun r _ => hf r, add_zero]

/-- A block's gate, read from the arrays: the widened rows meet zeros. -/
theorem gate_of (x0 : S1x1x10240.Idx → EReal) (x2 : S128x512.Idx → EReal) (x3 : S1x512.Idx → EReal) (P : SP.Idx → EReal) (W : SW.Idx → EReal) (B : SB.Idx → EReal)
    (b : Fin 32) (n : Fin 512) (h0 : ∀ j, x0 (ix3 (0 : Fin 1) (0 : Fin 1) j) = row (F := Ideal) P (ix3 b (0 : Fin 1) j)) (h2 : ∀ r, x2 (ix2 r n) = wide (F := Ideal) W (ix2 r n))
    (h3 : x3 (ix2 (0 : Fin 1) n) = B (ix2 (0 : Fin 1) n)) : blkGate x0 x2 x3 n = gate P W B b n := by
  unfold blkGate gate
  refine congrArg₂ (· + ·) ((sum_low _ fun r => ?_).trans (Finset.sum_congr rfl fun r _ => ?_)) h3
  · refine (congrArg (· * _) ((h0 _).trans (row_zero _ _ (16 + r.val) (by omega) (by omega)))).trans ?_
    exact zero_mul _
  · exact congrArg₂ (· * ·) ((h0 _).trans (row_gate _ _ r.val r.isLt)) ((h2 _).trans (wide_low _ r n))

/-- A point's gate is its token's. -/
theorem blk_gate (c : Dev nD) (t : Fin cfg0.N) (n : Fin 512) :
    blkGate (iblk m c 0 t) (iblk m c 2 t) (iblk m c 3 t) n = gate (argP m c) (argW m c) (argB m c) ⟨t.val, lt_N t⟩ n :=
  gate_of _ _ _ _ _ _ _ n (blk_row m c t) (fun r => blk_wide m c t r n) (blk_bias m c t n)

/-- What the body leaves at a point: its token's new state. -/
theorem left_apply (c : Dev nD) (t : Fin cfg0.N) (h : Fin 4) (k : Fin 128) (v : Fin 256) :
    blkState (iblk m c 0 t) (iblk m c 1 t) (iblk m c 2 t) (iblk m c 3 t) h k v
      = state (argP m c) (argX m c) (argW m c) (argB m c) (ix4 (⟨t.val, lt_N t⟩ : Fin 32) h k v) := by
  unfold blkState
  rw [blk_gate]
  refine congrArg₂ (· + ·) (congrArg (· * _) (blk_state m c t h k v)) (congrArg₂ (· * ·) ?_ ?_)
  · exact (blk_row m c t _).trans (row_low _ _ (512 + (h.val * 128 + k.val)) (by omega))
  · exact (blk_row m c t _).trans (row_low _ _ (1024 + (h.val * 256 + v.val)) (by omega))

theorem covers : (cfg0.win 6).Covers := (by decide +kernel : win0_6.Covers)

/-- What the result array is shown to hold. -/
abbrev G (c : Dev nD) : Buf (Elt Ideal) ((c : Thread nD τ).loc main_v34_1) := state (argP m c) (argX m c) (argW m c) (argB m c)

theorem final (c : Dev nD) : (dats m 0 c).arrAt 6 cfg0.N = G m c := by
  refine (dats m 0 c).arrAt_eq_of_covers 6 (G m c) covers fun t hf y => ?_
  have hz : ∀ y : S1x4x128x256.Idx, y = ix4 (0 : Fin 1) (y 1 : Fin 4) (y 2 : Fin 128) (y 3 : Fin 256) := by
    intro y; idx_vars y
    rw [Subsingleton.elim y0 (0 : Fin 1)]
    rfl
  have e : ∀ (h : Fin 4) (k : Fin 128) (v : Fin 256), (win0_6.blk t).view.emb (ix4 (0 : Fin 1) h k v) = ix4 (⟨t.val, lt_N t⟩ : Fin 32) h k v := by
    intro h k v
    funext a; apply Fin.ext; revert a
    blk_simp [idx6]
    intro a
    fin_cases a <;> simp
  blk_simp
  rw [after0_6]
  refine (out_apply _ _ _ _ _ y).trans ((left_apply m c t (y 1) (y 2) (y 3)).trans ?_)
  rw [hz y]
  exact (congrArg (G m c) (e (y 1) (y 2) (y 3))).symm

/-! ## The claims -/

/-- The kernel's run, its state named and its arguments unchanged. -/
theorem run : θ_run (defs (F := Ideal)) (onTc (τ := τ) (main (F := Ideal))) ⟨m, fun _ => 0, ρ⟩ (fun r => ∀ c : Dev nD,
      r.2.mem ((c.tc : Thread nD τ).loc main_v34_1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2.1.trans (final m c), (h c).2.2⟩) (Cert.Kernel8Ideal.Value.run_blocks m ρ)

/-- The kernel's frame, with and without the precondition. -/
theorem frame : Cert.quiescent_Kernel8Ideal := fun m g _ => Cert.Kernel8Ideal.Gen.frame m g
theorem frame_pre : Cert.quiescent_Kernel8Ideal_pre_finite := fun m g _ => Cert.Kernel8Ideal.Gen.frame m g

/-- The reference's frame, with and without the precondition. -/
theorem frame_reference : Cert.quiescent_Reference8Ideal := fun m g _ =>
  (θ_run Cert.Reference8Ideal.defs _ _).mono (fun r h => ⟨fun c => (h c).2, Idealize.ShloMosaic.sem_eq_zero_of_no_sems (by decide) r.2⟩)
    (Cert.Reference8Ideal.Value.run (F := Ideal) m g)
theorem frame_reference_pre : Cert.quiescent_Reference8Ideal_pre_finite := fun m g _ =>
  (θ_run Cert.Reference8Ideal.defs _ _).mono (fun r h => ⟨fun c => (h c).2, Idealize.ShloMosaic.sem_eq_zero_of_no_sems (by decide) r.2⟩)
    (Cert.Reference8Ideal.Value.run (F := Ideal) m g)

/-- Under the precondition every gate is a real number. -/
theorem real_gate (hpre : Cert.Pre_Kernel8Ideal_finite m) (c : Dev nD) (b : Fin 32) (n : Fin 512) : IsReal (gate (argP m c) (argW m c) (argB m c) b n) := by
  obtain ⟨hP, hW, hB⟩ := finite_real _ _ _ _ _ (hpre c)
  exact gate_real hP hW hB b n

/-- The kernel and the reference end with the same state. -/
theorem algebraic : Cert.algebraic_Kernel8Ideal_Reference8Ideal_pre_finite := by
  intro m g m' g' hpre harg
  refine ⟨fun c => G m c, run m g, ?_⟩
  refine (θ_run Cert.Reference8Ideal.defs _ _).mono (fun r h c => ⟨(h c).1.trans ?_, (h c).2⟩) (Cert.Reference8Ideal.Value.run (F := Ideal) m' g')
  obtain ⟨e0, e1, e2, e3, e4⟩ := harg c
  refine (Cert.Gla.Ref8.res_eq m' c).trans ?_
  rw [e0, e1, e2, e3]
  exact Cert.Gla.Ref8.state_eq _ _ _ _ (real_gate m hpre c)

end Cert.Kernel8Ideal.RefValue

end
-- ==== Proof.lean ====
/- The claims, put together from the modules beside this one. -/
module

public import proofs.«01_k».proof.Defs
public import proofs.«01_k».proof.Proof.Shift1
public import proofs.«01_k».proof.Proof.ShiftBits1
public import proofs.«01_k».proof.Proof.Shift2
public import proofs.«01_k».proof.Proof.ShiftBits2
public import proofs.«01_k».proof.Proof.Shift3
public import proofs.«01_k».proof.Proof.ShiftBits3
public import proofs.«01_k».proof.Proof.ExpertsFinal
public import proofs.«01_k».proof.Proof.ExpertsFrame
public import proofs.«01_k».proof.Proof.Proj5Final
public import proofs.«01_k».proof.Proof.Gen.Kernel5.Frame
public import proofs.«01_k».proof.Proof.Proj6Final
public import proofs.«01_k».proof.Proof.Gen.Kernel6.Frame
public import proofs.«01_k».proof.Proof.Proj7Final
public import proofs.«01_k».proof.Proof.Gen.Kernel7.Frame
public import proofs.«01_k».proof.Proof.Gla8Final
public import proofs.«01_k».proof.Proof.Gen.Kernel8.Frame

@[expose] public section

noncomputable section

namespace Cert.Proof

theorem claim : Cert.Claim :=
  ⟨Cert.Kernel.Gen.facts,
   Cert.Reference.Gen.facts,
   Cert.KernelIdeal.Gen.facts,
   Cert.ReferenceIdeal.Gen.facts,
   Cert.Kernel2.Gen.facts,
   Cert.Reference2.Gen.facts,
   Cert.Kernel2Ideal.Gen.facts,
   Cert.Reference2Ideal.Gen.facts,
   Cert.Kernel3.Gen.facts,
   Cert.Reference3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Pre_in_range.Gen.facts,
   Cert.Pre_finite.Gen.facts,
   Cert.Kernel.RefValue.frame,
   Cert.Kernel.RefValue.frame_reference,
   Cert.KernelIdeal.RefValue.frame,
   Cert.KernelIdeal.RefValue.frame_reference,
   Cert.Kernel2.RefValue.frame,
   Cert.Kernel2.RefValue.frame_reference,
   Cert.Kernel2Ideal.RefValue.frame,
   Cert.Kernel2Ideal.RefValue.frame_reference,
   Cert.Kernel3.RefValue.frame,
   Cert.Kernel3.RefValue.frame_reference,
   Cert.Kernel3Ideal.RefValue.frame,
   Cert.Kernel3Ideal.RefValue.frame_reference,
   Cert.Kernel4.Experts.frame,
   Cert.Kernel4Ideal.Experts.frame,
   Cert.Kernel4Ideal.Experts.frame_reference,
   Cert.Kernel4Ideal.Experts.frame_reference_pre,
   fun m g _ => Cert.Kernel5.Gen.frame m g,
   Cert.Kernel5Ideal.RefValue.frame,
   Cert.Kernel5Ideal.RefValue.frame_reference,
   fun m g _ => Cert.Kernel6.Gen.frame m g,
   Cert.Kernel6Ideal.RefValue.frame,
   Cert.Kernel6Ideal.RefValue.frame_reference,
   fun m g _ => Cert.Kernel7.Gen.frame m g,
   Cert.Kernel7Ideal.RefValue.frame,
   Cert.Kernel7Ideal.RefValue.frame_reference,
   fun m g _ => Cert.Kernel8.Gen.frame m g,
   Cert.Kernel8Ideal.RefValue.frame,
   Cert.Kernel8Ideal.RefValue.frame_pre,
   Cert.Kernel8Ideal.RefValue.frame_reference,
   Cert.Kernel8Ideal.RefValue.frame_reference_pre,
   trivial,
   Cert.KernelIdeal.RefValue.algebraic,
   Cert.Kernel.RefValue.bitexact,
   trivial,
   Cert.Kernel2Ideal.RefValue.algebraic,
   Cert.Kernel2.RefValue.bitexact,
   trivial,
   Cert.Kernel3Ideal.RefValue.algebraic,
   Cert.Kernel3.RefValue.bitexact,
   trivial,
   Cert.Kernel4Ideal.Experts.algebraic,
   trivial,
   Cert.Kernel5Ideal.RefValue.algebraic,
   trivial,
   Cert.Kernel6Ideal.RefValue.algebraic,
   trivial,
   Cert.Kernel7Ideal.RefValue.algebraic,
   trivial,
   Cert.Kernel8Ideal.RefValue.algebraic⟩

end Cert.Proof

end
